-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v61_0)) (v1 : (c : Dev Cert.Kernel2Ideal.nD) → Buf (Elt Ideal) ((c.tc : Thread Cert.Kernel2Ideal.nD Cert.Kernel2Ideal.τ).loc Cert.Kernel2Ideal.main_v61_1)) (v2 : (c : Dev Cert.Kernel2Ideal.nD) → Buf (Elt Ideal) ((c.tc : Thread Cert.Kernel2Ideal.nD Cert.Kernel2Ideal.τ).loc Cert.Kernel2Ideal.main_v61_2)) (v3 : (c : Dev Cert.Kernel2Ideal.nD) → Buf (Elt Ideal) ((c.tc : Thread Cert.Kernel2Ideal.nD Cert.Kernel2Ideal.τ).loc Cert.Kernel2Ideal.main_v61_3)) (v4 : (c : Dev Cert.Kernel2Ideal.nD) → Buf (Elt Ideal) ((c.tc : Thread Cert.Kernel2Ideal.nD Cert.Kernel2Ideal.τ).loc Cert.Kernel2Ideal.main_v61_4)) (v5 : (c : Dev Cert.Kernel2Ideal.nD) → Buf (Elt Ideal) ((c.tc : Thread Cert.Kernel2Ideal.nD Cert.Kernel2Ideal.τ).loc Cert.Kernel2Ideal.main_v61_5)) (v6 : (c : Dev Cert.Kernel2Ideal.nD) → Buf (Elt Ideal) ((c.tc : Thread Cert.Kernel2Ideal.nD Cert.Kernel2Ideal.τ).loc Cert.Kernel2Ideal.main_v61_6)) (v7 : (c : Dev Cert.Kernel2Ideal.nD) → Buf (Elt Ideal) ((c.tc : Thread Cert.Kernel2Ideal.nD Cert.Kernel2Ideal.τ).loc Cert.Kernel2Ideal.main_v61_7)) (v8 : (c : Dev Cert.Kernel2Ideal.nD) → Buf (Elt Ideal) ((c.tc : Thread Cert.Kernel2Ideal.nD Cert.Kernel2Ideal.τ).loc Cert.Kernel2Ideal.main_v61_8)) (v9 : (c : Dev Cert.Kernel2Ideal.nD) → Buf (Elt Ideal) ((c.tc : Thread Cert.Kernel2Ideal.nD Cert.Kernel2Ideal.τ).loc Cert.Kernel2Ideal.main_v61_9)) (v10 : (c : Dev Cert.Kernel2Ideal.nD) → Buf (Elt Ideal) ((c.tc : Thread Cert.Kernel2Ideal.nD Cert.Kernel2Ideal.τ).loc Cert.Kernel2Ideal.main_v61_10)) (v11 : (c : Dev Cert.Kernel2Ideal.nD) → Buf (Elt Ideal) ((c.tc : Thread Cert.Kernel2Ideal.nD Cert.Kernel2Ideal.τ).loc Cert.Kernel2Ideal.main_v61_11)) (v12 : (c : Dev Cert.Kernel2Ideal.nD) → Buf (Elt Ideal) ((c.tc : Thread Cert.Kernel2Ideal.nD Cert.Kernel2Ideal.τ).loc Cert.Kernel2Ideal.main_v61_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v61_0) = v0 c
          ∧ r.2.mem ((c.tc : Thread Cert.Kernel2Ideal.nD Cert.Kernel2Ideal.τ).loc Cert.Kernel2Ideal.main_v61_1) = v1 c
          ∧ r.2.mem ((c.tc : Thread Cert.Kernel2Ideal.nD Cert.Kernel2Ideal.τ).loc Cert.Kernel2Ideal.main_v61_2) = v2 c
          ∧ r.2.mem ((c.tc : Thread Cert.Kernel2Ideal.nD Cert.Kernel2Ideal.τ).loc Cert.Kernel2Ideal.main_v61_3) = v3 c
          ∧ r.2.mem ((c.tc : Thread Cert.Kernel2Ideal.nD Cert.Kernel2Ideal.τ).loc Cert.Kernel2Ideal.main_v61_4) = v4 c
          ∧ r.2.mem ((c.tc : Thread Cert.Kernel2Ideal.nD Cert.Kernel2Ideal.τ).loc Cert.Kernel2Ideal.main_v61_5) = v5 c
          ∧ r.2.mem ((c.tc : Thread Cert.Kernel2Ideal.nD Cert.Kernel2Ideal.τ).loc Cert.Kernel2Ideal.main_v61_6) = v6 c
          ∧ r.2.mem ((c.tc : Thread Cert.Kernel2Ideal.nD Cert.Kernel2Ideal.τ).loc Cert.Kernel2Ideal.main_v61_7) = v7 c
          ∧ r.2.mem ((c.tc : Thread Cert.Kernel2Ideal.nD Cert.Kernel2Ideal.τ).loc Cert.Kernel2Ideal.main_v61_8) = v8 c
          ∧ r.2.mem ((c.tc : Thread Cert.Kernel2Ideal.nD Cert.Kernel2Ideal.τ).loc Cert.Kernel2Ideal.main_v61_9) = v9 c
          ∧ r.2.mem ((c.tc : Thread Cert.Kernel2Ideal.nD Cert.Kernel2Ideal.τ).loc Cert.Kernel2Ideal.main_v61_10) = v10 c
          ∧ r.2.mem ((c.tc : Thread Cert.Kernel2Ideal.nD Cert.Kernel2Ideal.τ).loc Cert.Kernel2Ideal.main_v61_11) = v11 c
          ∧ r.2.mem ((c.tc : Thread Cert.Kernel2Ideal.nD Cert.Kernel2Ideal.τ).loc Cert.Kernel2Ideal.main_v61_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v167) = v0 c
          ∧ r.2.mem ((c.tc : Thread Cert.Reference2Ideal.nD Cert.Reference2Ideal.τ).loc Cert.Reference2Ideal.main_v168) = v1 c
          ∧ r.2.mem ((c.tc : Thread Cert.Reference2Ideal.nD Cert.Reference2Ideal.τ).loc Cert.Reference2Ideal.main_v169) = v2 c
          ∧ r.2.mem ((c.tc : Thread Cert.Reference2Ideal.nD Cert.Reference2Ideal.τ).loc Cert.Reference2Ideal.main_v170) = v3 c
          ∧ r.2.mem ((c.tc : Thread Cert.Reference2Ideal.nD Cert.Reference2Ideal.τ).loc Cert.Reference2Ideal.main_v172) = v4 c
          ∧ r.2.mem ((c.tc : Thread Cert.Reference2Ideal.nD Cert.Reference2Ideal.τ).loc Cert.Reference2Ideal.main_v174) = v5 c
          ∧ r.2.mem ((c.tc : Thread Cert.Reference2Ideal.nD Cert.Reference2Ideal.τ).loc Cert.Reference2Ideal.main_v176) = v6 c
          ∧ r.2.mem ((c.tc : Thread Cert.Reference2Ideal.nD Cert.Reference2Ideal.τ).loc Cert.Reference2Ideal.main_v178) = v7 c
          ∧ r.2.mem ((c.tc : Thread Cert.Reference2Ideal.nD Cert.Reference2Ideal.τ).loc Cert.Reference2Ideal.main_v180) = v8 c
          ∧ r.2.mem ((c.tc : Thread Cert.Reference2Ideal.nD Cert.Reference2Ideal.τ).loc Cert.Reference2Ideal.main_v182) = v9 c
          ∧ r.2.mem ((c.tc : Thread Cert.Reference2Ideal.nD Cert.Reference2Ideal.τ).loc Cert.Reference2Ideal.main_v189) = v10 c
          ∧ r.2.mem ((c.tc : Thread Cert.Reference2Ideal.nD Cert.Reference2Ideal.τ).loc Cert.Reference2Ideal.main_v196) = v11 c
          ∧ r.2.mem ((c.tc : Thread Cert.Reference2Ideal.nD Cert.Reference2Ideal.τ).loc Cert.Reference2Ideal.main_v166) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v64_0)) (v1 : (c : Dev Cert.Kernel3Ideal.nD) → Buf (Elt Ideal) ((c.tc : Thread Cert.Kernel3Ideal.nD Cert.Kernel3Ideal.τ).loc Cert.Kernel3Ideal.main_v64_1)) (v2 : (c : Dev Cert.Kernel3Ideal.nD) → Buf (Elt Ideal) ((c.tc : Thread Cert.Kernel3Ideal.nD Cert.Kernel3Ideal.τ).loc Cert.Kernel3Ideal.main_v64_2)) (v3 : (c : Dev Cert.Kernel3Ideal.nD) → Buf (Elt Ideal) ((c.tc : Thread Cert.Kernel3Ideal.nD Cert.Kernel3Ideal.τ).loc Cert.Kernel3Ideal.main_v64_3)) (v4 : (c : Dev Cert.Kernel3Ideal.nD) → Buf (Elt Ideal) ((c.tc : Thread Cert.Kernel3Ideal.nD Cert.Kernel3Ideal.τ).loc Cert.Kernel3Ideal.main_v64_4)) (v5 : (c : Dev Cert.Kernel3Ideal.nD) → Buf (Elt Ideal) ((c.tc : Thread Cert.Kernel3Ideal.nD Cert.Kernel3Ideal.τ).loc Cert.Kernel3Ideal.main_v64_5)) (v6 : (c : Dev Cert.Kernel3Ideal.nD) → Buf (Elt Ideal) ((c.tc : Thread Cert.Kernel3Ideal.nD Cert.Kernel3Ideal.τ).loc Cert.Kernel3Ideal.main_v64_6)) (v7 : (c : Dev Cert.Kernel3Ideal.nD) → Buf (Elt Ideal) ((c.tc : Thread Cert.Kernel3Ideal.nD Cert.Kernel3Ideal.τ).loc Cert.Kernel3Ideal.main_v64_7)) (v8 : (c : Dev Cert.Kernel3Ideal.nD) → Buf (Elt Ideal) ((c.tc : Thread Cert.Kernel3Ideal.nD Cert.Kernel3Ideal.τ).loc Cert.Kernel3Ideal.main_v64_8)) (v9 : (c : Dev Cert.Kernel3Ideal.nD) → Buf (Elt Ideal) ((c.tc : Thread Cert.Kernel3Ideal.nD Cert.Kernel3Ideal.τ).loc Cert.Kernel3Ideal.main_v64_9)) (v10 : (c : Dev Cert.Kernel3Ideal.nD) → Buf (Elt Ideal) ((c.tc : Thread Cert.Kernel3Ideal.nD Cert.Kernel3Ideal.τ).loc Cert.Kernel3Ideal.main_v64_10)) (v11 : (c : Dev Cert.Kernel3Ideal.nD) → Buf (Elt Ideal) ((c.tc : Thread Cert.Kernel3Ideal.nD Cert.Kernel3Ideal.τ).loc Cert.Kernel3Ideal.main_v64_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v64_0) = v0 c
          ∧ r.2.mem ((c.tc : Thread Cert.Kernel3Ideal.nD Cert.Kernel3Ideal.τ).loc Cert.Kernel3Ideal.main_v64_1) = v1 c
          ∧ r.2.mem ((c.tc : Thread Cert.Kernel3Ideal.nD Cert.Kernel3Ideal.τ).loc Cert.Kernel3Ideal.main_v64_2) = v2 c
          ∧ r.2.mem ((c.tc : Thread Cert.Kernel3Ideal.nD Cert.Kernel3Ideal.τ).loc Cert.Kernel3Ideal.main_v64_3) = v3 c
          ∧ r.2.mem ((c.tc : Thread Cert.Kernel3Ideal.nD Cert.Kernel3Ideal.τ).loc Cert.Kernel3Ideal.main_v64_4) = v4 c
          ∧ r.2.mem ((c.tc : Thread Cert.Kernel3Ideal.nD Cert.Kernel3Ideal.τ).loc Cert.Kernel3Ideal.main_v64_5) = v5 c
          ∧ r.2.mem ((c.tc : Thread Cert.Kernel3Ideal.nD Cert.Kernel3Ideal.τ).loc Cert.Kernel3Ideal.main_v64_6) = v6 c
          ∧ r.2.mem ((c.tc : Thread Cert.Kernel3Ideal.nD Cert.Kernel3Ideal.τ).loc Cert.Kernel3Ideal.main_v64_7) = v7 c
          ∧ r.2.mem ((c.tc : Thread Cert.Kernel3Ideal.nD Cert.Kernel3Ideal.τ).loc Cert.Kernel3Ideal.main_v64_8) = v8 c
          ∧ r.2.mem ((c.tc : Thread Cert.Kernel3Ideal.nD Cert.Kernel3Ideal.τ).loc Cert.Kernel3Ideal.main_v64_9) = v9 c
          ∧ r.2.mem ((c.tc : Thread Cert.Kernel3Ideal.nD Cert.Kernel3Ideal.τ).loc Cert.Kernel3Ideal.main_v64_10) = v10 c
          ∧ r.2.mem ((c.tc : Thread Cert.Kernel3Ideal.nD Cert.Kernel3Ideal.τ).loc Cert.Kernel3Ideal.main_v64_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v165) = v0 c
          ∧ r.2.mem ((c.tc : Thread Cert.Reference3Ideal.nD Cert.Reference3Ideal.τ).loc Cert.Reference3Ideal.main_v166) = v1 c
          ∧ r.2.mem ((c.tc : Thread Cert.Reference3Ideal.nD Cert.Reference3Ideal.τ).loc Cert.Reference3Ideal.main_v167) = v2 c
          ∧ r.2.mem ((c.tc : Thread Cert.Reference3Ideal.nD Cert.Reference3Ideal.τ).loc Cert.Reference3Ideal.main_v168) = v3 c
          ∧ r.2.mem ((c.tc : Thread Cert.Reference3Ideal.nD Cert.Reference3Ideal.τ).loc Cert.Reference3Ideal.main_v170) = v4 c
          ∧ r.2.mem ((c.tc : Thread Cert.Reference3Ideal.nD Cert.Reference3Ideal.τ).loc Cert.Reference3Ideal.main_v172) = v5 c
          ∧ r.2.mem ((c.tc : Thread Cert.Reference3Ideal.nD Cert.Reference3Ideal.τ).loc Cert.Reference3Ideal.main_v174) = v6 c
          ∧ r.2.mem ((c.tc : Thread Cert.Reference3Ideal.nD Cert.Reference3Ideal.τ).loc Cert.Reference3Ideal.main_v176) = v7 c
          ∧ r.2.mem ((c.tc : Thread Cert.Reference3Ideal.nD Cert.Reference3Ideal.τ).loc Cert.Reference3Ideal.main_v178) = v8 c
          ∧ r.2.mem ((c.tc : Thread Cert.Reference3Ideal.nD Cert.Reference3Ideal.τ).loc Cert.Reference3Ideal.main_v180) = v9 c
          ∧ r.2.mem ((c.tc : Thread Cert.Reference3Ideal.nD Cert.Reference3Ideal.τ).loc Cert.Reference3Ideal.main_v187) = v10 c
          ∧ r.2.mem ((c.tc : Thread Cert.Reference3Ideal.nD Cert.Reference3Ideal.τ).loc Cert.Reference3Ideal.main_v194) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v27_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x8192x512 : Shape := ⟨3, ![8, 8192, 512]⟩
abbrev S1x4x64 : Shape := ⟨3, ![1, 4, 64]⟩
abbrev S1x128 : Shape := ⟨2, ![1, 128]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S1x4x64 : S_.BroadcastsInDim S1x4x64 (![] : Fin 0 → Fin S1x4x64.rank)
  reducesTo_S1x4x64_S_d0_1_2 : S1x4x64.ReducesTo [0, 1, 2] S_

variable [Facts]

def fn {F : FTy → Type} [FloatOps F] (main_arg0 : FVec F S8x8192x512 .f32) (main_arg1 : FVec F S8x8192x512 .f32) (main_arg2 : FVec F S8x8192x512 .f32) (main_arg3 : FVec F S1x4x64 .f32) (main_arg4 : FVec F S1x128 .f32) : IVec S_ 1 :=
  let main_v0 : FVec F S8x8192x512 .f32 := Host.absf main_arg2
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S1x4x64 .f32 := Host.absf main_arg3
  let main_cst_0 : FVec F S_ .f32 := constant S_ .f32 0x7F800000#32
  let main_v5 : FVec F S1x4x64 .f32 := broadcastInDim S1x4x64 ![] bcast_S_S1x4x64 main_cst_0
  let main_v6 : IVec S1x4x64 1 := cmpf .olt main_v4 main_v5
  let main_c_1 : IVec S_ 1 := constantI S_ 1 1#1
  let main_v7 : IVec S_ 1 := (fun x v => Host.reduce IntOp.andi x v reducesTo_S1x4x64_S_d0_1_2 h_S_) main_v6 main_c_1
  let main_v8 : IVec S_ 1 := andi main_v3 main_v7
  main_v8
-- ==== Kernel.lean ====
abbrev S8x8192x512 : Shape := ⟨3, ![8, 8192, 512]⟩
abbrev S1x4x64 : Shape := ⟨3, ![1, 4, 64]⟩
abbrev S1x128 : Shape := ⟨2, ![1, 128]⟩
abbrev S_ : Shape := ⟨0, ![]⟩
abbrev S4x64 : Shape := ⟨2, ![4, 64]⟩
abbrev S128 : Shape := ⟨1, ![128]⟩
abbrev S1x512x128 : Shape := ⟨3, ![1, 512, 128]⟩
abbrev S1x8192x128 : Shape := ⟨3, ![1, 8192, 128]⟩
abbrev S1024x128 : Shape := ⟨2, ![1024, 128]⟩
abbrev S1024x256 : Shape := ⟨2, ![1024, 256]⟩
abbrev S1024x512 : Shape := ⟨2, ![1024, 512]⟩
abbrev S512x128 : Shape := ⟨2, ![512, 128]⟩
abbrev S256x128 : Shape := ⟨2, ![256, 128]⟩
abbrev S256x512 : Shape := ⟨2, ![256, 512]⟩
abbrev S512x256 : Shape := ⟨2, ![512, 256]⟩
abbrev S256 : Shape := ⟨1, ![256]⟩
abbrev S256x1 : Shape := ⟨2, ![256, 1]⟩
abbrev S256x256 : Shape := ⟨2, ![256, 256]⟩
abbrev S1x64 : Shape := ⟨2, ![1, 64]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S1x4x64, .f32⟩
  | .hbm, ⟨4, _⟩ => ⟨S1x128, .f32⟩
  | .hbm, ⟨5, _⟩ => ⟨S_, .f32⟩
  | .hbm, ⟨6, _⟩ => ⟨S8x8192x512, .f32⟩
  | .hbm, ⟨7, _⟩ => ⟨S8x8192x512, .f32⟩
  | .hbm, ⟨8, _⟩ => ⟨S8x8192x512, .bf16⟩
  | .hbm, ⟨9, _⟩ => ⟨S8x8192x512, .bf16⟩
  | .hbm, ⟨10, _⟩ => ⟨S8x8192x512, .bf16⟩
  | .hbm, ⟨11, _⟩ => ⟨S4x64, .f32⟩
  | .hbm, ⟨12, _⟩ => ⟨S128, .f32⟩
  | .hbm, ⟨13, _⟩ => ⟨S1x128, .f32⟩
  | .hbm, ⟨14, _⟩ => ⟨S8x8192x512, .bf16⟩
  | .local _ .vmem, ⟨0, _⟩ => ⟨S4x64, .f32⟩
  | .local _ .vmem, ⟨1, _⟩ => ⟨S1x128, .f32⟩
  | .local _ .vmem, ⟨2, _⟩ => ⟨S1x512x128, .bf16⟩
  | .local _ .vmem, ⟨3, _⟩ => ⟨S1x512x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x512x128, .bf16⟩
  | .local _ .vmem, ⟨9, _⟩ => ⟨S1x512x128, .bf16⟩
  | .local _ .vmem, ⟨10, _⟩ => ⟨S1024x128, .f32⟩
  | .local _ .vmem, ⟨11, _⟩ => ⟨S1024x256, .f32⟩
  | .local _ .vmem, ⟨12, _⟩ => ⟨S1024x512, .f32⟩
  | .local _ .vmem, ⟨13, _⟩ => ⟨S1024x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c512_i32_27 : BitVec 32 := 512#32
  let v60 : BitVec 32 := Scalar.muli v37 c512_i32_27
  v60
def k0_off1 (i : grid0.Coords) : Fin 3 → Nat :=
  let c0_28 : Index := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c512_i32_27 : BitVec 32 := 512#32
  let v60 : BitVec 32 := Scalar.muli v37 c512_i32_27
  let v61 : BitVec 32 := v60
  let v62 : Index := Scalar.indexCast v61
  let c0_29 : Index := 0#32
  ![0, v62.toNat, 0]
@[reducible] def k0_t1_loop (i : grid0.Coords) : Scf.Loop 32 :=
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_93 : BitVec 32 := 1#32
  ⟨c0_i32_91, v259, c1_i32_93⟩
def k0_mult2 (i : grid0.Coords) (k0_t1 : Fin (k0_t1_loop i).trips) : BitVec 32 :=
  let c2_i32_111 : BitVec 32 := 2#32
  let c0_i32_91 : BitVec 32 := 0#32
  let c1_i32_93 : BitVec 32 := 1#32
  let arg13 : BitVec 32 := Scf.iv c0_i32_91 c1_i32_93 k0_t1
  let v306 : BitVec 32 := Scalar.muli c2_i32_111 arg13
  let c1_i32_112 : BitVec 32 := 1#32
  let v307 : BitVec 32 := Scalar.addi v306 c1_i32_112
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_113 : BitVec 32 := 1#32
  let v308 : BitVec 32 := Scalar.subi v37 c1_i32_113
  let v309 : BitVec 32 := Scalar.minsi v307 v308
  let c512_i32_114 : BitVec 32 := 512#32
  let v310 : BitVec 32 := Scalar.muli v309 c512_i32_114
  v310
def k0_off2 (i : grid0.Coords) (k0_t1 : Fin (k0_t1_loop i).trips) : Fin 3 → Nat :=
  let c0_115 : Index := 0#32
  let c2_i32_111 : BitVec 32 := 2#32
  let c0_i32_91 : BitVec 32 := 0#32
  let c1_i32_93 : BitVec 32 := 1#32
  let arg13 : BitVec 32 := Scf.iv c0_i32_91 c1_i32_93 k0_t1
  let v306 : BitVec 32 := Scalar.muli c2_i32_111 arg13
  let c1_i32_112 : BitVec 32 := 1#32
  let v307 : BitVec 32 := Scalar.addi v306 c1_i32_112
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_113 : BitVec 32 := 1#32
  let v308 : BitVec 32 := Scalar.subi v37 c1_i32_113
  let v309 : BitVec 32 := Scalar.minsi v307 v308
  let c512_i32_114 : BitVec 32 := 512#32
  let v310 : BitVec 32 := Scalar.muli v309 c512_i32_114
  let v311 : BitVec 32 := v310
  let v312 : Index := Scalar.indexCast v311
  let c0_116 : Index := 0#32
  ![0, v312.toNat, 0]
def k0_mult3 (i : grid0.Coords) (k0_t1 : Fin (k0_t1_loop i).trips) : BitVec 32 :=
  let c2_i32_111 : BitVec 32 := 2#32
  let c0_i32_91 : BitVec 32 := 0#32
  let c1_i32_93 : BitVec 32 := 1#32
  let arg13 : BitVec 32 := Scf.iv c0_i32_91 c1_i32_93 k0_t1
  let v306 : BitVec 32 := Scalar.muli c2_i32_111 arg13
  let c512_i32_137 : BitVec 32 := 512#32
  let v339 : BitVec 32 := Scalar.muli v306 c512_i32_137
  v339
def k0_off3 (i : grid0.Coords) (k0_t1 : Fin (k0_t1_loop i).trips) : Fin 3 → Nat :=
  let c0_138 : Index := 0#32
  let c2_i32_111 : BitVec 32 := 2#32
  let c0_i32_91 : BitVec 32 := 0#32
  let c1_i32_93 : BitVec 32 := 1#32
  let arg13 : BitVec 32 := Scf.iv c0_i32_91 c1_i32_93 k0_t1
  let v306 : BitVec 32 := Scalar.muli c2_i32_111 arg13
  let c512_i32_137 : BitVec 32 := 512#32
  let v339 : BitVec 32 := Scalar.muli v306 c512_i32_137
  let v340 : BitVec 32 := v339
  let v341 : Index := Scalar.indexCast v340
  let c0_139 : Index := 0#32
  ![0, v341.toNat, 0]
def k0_cond1 (i : grid0.Coords) (k0_t1 : Fin (k0_t1_loop i).trips) : BitVec 1 :=
  let c2_i32_111 : BitVec 32 := 2#32
  let c0_i32_91 : BitVec 32 := 0#32
  let c1_i32_93 : BitVec 32 := 1#32
  let arg13 : BitVec 32 := Scf.iv c0_i32_91 c1_i32_93 k0_t1
  let v306 : BitVec 32 := Scalar.muli c2_i32_111 arg13
  let c1_i32_180 : BitVec 32 := 1#32
  let v461 : BitVec 32 := Scalar.addi v306 c1_i32_180
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let v462 : BitVec 1 := Scalar.cmpi .slt v461 v37
  let v463 : BitVec 32 := Scalar.extui v462
  let c0_i32_181 : BitVec 32 := 0#32
  let v464 : BitVec 1 := Scalar.cmpi .ne v463 c0_i32_181
  v464

def k0_mult4 (i : grid0.Coords) (k0_t1 : Fin (k0_t1_loop i).trips) : BitVec 32 :=
  let c2_i32_111 : BitVec 32 := 2#32
  let c0_i32_91 : BitVec 32 := 0#32
  let c1_i32_93 : BitVec 32 := 1#32
  let arg13 : BitVec 32 := Scf.iv c0_i32_91 c1_i32_93 k0_t1
  let v306 : BitVec 32 := Scalar.muli c2_i32_111 arg13
  let c2_i32_182 : BitVec 32 := 2#32
  let v465 : BitVec 32 := Scalar.addi v306 c2_i32_182
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_183 : BitVec 32 := 1#32
  let v466 : BitVec 32 := Scalar.subi v37 c1_i32_183
  let v467 : BitVec 32 := Scalar.minsi v465 v466
  let c512_i32_184 : BitVec 32 := 512#32
  let v468 : BitVec 32 := Scalar.muli v467 c512_i32_184
  v468
def k0_off4 (i : grid0.Coords) (k0_t1 : Fin (k0_t1_loop i).trips) : Fin 3 → Nat :=
  let c0_185 : Index := 0#32
  let c2_i32_111 : BitVec 32 := 2#32
  let c0_i32_91 : BitVec 32 := 0#32
  let c1_i32_93 : BitVec 32 := 1#32
  let arg13 : BitVec 32 := Scf.iv c0_i32_91 c1_i32_93 k0_t1
  let v306 : BitVec 32 := Scalar.muli c2_i32_111 arg13
  let c2_i32_182 : BitVec 32 := 2#32
  let v465 : BitVec 32 := Scalar.addi v306 c2_i32_182
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_183 : BitVec 32 := 1#32
  let v466 : BitVec 32 := Scalar.subi v37 c1_i32_183
  let v467 : BitVec 32 := Scalar.minsi v465 v466
  let c512_i32_184 : BitVec 32 := 512#32
  let v468 : BitVec 32 := Scalar.muli v467 c512_i32_184
  let v469 : BitVec 32 := v468
  let v470 : Index := Scalar.indexCast v469
  let c0_186 : Index := 0#32
  ![0, v470.toNat, 0]
def k0_mult5 (i : grid0.Coords) (k0_t1 : Fin (k0_t1_loop i).trips) : BitVec 32 :=
  let c2_i32_111 : BitVec 32 := 2#32
  let c0_i32_91 : BitVec 32 := 0#32
  let c1_i32_93 : BitVec 32 := 1#32
  let arg13 : BitVec 32 := Scf.iv c0_i32_91 c1_i32_93 k0_t1
  let v306 : BitVec 32 := Scalar.muli c2_i32_111 arg13
  let c1_i32_207 : BitVec 32 := 1#32
  let v497 : BitVec 32 := Scalar.addi v306 c1_i32_207
  let c512_i32_208 : BitVec 32 := 512#32
  let v498 : BitVec 32 := Scalar.muli v497 c512_i32_208
  v498
def k0_off5 (i : grid0.Coords) (k0_t1 : Fin (k0_t1_loop i).trips) : Fin 3 → Nat :=
  let c0_209 : Index := 0#32
  let c2_i32_111 : BitVec 32 := 2#32
  let c0_i32_91 : BitVec 32 := 0#32
  let c1_i32_93 : BitVec 32 := 1#32
  let arg13 : BitVec 32 := Scf.iv c0_i32_91 c1_i32_93 k0_t1
  let v306 : BitVec 32 := Scalar.muli c2_i32_111 arg13
  let c1_i32_207 : BitVec 32 := 1#32
  let v497 : BitVec 32 := Scalar.addi v306 c1_i32_207
  let c512_i32_208 : BitVec 32 := 512#32
  let v498 : BitVec 32 := Scalar.muli v497 c512_i32_208
  let v499 : BitVec 32 := v498
  let v500 : Index := Scalar.indexCast v499
  let c0_210 : Index := 0#32
  ![0, v500.toNat, 0]
@[reducible] def k0_t2_loop (i : grid0.Coords) : Scf.Loop 32 :=
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let v256 : BitVec 32 := Scalar.addi c0_i32_91 v255
  let c1_i32_94 : BitVec 32 := 1#32
  ⟨v259, v256, c1_i32_94⟩
def k0_mult6 (i : grid0.Coords) (k0_t2 : Fin (k0_t2_loop i).trips) : BitVec 32 :=
  let c2_i32_111 : BitVec 32 := 2#32
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_94 : BitVec 32 := 1#32
  let arg13 : BitVec 32 := Scf.iv v259 c1_i32_94 k0_t2
  let v306 : BitVec 32 := Scalar.muli c2_i32_111 arg13
  let c1_i32_112 : BitVec 32 := 1#32
  let v307 : BitVec 32 := Scalar.addi v306 c1_i32_112
  let c1_i32_113 : BitVec 32 := 1#32
  let v308 : BitVec 32 := Scalar.subi v37 c1_i32_113
  let v309 : BitVec 32 := Scalar.minsi v307 v308
  let c512_i32_114 : BitVec 32 := 512#32
  let v310 : BitVec 32 := Scalar.muli v309 c512_i32_114
  v310
def k0_off6 (i : grid0.Coords) (k0_t2 : Fin (k0_t2_loop i).trips) : Fin 3 → Nat :=
  let c0_115 : Index := 0#32
  let c2_i32_111 : BitVec 32 := 2#32
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_94 : BitVec 32 := 1#32
  let arg13 : BitVec 32 := Scf.iv v259 c1_i32_94 k0_t2
  let v306 : BitVec 32 := Scalar.muli c2_i32_111 arg13
  let c1_i32_112 : BitVec 32 := 1#32
  let v307 : BitVec 32 := Scalar.addi v306 c1_i32_112
  let c1_i32_113 : BitVec 32 := 1#32
  let v308 : BitVec 32 := Scalar.subi v37 c1_i32_113
  let v309 : BitVec 32 := Scalar.minsi v307 v308
  let c512_i32_114 : BitVec 32 := 512#32
  let v310 : BitVec 32 := Scalar.muli v309 c512_i32_114
  let v311 : BitVec 32 := v310
  let v312 : Index := Scalar.indexCast v311
  let c0_116 : Index := 0#32
  ![0, v312.toNat, 0]
def k0_mult7 (i : grid0.Coords) (k0_t2 : Fin (k0_t2_loop i).trips) : BitVec 32 :=
  let c2_i32_111 : BitVec 32 := 2#32
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_94 : BitVec 32 := 1#32
  let arg13 : BitVec 32 := Scf.iv v259 c1_i32_94 k0_t2
  let v306 : BitVec 32 := Scalar.muli c2_i32_111 arg13
  let c512_i32_137 : BitVec 32 := 512#32
  let v339 : BitVec 32 := Scalar.muli v306 c512_i32_137
  v339
def k0_off7 (i : grid0.Coords) (k0_t2 : Fin (k0_t2_loop i).trips) : Fin 3 → Nat :=
  let c0_138 : Index := 0#32
  let c2_i32_111 : BitVec 32 := 2#32
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_94 : BitVec 32 := 1#32
  let arg13 : BitVec 32 := Scf.iv v259 c1_i32_94 k0_t2
  let v306 : BitVec 32 := Scalar.muli c2_i32_111 arg13
  let c512_i32_137 : BitVec 32 := 512#32
  let v339 : BitVec 32 := Scalar.muli v306 c512_i32_137
  let v340 : BitVec 32 := v339
  let v341 : Index := Scalar.indexCast v340
  let c0_139 : Index := 0#32
  ![0, v341.toNat, 0]
def k0_cond2 (i : grid0.Coords) (k0_t2 : Fin (k0_t2_loop i).trips) : BitVec 1 :=
  let c2_i32_111 : BitVec 32 := 2#32
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_94 : BitVec 32 := 1#32
  let arg13 : BitVec 32 := Scf.iv v259 c1_i32_94 k0_t2
  let v306 : BitVec 32 := Scalar.muli c2_i32_111 arg13
  let c1_i32_180 : BitVec 32 := 1#32
  let v461 : BitVec 32 := Scalar.addi v306 c1_i32_180
  let v462 : BitVec 1 := Scalar.cmpi .slt v461 v37
  let v463 : BitVec 32 := Scalar.extui v462
  let c0_i32_181 : BitVec 32 := 0#32
  let v464 : BitVec 1 := Scalar.cmpi .ne v463 c0_i32_181
  v464

def k0_mult8 (i : grid0.Coords) (k0_t2 : Fin (k0_t2_loop i).trips) : BitVec 32 :=
  let c2_i32_111 : BitVec 32 := 2#32
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_94 : BitVec 32 := 1#32
  let arg13 : BitVec 32 := Scf.iv v259 c1_i32_94 k0_t2
  let v306 : BitVec 32 := Scalar.muli c2_i32_111 arg13
  let c2_i32_182 : BitVec 32 := 2#32
  let v465 : BitVec 32 := Scalar.addi v306 c2_i32_182
  let c1_i32_183 : BitVec 32 := 1#32
  let v466 : BitVec 32 := Scalar.subi v37 c1_i32_183
  let v467 : BitVec 32 := Scalar.minsi v465 v466
  let c512_i32_184 : BitVec 32 := 512#32
  let v468 : BitVec 32 := Scalar.muli v467 c512_i32_184
  v468
def k0_off8 (i : grid0.Coords) (k0_t2 : Fin (k0_t2_loop i).trips) : Fin 3 → Nat :=
  let c0_185 : Index := 0#32
  let c2_i32_111 : BitVec 32 := 2#32
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_94 : BitVec 32 := 1#32
  let arg13 : BitVec 32 := Scf.iv v259 c1_i32_94 k0_t2
  let v306 : BitVec 32 := Scalar.muli c2_i32_111 arg13
  let c2_i32_182 : BitVec 32 := 2#32
  let v465 : BitVec 32 := Scalar.addi v306 c2_i32_182
  let c1_i32_183 : BitVec 32 := 1#32
  let v466 : BitVec 32 := Scalar.subi v37 c1_i32_183
  let v467 : BitVec 32 := Scalar.minsi v465 v466
  let c512_i32_184 : BitVec 32 := 512#32
  let v468 : BitVec 32 := Scalar.muli v467 c512_i32_184
  let v469 : BitVec 32 := v468
  let v470 : Index := Scalar.indexCast v469
  let c0_186 : Index := 0#32
  ![0, v470.toNat, 0]
def k0_mult9 (i : grid0.Coords) (k0_t2 : Fin (k0_t2_loop i).trips) : BitVec 32 :=
  let c2_i32_111 : BitVec 32 := 2#32
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_94 : BitVec 32 := 1#32
  let arg13 : BitVec 32 := Scf.iv v259 c1_i32_94 k0_t2
  let v306 : BitVec 32 := Scalar.muli c2_i32_111 arg13
  let c1_i32_207 : BitVec 32 := 1#32
  let v497 : BitVec 32 := Scalar.addi v306 c1_i32_207
  let c512_i32_208 : BitVec 32 := 512#32
  let v498 : BitVec 32 := Scalar.muli v497 c512_i32_208
  v498
def k0_off9 (i : grid0.Coords) (k0_t2 : Fin (k0_t2_loop i).trips) : Fin 3 → Nat :=
  let c0_209 : Index := 0#32
  let c2_i32_111 : BitVec 32 := 2#32
  let c0_i32_91 : BitVec 32 := 0#32
  let arg2 : BitVec 32 := BitVec.ofNat 32 (i 2).val
  let c512_i32 : BitVec 32 := 512#32
  let v20 : BitVec 32 := Scalar.muli arg2 c512_i32
  let c0_i32 : BitVec 32 := 0#32
  let v22 : BitVec 1 := Scalar.cmpi .sgt v20 c0_i32
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c512_i32_10 : BitVec 32 := 512#32
  let c0_i32_12 : BitVec 32 := 0#32
  let v27 : BitVec 1 := Scalar.cmpi .sgt c512_i32_10 c0_i32_12
  let v28 : BitVec 32 := Scalar.extui v27
  let c0_i32_13 : BitVec 32 := 0#32
  let v29 : BitVec 1 := Scalar.cmpi .slt c512_i32_10 c0_i32_13
  let v30 : BitVec 32 := Scalar.extui v29
  let v31 : BitVec 32 := Scalar.subi v28 v30
  let v32 : BitVec 1 := Scalar.cmpi .ne v26 v31
  let v33 : BitVec 32 := Scalar.remsi v20 c512_i32_10
  let c0_i32_14 : BitVec 32 := 0#32
  let v34 : BitVec 1 := Scalar.cmpi .ne v33 c0_i32_14
  let v35 : BitVec 1 := Scalar.andi v32 v34
  let v21 : BitVec 32 := Scalar.divsi v20 c512_i32_10
  let c1_i32 : BitVec 32 := 1#32
  let v36 : BitVec 32 := Scalar.subi v21 c1_i32
  let v37 : BitVec 32 := Scalar.select v35 v36 v21
  let c1_i32_83 : BitVec 32 := 1#32
  let v237 : BitVec 32 := Scalar.addi v37 c1_i32_83
  let c0_i32_84 : BitVec 32 := 0#32
  let v239 : BitVec 1 := Scalar.cmpi .sgt v237 c0_i32_84
  let v240 : BitVec 32 := Scalar.extui v239
  let c0_i32_85 : BitVec 32 := 0#32
  let v241 : BitVec 1 := Scalar.cmpi .slt v237 c0_i32_85
  let v242 : BitVec 32 := Scalar.extui v241
  let v243 : BitVec 32 := Scalar.subi v240 v242
  let c2_i32 : BitVec 32 := 2#32
  let c0_i32_86 : BitVec 32 := 0#32
  let v244 : BitVec 1 := Scalar.cmpi .sgt c2_i32 c0_i32_86
  let v245 : BitVec 32 := Scalar.extui v244
  let c0_i32_87 : BitVec 32 := 0#32
  let v246 : BitVec 1 := Scalar.cmpi .slt c2_i32 c0_i32_87
  let v247 : BitVec 32 := Scalar.extui v246
  let v248 : BitVec 32 := Scalar.subi v245 v247
  let v249 : BitVec 1 := Scalar.cmpi .ne v243 v248
  let v250 : BitVec 32 := Scalar.remsi v237 c2_i32
  let c0_i32_88 : BitVec 32 := 0#32
  let v251 : BitVec 1 := Scalar.cmpi .ne v250 c0_i32_88
  let v252 : BitVec 1 := Scalar.andi v249 v251
  let v238 : BitVec 32 := Scalar.divsi v237 c2_i32
  let c1_i32_89 : BitVec 32 := 1#32
  let v253 : BitVec 32 := Scalar.subi v238 c1_i32_89
  let v254 : BitVec 32 := Scalar.select v252 v253 v238
  let v255 : BitVec 32 := Scalar.subi v254 c0_i32_91
  let c1_i32_92 : BitVec 32 := 1#32
  let v257 : BitVec 32 := Scalar.divsi v255 c1_i32_92
  let v258 : BitVec 32 := Scalar.muli v257 c1_i32_92
  let v259 : BitVec 32 := Scalar.addi c0_i32_91 v258
  let c1_i32_94 : BitVec 32 := 1#32
  let arg13 : BitVec 32 := Scf.iv v259 c1_i32_94 k0_t2
  let v306 : BitVec 32 := Scalar.muli c2_i32_111 arg13
  let c1_i32_207 : BitVec 32 := 1#32
  let v497 : BitVec 32 := Scalar.addi v306 c1_i32_207
  let c512_i32_208 : BitVec 32 := 512#32
  let v498 : BitVec 32 := Scalar.muli v497 c512_i32_208
  let v499 : BitVec 32 := v498
  let v500 : Index := Scalar.indexCast v499
  let c0_210 : Index := 0#32
  ![0, v500.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "masked" => some ⊥
  | _ => none
-- ==== ReferenceIdeal.lean ====
abbrev S8x8192x512 : Shape := ⟨3, ![8, 8192, 512]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S8x8192x8x64 : Shape := ⟨4, ![8, 8192, 8, 64]⟩
abbrev S8x8192x4x128 : Shape := ⟨4, ![8, 8192, 4, 128]⟩
abbrev S8192 : Shape := ⟨1, ![8192]⟩
abbrev S8x8x8192x8192 : Shape := ⟨4, ![8, 8, 8192, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S8x8x8192 : Shape := ⟨3, ![8, 8, 8192]⟩
abbrev S8x8x8192x1 : Shape := ⟨4, ![8, 8, 8192, 1]⟩
abbrev S8x4x2x8192x8192 : Shape := ⟨5, ![8, 4, 2, 8192, 8192]⟩
abbrev S8x4x1x8192x8192 : Shape := ⟨5, ![8, 4, 1, 8192, 8192]⟩
abbrev S8x4x8192x8192 : Shape := ⟨4, ![8, 4, 8192, 8192]⟩
abbrev S8x4x128x8192 : Shape := ⟨4, ![8, 4, 128, 8192]⟩
abbrev S8x8192x4 : Shape := ⟨3, ![8, 8192, 4]⟩
abbrev S8x8192x4x1 : Shape := ⟨4, ![8, 8192, 4, 1]⟩
abbrev S128 : Shape := ⟨1, ![128]⟩
abbrev S1x1x1x128 : Shape := ⟨4, ![1, 1, 1, 128]⟩

abbrev nBuf : Space → Nat
  | .hbm => 91
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x8192x8x64, .f32⟩
  | .hbm, ⟨26, _⟩ => ⟨S8x8192x8x64, .f32⟩
  | .hbm, ⟨27, _⟩ => ⟨S8x8192x4x128, .f32⟩
  | .hbm, ⟨28, _⟩ => ⟨S8192, .i32⟩
  | .hbm, ⟨29, _⟩ => ⟨S8x8x8192x8192, .f32⟩
  | .hbm, ⟨30, _⟩ => ⟨S_, .f32⟩
  | .hbm, ⟨31, _⟩ => ⟨S8x8x8192x8192, .f32⟩
  | .hbm, ⟨32, _⟩ => ⟨S8x8x8192x8192, .f32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S1x1x8192x8192, .i1⟩
  | .hbm, ⟨40, _⟩ => ⟨S_, .f32⟩
  | .hbm, ⟨41, _⟩ => ⟨S_, .f32⟩
  | .hbm, ⟨42, _⟩ => ⟨S8x8x8192x8192, .i1⟩
  | .hbm, ⟨43, _⟩ => ⟨S8x8x8192x8192, .f32⟩
  | .hbm, ⟨44, _⟩ => ⟨S8x8x8192x8192, .f32⟩
  | .hbm, ⟨45, _⟩ => ⟨S_, .f32⟩
  | .hbm, ⟨46, _⟩ => ⟨S8x8x8192, .f32⟩
  | .hbm, ⟨47, _⟩ => ⟨S_, .f32⟩
  | .hbm, ⟨48, _⟩ => ⟨S8x8x8192, .f32⟩
  | .hbm, ⟨49, _⟩ => ⟨S8x8x8192, .f32⟩
  | .hbm, ⟨50, _⟩ => ⟨S8x8x8192x1, .f32⟩
  | .hbm, ⟨51, _⟩ => ⟨S8x8x8192x8192, .f32⟩
  | .hbm, ⟨52, _⟩ => ⟨S8x8x8192x8192, .f32⟩
  | .hbm, ⟨53, _⟩ => ⟨S8x8x8192x8192, .f32⟩
  | .hbm, ⟨54, _⟩ => ⟨S_, .f32⟩
  | .hbm, ⟨55, _⟩ => ⟨S8x8x8192, .f32⟩
  | .hbm, ⟨56, _⟩ => ⟨S8x8x8192x1, .f32⟩
  | .hbm, ⟨57, _⟩ => ⟨S8x8x8192x8192, .f32⟩
  | .hbm, ⟨58, _⟩ => ⟨S8x8x8192x8192, .f32⟩
  | .hbm, ⟨59, _⟩ => ⟨S8x4x2x8192x8192, .f32⟩
  | .hbm, ⟨60, _⟩ => ⟨S8x4x1x8192x8192, .f32⟩
  | .hbm, ⟨61, _⟩ => ⟨S8x4x8192x8192, .f32⟩
  | .hbm, ⟨62, _⟩ => ⟨S8x4x1x8192x8192, .f32⟩
  | .hbm, ⟨63, _⟩ => ⟨S8x4x8192x8192, .f32⟩
  | .hbm, ⟨64, _⟩ => ⟨S8x4x8192x8192, .f32⟩
  | .hbm, ⟨65, _⟩ => ⟨S8x4x8192x8192, .f32⟩
  | .hbm, ⟨66, _⟩ => ⟨S8x4x8192x8192, .f32⟩
  | .hbm, ⟨67, _⟩ => ⟨S8x4x128x8192, .f32⟩
  | .hbm, ⟨68, _⟩ => ⟨S8x8192x4x128, .f32⟩
  | .hbm, ⟨69, _⟩ => ⟨S8x8192x4x128, .f32⟩
  | .hbm, ⟨70, _⟩ => ⟨S_, .f32⟩
  | .hbm, ⟨71, _⟩ => ⟨S8x8192x4, .f32⟩
  | .hbm, ⟨72, _⟩ => ⟨S8x8192x4x1, .f32⟩
  | .hbm, ⟨73, _⟩ => ⟨S_, .f32⟩
  | .hbm, ⟨74, _⟩ => ⟨S8x8192x4x1, .f32⟩
  | .hbm, ⟨75, _⟩ => ⟨S8x8192x4x1, .f32⟩
  | .hbm, ⟨76, _⟩ => ⟨S_, .f32⟩
  | .hbm, ⟨77, _⟩ => ⟨S8x8192x4x1, .f32⟩
  | .hbm, ⟨78, _⟩ => ⟨S8x8192x4x1, .f32⟩
  | .hbm, ⟨79, _⟩ => ⟨S8x8192x4x1, .f32⟩
  | .hbm, ⟨80, _⟩ => ⟨S8x8192x4x128, .f32⟩
  | .hbm, ⟨81, _⟩ => ⟨S8x8192x4x128, .f32⟩
  | .hbm, ⟨82, _⟩ => ⟨S128, .f32⟩
  | .hbm, ⟨83, _⟩ => ⟨S1x1x1x128, .f32⟩
  | .hbm, ⟨84, _⟩ => ⟨S8x8192x4x128, .f32⟩
  | .hbm, ⟨85, _⟩ => ⟨S8x8192x4x128, .f32⟩
  | .hbm, ⟨86, _⟩ => ⟨S_, .f32⟩
  | .hbm, ⟨87, _⟩ => ⟨S8x8192x4x128, .f32⟩
  | .hbm, ⟨88, _⟩ => ⟨S8x8192x4x128, .f32⟩
  | .hbm, ⟨89, _⟩ => ⟨S8x8192x512, .f32⟩
  | .hbm, ⟨90, _⟩ => ⟨S8x8192x512, .bf16⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Kernel2.lean ====
abbrev S8x8192x1024 : Shape := ⟨3, ![8, 8192, 1024]⟩
abbrev S1x1024x5120 : Shape := ⟨3, ![1, 1024, 5120]⟩
abbrev S1024x5120 : Shape := ⟨2, ![1024, 5120]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S128 : Shape := ⟨1, ![128]⟩
abbrev S1x128 : Shape := ⟨2, ![1, 128]⟩
abbrev S128x1 : Shape := ⟨2, ![128, 1]⟩
abbrev S8192x128 : Shape := ⟨2, ![8192, 128]⟩
abbrev S65536x1024 : Shape := ⟨2, ![65536, 1024]⟩
abbrev S65536x512 : Shape := ⟨2, ![65536, 512]⟩
abbrev S256x1x512 : Shape := ⟨3, ![256, 1, 512]⟩
abbrev S512x1024 : Shape := ⟨2, ![512, 1024]⟩
abbrev S512x128 : Shape := ⟨2, ![512, 128]⟩
abbrev S512x512 : Shape := ⟨2, ![512, 512]⟩
abbrev S2x1x512 : Shape := ⟨3, ![2, 1, 512]⟩
abbrev S1024x512 : Shape := ⟨2, ![1024, 512]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 143
  | .vmem => 35
  | .smem => 0
  | _ => 0

abbrev hbmTy0_0 (i : Nat) : BufTy := match i % 128 with
  | 0 => ⟨S8x8192x1024, .f32⟩
  | 1 => ⟨S1x1024x5120, .f32⟩
  | 2 => ⟨S1024x5120, .f32⟩
  | 3 => ⟨S1024x5120, .bf16⟩
  | 4 => ⟨S8192, .i32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8192, .f32⟩
  | 17 => ⟨S8192x1, .f32⟩
  | 18 => ⟨S1x8, .f32⟩
  | 19 => ⟨S8192x8, .f32⟩
  | 20 => ⟨S8192x8, .f32⟩
  | 21 => ⟨S8192x8, .f32⟩
  | 22 => ⟨S8192x8, .f32⟩
  | 23 => ⟨S8192x8, .f32⟩
  | 24 => ⟨S128, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S128, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i1⟩
  | 39 => ⟨S_, .i32⟩
  | 40 => ⟨S_, .i1⟩
  | 41 => ⟨S128, .i1⟩
  | 42 => ⟨S128, .i1⟩
  | 43 => ⟨S128, .i1⟩
  | 44 => ⟨S128, .i32⟩
  | 45 => ⟨S128, .i32⟩
  | 46 => ⟨S128, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S128, .i32⟩
  | 54 => ⟨S128, .i32⟩
  | 55 => ⟨S_, .i32⟩
  | 56 => ⟨S128, .i32⟩
  | 57 => ⟨S128, .i1⟩
  | 58 => ⟨S_, .i32⟩
  | 59 => ⟨S128, .i32⟩
  | 60 => ⟨S128, .i1⟩
  | 61 => ⟨S_, .i32⟩
  | 62 => ⟨S_, .i1⟩
  | 63 => ⟨S128, .i1⟩
  | 64 => ⟨S128, .i1⟩
  | 65 => ⟨S128, .i1⟩
  | 66 => ⟨S128, .i32⟩
  | 67 => ⟨S128, .i32⟩
  | 68 => ⟨S128, .i32⟩
  | 69 => ⟨S1x128, .i32⟩
  | 70 => ⟨S_, .i32⟩
  | 71 => ⟨S1x128, .i32⟩
  | 72 => ⟨S1x128, .i1⟩
  | 73 => ⟨S_, .i32⟩
  | 74 => ⟨S128, .i32⟩
  | 75 => ⟨S128, .i1⟩
  | 76 => ⟨S_, .i32⟩
  | 77 => ⟨S128, .i32⟩
  | 78 => ⟨S128, .i32⟩
  | 79 => ⟨S128, .i32⟩
  | 80 => ⟨S128x1, .i32⟩
  | 81 => ⟨S8192x128, .f32⟩
  | 82 => ⟨S_, .f32⟩
  | 83 => ⟨S_, .f32⟩
  | 84 => ⟨S8192x128, .i1⟩
  | 85 => ⟨S8192x128, .f32⟩
  | 86 => ⟨S8192x128, .f32⟩
  | 87 => ⟨S1x128, .i32⟩
  | 88 => ⟨S_, .i32⟩
  | 89 => ⟨S1x128, .i32⟩
  | 90 => ⟨S1x128, .i1⟩
  | 91 => ⟨S_, .i32⟩
  | 92 => ⟨S128, .i32⟩
  | 93 => ⟨S128, .i1⟩
  | 94 => ⟨S_, .i32⟩
  | 95 => ⟨S128, .i32⟩
  | 96 => ⟨S128, .i32⟩
  | 97 => ⟨S128, .i32⟩
  | 98 => ⟨S128x1, .i32⟩
  | 99 => ⟨S8192x128, .f32⟩
  | 100 => ⟨S8192x128, .f32⟩
  | 101 => ⟨S_, .f32⟩
  | 102 => ⟨S_, .f32⟩
  | 103 => ⟨S8192x128, .i1⟩
  | 104 => ⟨S8192x128, .f32⟩
  | 105 => ⟨S8192x128, .f32⟩
  | 106 => ⟨S1x128, .i32⟩
  | 107 => ⟨S_, .i32⟩
  | 108 => ⟨S1x128, .i32⟩
  | 109 => ⟨S1x128, .i1⟩
  | 110 => ⟨S1x128, .i32⟩
  | 111 => ⟨S_, .i32⟩
  | 112 => ⟨S1x128, .i32⟩
  | 113 => ⟨S1x128, .i1⟩
  | 114 => ⟨S1x128, .i1⟩
  | 115 => ⟨S_, .i32⟩
  | 116 => ⟨S128, .i32⟩
  | 117 => ⟨S128, .i1⟩
  | 118 => ⟨S_, .i32⟩
  | 119 => ⟨S128, .i32⟩
  | 120 => ⟨S128, .i32⟩
  | 121 => ⟨S128, .i32⟩
  | 122 => ⟨S128x1, .i32⟩
  | 123 => ⟨S8192x128, .f32⟩
  | 124 => ⟨S_, .f32⟩
  | 125 => ⟨S_, .f32⟩
  | 126 => ⟨S8192x128, .i1⟩
  | 127 => ⟨S8192x128, .f32⟩
  | _ => ⟨S8x8192x1024, .f32⟩

abbrev hbmTy0_1 (i : Nat) : BufTy := match i % 128 with
  | 0 => ⟨S8192x128, .f32⟩
  | 1 => ⟨S65536x1024, .f32⟩
  | 2 => ⟨S65536x512, .f32⟩
  | 3 => ⟨S65536x512, .f32⟩
  | 4 => ⟨S65536x512, .f32⟩
  | 5 => ⟨S65536x512, .f32⟩
  | 6 => ⟨S65536x512, .bf16⟩
  | 7 => ⟨S65536x512, .bf16⟩
  | 8 => ⟨S65536x512, .bf16⟩
  | 9 => ⟨S65536x512, .bf16⟩
  | 10 => ⟨S65536x512, .bf16⟩
  | 11 => ⟨S65536x512, .bf16⟩
  | 12 => ⟨S65536x1024, .f32⟩
  | 13 => ⟨S65536x1024, .f32⟩
  | 14 => ⟨S256x1x512, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x5120, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S2x1x512, .f32⟩
  | .local _ .vmem, ⟨34, _⟩ => ⟨S2x1x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v20 : Ref sig .tc := ⟨.hbm, 46, rfl⟩
abbrev main_c_2 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v21 : Ref sig .tc := ⟨.hbm, 68, rfl⟩
abbrev main_v22 : Ref sig .tc := ⟨.hbm, 69, rfl⟩
abbrev main_c_3 : Ref sig .tc := ⟨.hbm, 70, rfl⟩
abbrev main_v23 : Ref sig .tc := ⟨.hbm, 71, rfl⟩
abbrev main_v24 : Ref sig .tc := ⟨.hbm, 72, rfl⟩
abbrev main_c_4 : Ref sig .tc := ⟨.hbm, 73, rfl⟩
abbrev main_v25 : Ref sig .tc := ⟨.hbm, 74, rfl⟩
abbrev main_v26 : Ref sig .tc := ⟨.hbm, 75, rfl⟩
abbrev main_c_5 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_6 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v32 : Ref sig .tc := ⟨.hbm, 86, rfl⟩
abbrev main_v33 : Ref sig .tc := ⟨.hbm, 87, rfl⟩
abbrev main_c_7 : Ref sig .tc := ⟨.hbm, 88, rfl⟩
abbrev main_v34 : Ref sig .tc := ⟨.hbm, 89, rfl⟩
abbrev main_v35 : Ref sig .tc := ⟨.hbm, 90, rfl⟩
abbrev main_c_8 : Ref sig .tc := ⟨.hbm, 91, rfl⟩
abbrev main_v36 : Ref sig .tc := ⟨.hbm, 92, rfl⟩
abbrev main_v37 : Ref sig .tc := ⟨.hbm, 93, rfl⟩
abbrev main_c_9 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_10 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v44 : Ref sig .tc := ⟨.hbm, 105, rfl⟩
abbrev main_v45 : Ref sig .tc := ⟨.hbm, 106, rfl⟩
abbrev main_c_11 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_c_12 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_13 : Ref sig .tc := ⟨.hbm, 115, rfl⟩
abbrev main_v52 : Ref sig .tc := ⟨.hbm, 116, rfl⟩
abbrev main_v53 : Ref sig .tc := ⟨.hbm, 117, rfl⟩
abbrev main_c_14 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_cst_15 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v59 : Ref sig .tc := ⟨.hbm, 128, rfl⟩
abbrev main_v60 : Ref sig .tc := ⟨.hbm, 129, rfl⟩
abbrev main_v61_0 : Ref sig .tc := ⟨.hbm, 130, rfl⟩
abbrev main_v61_1 : Ref sig .tc := ⟨.hbm, 131, rfl⟩
abbrev main_v61_2 : Ref sig .tc := ⟨.hbm, 132, rfl⟩
abbrev main_v61_3 : Ref sig .tc := ⟨.hbm, 133, rfl⟩
abbrev main_v61_4 : Ref sig .tc := ⟨.hbm, 134, rfl⟩
abbrev main_v61_5 : Ref sig .tc := ⟨.hbm, 135, rfl⟩
abbrev main_v61_6 : Ref sig .tc := ⟨.hbm, 136, rfl⟩
abbrev main_v61_7 : Ref sig .tc := ⟨.hbm, 137, rfl⟩
abbrev main_v61_8 : Ref sig .tc := ⟨.hbm, 138, rfl⟩
abbrev main_v61_9 : Ref sig .tc := ⟨.hbm, 139, rfl⟩
abbrev main_v61_10 : Ref sig .tc := ⟨.hbm, 140, rfl⟩
abbrev main_v61_11 : Ref sig .tc := ⟨.hbm, 141, rfl⟩
abbrev main_v61_12 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S8x8192x1024 : Shape := ⟨3, ![8, 8192, 1024]⟩
abbrev S1x1024x5120 : Shape := ⟨3, ![1, 1024, 5120]⟩
abbrev S8192 : Shape := ⟨1, ![8192]⟩
abbrev S1024x5120 : Shape := ⟨2, ![1024, 5120]⟩
abbrev S8x8192x5120 : Shape := ⟨3, ![8, 8192, 5120]⟩
abbrev S8x8192x512 : Shape := ⟨3, ![8, 8192, 512]⟩
abbrev S8x8192x8x64 : Shape := ⟨4, ![8, 8192, 8, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8x8192x8x8 : Shape := ⟨4, ![8, 8192, 8, 8]⟩
abbrev S8x8192x8x48 : Shape := ⟨4, ![8, 8192, 8, 48]⟩
abbrev S1x8192x1x8 : Shape := ⟨4, ![1, 8192, 1, 8]⟩
abbrev S256x256x1x512 : Shape := ⟨4, ![256, 256, 1, 512]⟩
abbrev S256x1x512 : Shape := ⟨3, ![256, 1, 512]⟩
abbrev S65536x512 : Shape := ⟨2, ![65536, 512]⟩
abbrev S65536x1024 : Shape := ⟨2, ![65536, 1024]⟩

abbrev nBuf : Space → Nat
  | .hbm => 219
  | .vmem => 0
  | .smem => 0
  | _ => 0

abbrev hbmTy0_0 (i : Nat) : BufTy := match i % 128 with
  | 0 => ⟨S8x8192x1024, .f32⟩
  | 1 => ⟨S1x1024x5120, .f32⟩
  | 2 => ⟨S8192, .i32⟩
  | 3 => ⟨S1024x5120, .f32⟩
  | 4 => ⟨S8x8192x5120, .f32⟩
  | 5 => ⟨S8x8192x512, .f32⟩
  | 6 => ⟨S8x8192x512, .f32⟩
  | 7 => ⟨S8x8192x512, .f32⟩
  | 8 => ⟨S8x8192x512, .f32⟩
  | 9 => ⟨S8x8192x512, .f32⟩
  | 10 => ⟨S8x8192x512, .f32⟩
  | 11 => ⟨S8x8192x1024, .f32⟩
  | 12 => ⟨S8x8192x1024, .f32⟩
  | 13 => ⟨S8x8192x8x64, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S8192, .f32⟩
  | 26 => ⟨S8192x1, .f32⟩
  | 27 => ⟨S1x8, .f32⟩
  | 28 => ⟨S8192x8, .f32⟩
  | 29 => ⟨S8192x8, .f32⟩
  | 30 => ⟨S8192x8, .f32⟩
  | 31 => ⟨S8192x8, .f32⟩
  | 32 => ⟨S8192x1x8, .f32⟩
  | 33 => ⟨S8192x8, .f32⟩
  | 34 => ⟨S8192x1x8, .f32⟩
  | 35 => ⟨S8x8192x8x8, .f32⟩
  | 36 => ⟨S8x8192x8x8, .f32⟩
  | 37 => ⟨S8x8192x8x48, .f32⟩
  | 38 => ⟨S1x8192x1x8, .f32⟩
  | 39 => ⟨S8x8192x8x8, .f32⟩
  | 40 => ⟨S8x8192x8x8, .f32⟩
  | 41 => ⟨S1x8192x1x8, .f32⟩
  | 42 => ⟨S8x8192x8x8, .f32⟩
  | 43 => ⟨S8x8192x8x8, .f32⟩
  | 44 => ⟨S8x8192x8x8, .f32⟩
  | 45 => ⟨S1x8192x1x8, .f32⟩
  | 46 => ⟨S8x8192x8x8, .f32⟩
  | 47 => ⟨S8x8192x8x8, .f32⟩
  | 48 => ⟨S1x8192x1x8, .f32⟩
  | 49 => ⟨S8x8192x8x8, .f32⟩
  | 50 => ⟨S8x8192x8x8, .f32⟩
  | 51 => ⟨S8x8192x8x8, .f32⟩
  | 52 => ⟨S8x8192x8x64, .f32⟩
  | 53 => ⟨S_, .f32⟩
  | 54 => ⟨S8x8192x8x64, .f32⟩
  | 55 => ⟨S8x8192x8x64, .f32⟩
  | 56 => ⟨S8x8192x8x64, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S8192, .f32⟩
  | 69 => ⟨S8192x1, .f32⟩
  | 70 => ⟨S1x8, .f32⟩
  | 71 => ⟨S8192x8, .f32⟩
  | 72 => ⟨S8192x8, .f32⟩
  | 73 => ⟨S8192x8, .f32⟩
  | 74 => ⟨S8192x8, .f32⟩
  | 75 => ⟨S8192x1x8, .f32⟩
  | 76 => ⟨S8192x8, .f32⟩
  | 77 => ⟨S8192x1x8, .f32⟩
  | 78 => ⟨S8x8192x8x8, .f32⟩
  | 79 => ⟨S8x8192x8x8, .f32⟩
  | 80 => ⟨S8x8192x8x48, .f32⟩
  | 81 => ⟨S1x8192x1x8, .f32⟩
  | 82 => ⟨S8x8192x8x8, .f32⟩
  | 83 => ⟨S8x8192x8x8, .f32⟩
  | 84 => ⟨S1x8192x1x8, .f32⟩
  | 85 => ⟨S8x8192x8x8, .f32⟩
  | 86 => ⟨S8x8192x8x8, .f32⟩
  | 87 => ⟨S8x8192x8x8, .f32⟩
  | 88 => ⟨S1x8192x1x8, .f32⟩
  | 89 => ⟨S8x8192x8x8, .f32⟩
  | 90 => ⟨S8x8192x8x8, .f32⟩
  | 91 => ⟨S1x8192x1x8, .f32⟩
  | 92 => ⟨S8x8192x8x8, .f32⟩
  | 93 => ⟨S8x8192x8x8, .f32⟩
  | 94 => ⟨S8x8192x8x8, .f32⟩
  | 95 => ⟨S8x8192x8x64, .f32⟩
  | 96 => ⟨S8x8192x8x64, .f32⟩
  | 97 => ⟨S8, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S_, .f32⟩
  | 106 => ⟨S8, .f32⟩
  | 107 => ⟨S8, .f32⟩
  | 108 => ⟨S8192, .f32⟩
  | 109 => ⟨S8192x1, .f32⟩
  | 110 => ⟨S1x8, .f32⟩
  | 111 => ⟨S8192x8, .f32⟩
  | 112 => ⟨S8192x8, .f32⟩
  | 113 => ⟨S8192x8, .f32⟩
  | 114 => ⟨S8192x8, .f32⟩
  | 115 => ⟨S8192x1x8, .f32⟩
  | 116 => ⟨S8192x8, .f32⟩
  | 117 => ⟨S8192x1x8, .f32⟩
  | 118 => ⟨S8x8192x8x8, .f32⟩
  | 119 => ⟨S8x8192x8x8, .f32⟩
  | 120 => ⟨S8x8192x8x48, .f32⟩
  | 121 => ⟨S1x8192x1x8, .f32⟩
  | 122 => ⟨S8x8192x8x8, .f32⟩
  | 123 => ⟨S8x8192x8x8, .f32⟩
  | 124 => ⟨S1x8192x1x8, .f32⟩
  | 125 => ⟨S8x8192x8x8, .f32⟩
  | 126 => ⟨S8x8192x8x8, .f32⟩
  | 127 => ⟨S8x8192x8x8, .f32⟩
  | _ => ⟨S8x8192x1024, .f32⟩

abbrev hbmTy0_1 (i : Nat) : BufTy := match i % 128 with
  | 0 => ⟨S1x8192x1x8, .f32⟩
  | 1 => ⟨S8x8192x8x8, .f32⟩
  | 2 => ⟨S8x8192x8x8, .f32⟩
  | 3 => ⟨S1x8192x1x8, .f32⟩
  | 4 => ⟨S8x8192x8x8, .f32⟩
  | 5 => ⟨S8x8192x8x8, .f32⟩
  | 6 => ⟨S8x8192x8x8, .f32⟩
  | 7 => ⟨S8x8192x8x64, .f32⟩
  | 8 => ⟨S_, .f32⟩
  | 9 => ⟨S8x8192x8x64, .f32⟩
  | 10 => ⟨S8x8192x8x64, .f32⟩
  | 11 => ⟨S8x8192x8x64, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8192, .f32⟩
  | 24 => ⟨S8192x1, .f32⟩
  | 25 => ⟨S1x8, .f32⟩
  | 26 => ⟨S8192x8, .f32⟩
  | 27 => ⟨S8192x8, .f32⟩
  | 28 => ⟨S8192x8, .f32⟩
  | 29 => ⟨S8192x8, .f32⟩
  | 30 => ⟨S8192x1x8, .f32⟩
  | 31 => ⟨S8192x8, .f32⟩
  | 32 => ⟨S8192x1x8, .f32⟩
  | 33 => ⟨S8x8192x8x8, .f32⟩
  | 34 => ⟨S8x8192x8x8, .f32⟩
  | 35 => ⟨S8x8192x8x48, .f32⟩
  | 36 => ⟨S1x8192x1x8, .f32⟩
  | 37 => ⟨S8x8192x8x8, .f32⟩
  | 38 => ⟨S8x8192x8x8, .f32⟩
  | 39 => ⟨S1x8192x1x8, .f32⟩
  | 40 => ⟨S8x8192x8x8, .f32⟩
  | 41 => ⟨S8x8192x8x8, .f32⟩
  | 42 => ⟨S8x8192x8x8, .f32⟩
  | 43 => ⟨S1x8192x1x8, .f32⟩
  | 44 => ⟨S8x8192x8x8, .f32⟩
  | 45 => ⟨S8x8192x8x8, .f32⟩
  | 46 => ⟨S1x8192x1x8, .f32⟩
  | 47 => ⟨S8x8192x8x8, .f32⟩
  | 48 => ⟨S8x8192x8x8, .f32⟩
  | 49 => ⟨S8x8192x8x8, .f32⟩
  | 50 => ⟨S8x8192x8x64, .f32⟩
  | 51 => ⟨S256x256x1x512, .f32⟩
  | 52 => ⟨S_, .f32⟩
  | 53 => ⟨S256x1x512, .f32⟩
  | 54 => ⟨S_, .f32⟩
  | 55 => ⟨S256x1x512, .f32⟩
  | 56 => ⟨S256x1x512, .f32⟩
  | 57 => ⟨S65536x512, .f32⟩
  | 58 => ⟨S65536x512, .f32⟩
  | 59 => ⟨S65536x512, .f32⟩
  | 60 => ⟨S65536x512, .f32⟩
  | 61 => ⟨S65536x512, .f32⟩
  | 62 => ⟨S65536x512, .bf16⟩
  | 63 => ⟨S65536x512, .f32⟩
  | 64 => ⟨S65536x512, .bf16⟩
  | 65 => ⟨S65536x512, .f32⟩
  | 66 => ⟨S65536x512, .bf16⟩
  | 67 => ⟨S65536x512, .f32⟩
  | 68 => ⟨S65536x512, .bf16⟩
  | 69 => ⟨S65536x512, .f32⟩
  | 70 => ⟨S65536x512, .bf16⟩
  | 71 => ⟨S65536x512, .f32⟩
  | 72 => ⟨S65536x512, .bf16⟩
  | 73 => ⟨S65536x1024, .f32⟩
  | 74 => ⟨S65536x1024, .f32⟩
  | 75 => ⟨S65536x1024, .f32⟩
  | 76 => ⟨S_, .f32⟩
  | 77 => ⟨S65536x1024, .f32⟩
  | 78 => ⟨S65536x1024, .f32⟩
  | 79 => ⟨S_, .f32⟩
  | 80 => ⟨S65536x1024, .f32⟩
  | 81 => ⟨S65536x1024, .f32⟩
  | 82 => ⟨S65536x1024, .f32⟩
  | 83 => ⟨S65536x1024, .f32⟩
  | 84 => ⟨S65536x1024, .f32⟩
  | 85 => ⟨S_, .f32⟩
  | 86 => ⟨S65536x1024, .f32⟩
  | 87 => ⟨S65536x1024, .f32⟩
  | 88 => ⟨S_, .f32⟩
  | 89 => ⟨S65536x1024, .f32⟩
  | 90 => ⟨S65536x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_3 : Ref sig .tc := ⟨.hbm, 59, rfl⟩
abbrev main_v53 : Ref sig .tc := ⟨.hbm, 60, rfl⟩
abbrev main_v54 : Ref sig .tc := ⟨.hbm, 61, rfl⟩
abbrev main_cst_4 : Ref sig .tc := ⟨.hbm, 62, rfl⟩
abbrev main_v55 : Ref sig .tc := ⟨.hbm, 63, rfl⟩
abbrev main_v56 : Ref sig .tc := ⟨.hbm, 64, rfl⟩
abbrev main_cst_5 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_cst_6 : Ref sig .tc := ⟨.hbm, 99, rfl⟩
abbrev main_v90 : Ref sig .tc := ⟨.hbm, 100, rfl⟩
abbrev main_v91 : Ref sig .tc := ⟨.hbm, 101, rfl⟩
abbrev main_cst_7 : Ref sig .tc := ⟨.hbm, 102, rfl⟩
abbrev main_v92 : Ref sig .tc := ⟨.hbm, 103, rfl⟩
abbrev main_v93 : Ref sig .tc := ⟨.hbm, 104, rfl⟩
abbrev main_cst_8 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_cst_9 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_cst_10 : Ref sig .tc := ⟨.hbm, 142, rfl⟩
abbrev main_v129 : Ref sig .tc := ⟨.hbm, 143, rfl⟩
abbrev main_v130 : Ref sig .tc := ⟨.hbm, 144, rfl⟩
abbrev main_cst_11 : Ref sig .tc := ⟨.hbm, 145, rfl⟩
abbrev main_v131 : Ref sig .tc := ⟨.hbm, 146, rfl⟩
abbrev main_v132 : Ref sig .tc := ⟨.hbm, 147, rfl⟩
abbrev main_cst_12 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_cst_13 : Ref sig .tc := ⟨.hbm, 180, rfl⟩
abbrev main_v164 : Ref sig .tc := ⟨.hbm, 181, rfl⟩
abbrev main_cst_14 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_cst_15 : Ref sig .tc := ⟨.hbm, 204, rfl⟩
abbrev main_v186 : Ref sig .tc := ⟨.hbm, 205, rfl⟩
abbrev main_v187 : Ref sig .tc := ⟨.hbm, 206, rfl⟩
abbrev main_cst_16 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_cst_17 : Ref sig .tc := ⟨.hbm, 213, rfl⟩
abbrev main_v193 : Ref sig .tc := ⟨.hbm, 214, rfl⟩
abbrev main_v194 : Ref sig .tc := ⟨.hbm, 215, rfl⟩
abbrev main_cst_18 : Ref sig .tc := ⟨.hbm, 216, rfl⟩
abbrev main_v195 : Ref sig .tc := ⟨.hbm, 217, rfl⟩
abbrev main_v196 : Ref sig .tc := ⟨.hbm, 218, rfl⟩

abbrev nD : Nat := 1
abbrev τ : Topo := Topo.v7x

variable {F : FTy → Type} [FloatOps F]
-- ==== Kernel3.lean ====
abbrev S128x4x1024 : Shape := ⟨3, ![128, 4, 1024]⟩
abbrev S1x1024x5120 : Shape := ⟨3, ![1, 1024, 5120]⟩
abbrev S1024x5120 : Shape := ⟨2, ![1024, 5120]⟩
abbrev S512 : Shape := ⟨1, ![512]⟩
abbrev S_ : Shape := ⟨0, ![]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S128 : Shape := ⟨1, ![128]⟩
abbrev S1x128 : Shape := ⟨2, ![1, 128]⟩
abbrev S128x1 : Shape := ⟨2, ![128, 1]⟩
abbrev S512x128 : Shape := ⟨2, ![512, 128]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 167
  | .vmem => 17
  | .smem => 0
  | _ => 0

abbrev hbmTy0_0 (i : Nat) : BufTy := match i % 128 with
  | 0 => ⟨S128x4x1024, .f32⟩
  | 1 => ⟨S1x1024x5120, .f32⟩
  | 2 => ⟨S1024x5120, .f32⟩
  | 3 => ⟨S1024x5120, .bf16⟩
  | 4 => ⟨S512, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S512, .i32⟩
  | 12 => ⟨S512, .i32⟩
  | 13 => ⟨S_, .i32⟩
  | 14 => ⟨S512, .i32⟩
  | 15 => ⟨S512, .i1⟩
  | 16 => ⟨S_, .i32⟩
  | 17 => ⟨S512, .i32⟩
  | 18 => ⟨S512, .i1⟩
  | 19 => ⟨S_, .i32⟩
  | 20 => ⟨S_, .i1⟩
  | 21 => ⟨S512, .i1⟩
  | 22 => ⟨S512, .i1⟩
  | 23 => ⟨S512, .i1⟩
  | 24 => ⟨S512, .i32⟩
  | 25 => ⟨S512, .i32⟩
  | 26 => ⟨S512, .i32⟩
  | 27 => ⟨S_, .i32⟩
  | 28 => ⟨S512, .i32⟩
  | 29 => ⟨S512, .i32⟩
  | 30 => ⟨S8, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S512, .f32⟩
  | 42 => ⟨S512x1, .f32⟩
  | 43 => ⟨S1x8, .f32⟩
  | 44 => ⟨S512x8, .f32⟩
  | 45 => ⟨S512x8, .f32⟩
  | 46 => ⟨S512x8, .f32⟩
  | 47 => ⟨S512x8, .f32⟩
  | 48 => ⟨S512x8, .f32⟩
  | 49 => ⟨S128, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S128, .i32⟩
  | 57 => ⟨S128, .i32⟩
  | 58 => ⟨S_, .i32⟩
  | 59 => ⟨S128, .i32⟩
  | 60 => ⟨S128, .i1⟩
  | 61 => ⟨S_, .i32⟩
  | 62 => ⟨S128, .i32⟩
  | 63 => ⟨S128, .i1⟩
  | 64 => ⟨S_, .i32⟩
  | 65 => ⟨S_, .i1⟩
  | 66 => ⟨S128, .i1⟩
  | 67 => ⟨S128, .i1⟩
  | 68 => ⟨S128, .i1⟩
  | 69 => ⟨S128, .i32⟩
  | 70 => ⟨S128, .i32⟩
  | 71 => ⟨S128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128, .i32⟩
  | 79 => ⟨S128, .i32⟩
  | 80 => ⟨S_, .i32⟩
  | 81 => ⟨S128, .i32⟩
  | 82 => ⟨S128, .i1⟩
  | 83 => ⟨S_, .i32⟩
  | 84 => ⟨S128, .i32⟩
  | 85 => ⟨S128, .i1⟩
  | 86 => ⟨S_, .i32⟩
  | 87 => ⟨S_, .i1⟩
  | 88 => ⟨S128, .i1⟩
  | 89 => ⟨S128, .i1⟩
  | 90 => ⟨S128, .i1⟩
  | 91 => ⟨S128, .i32⟩
  | 92 => ⟨S128, .i32⟩
  | 93 => ⟨S128, .i32⟩
  | 94 => ⟨S1x128, .i32⟩
  | 95 => ⟨S_, .i32⟩
  | 96 => ⟨S1x128, .i32⟩
  | 97 => ⟨S1x128, .i1⟩
  | 98 => ⟨S_, .i32⟩
  | 99 => ⟨S128, .i32⟩
  | 100 => ⟨S128, .i1⟩
  | 101 => ⟨S_, .i32⟩
  | 102 => ⟨S128, .i32⟩
  | 103 => ⟨S128, .i32⟩
  | 104 => ⟨S128, .i32⟩
  | 105 => ⟨S128x1, .i32⟩
  | 106 => ⟨S512x128, .f32⟩
  | 107 => ⟨S_, .f32⟩
  | 108 => ⟨S_, .f32⟩
  | 109 => ⟨S512x128, .i1⟩
  | 110 => ⟨S512x128, .f32⟩
  | 111 => ⟨S512x128, .f32⟩
  | 112 => ⟨S1x128, .i32⟩
  | 113 => ⟨S_, .i32⟩
  | 114 => ⟨S1x128, .i32⟩
  | 115 => ⟨S1x128, .i1⟩
  | 116 => ⟨S_, .i32⟩
  | 117 => ⟨S128, .i32⟩
  | 118 => ⟨S128, .i1⟩
  | 119 => ⟨S_, .i32⟩
  | 120 => ⟨S128, .i32⟩
  | 121 => ⟨S128, .i32⟩
  | 122 => ⟨S128, .i32⟩
  | 123 => ⟨S128x1, .i32⟩
  | 124 => ⟨S512x128, .f32⟩
  | 125 => ⟨S512x128, .f32⟩
  | 126 => ⟨S_, .f32⟩
  | 127 => ⟨S_, .f32⟩
  | _ => ⟨S128x4x1024, .f32⟩

abbrev hbmTy0_1 (i : Nat) : BufTy := match i % 128 with
  | 0 => ⟨S512x128, .i1⟩
  | 1 => ⟨S512x128, .f32⟩
  | 2 => ⟨S512x128, .f32⟩
  | 3 => ⟨S1x128, .i32⟩
  | 4 => ⟨S_, .i32⟩
  | 5 => ⟨S1x128, .i32⟩
  | 6 => ⟨S1x128, .i1⟩
  | 7 => ⟨S1x128, .i32⟩
  | 8 => ⟨S_, .i32⟩
  | 9 => ⟨S1x128, .i32⟩
  | 10 => ⟨S1x128, .i1⟩
  | 11 => ⟨S1x128, .i1⟩
  | 12 => ⟨S_, .i32⟩
  | 13 => ⟨S128, .i32⟩
  | 14 => ⟨S128, .i1⟩
  | 15 => ⟨S_, .i32⟩
  | 16 => ⟨S128, .i32⟩
  | 17 => ⟨S128, .i32⟩
  | 18 => ⟨S128, .i32⟩
  | 19 => ⟨S128x1, .i32⟩
  | 20 => ⟨S512x128, .f32⟩
  | 21 => ⟨S_, .f32⟩
  | 22 => ⟨S_, .f32⟩
  | 23 => ⟨S512x128, .i1⟩
  | 24 => ⟨S512x128, .f32⟩
  | 25 => ⟨S512x128, .f32⟩
  | 26 => ⟨S512x1024, .f32⟩
  | 27 => ⟨S512x512, .f32⟩
  | 28 => ⟨S512x512, .f32⟩
  | 29 => ⟨S512x512, .f32⟩
  | 30 => ⟨S512x512, .f32⟩
  | 31 => ⟨S512x512, .bf16⟩
  | 32 => ⟨S512x512, .bf16⟩
  | 33 => ⟨S512x512, .bf16⟩
  | 34 => ⟨S512x512, .bf16⟩
  | 35 => ⟨S512x512, .bf16⟩
  | 36 => ⟨S512x512, .bf16⟩
  | 37 => ⟨S512x1024, .f32⟩
  | 38 => ⟨S512x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S1024x5120, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x1024, .f32⟩
  | .local _ .vmem, ⟨16, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_v5 : Ref sig .tc := ⟨.hbm, 59, rfl⟩
abbrev main_call1_v6 : Ref sig .tc := ⟨.hbm, 60, rfl⟩
abbrev main_call1_c_2 : Ref sig .tc := ⟨.hbm, 61, rfl⟩
abbrev main_call1_v7 : Ref sig .tc := ⟨.hbm, 62, rfl⟩
abbrev main_call1_v8 : Ref sig .tc := ⟨.hbm, 63, rfl⟩
abbrev main_call1_c_3 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_v23 : Ref sig .tc := ⟨.hbm, 71, rfl⟩
abbrev main_c_4 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_v5 : Ref sig .tc := ⟨.hbm, 81, rfl⟩
abbrev main_call2_v6 : Ref sig .tc := ⟨.hbm, 82, rfl⟩
abbrev main_call2_c_2 : Ref sig .tc := ⟨.hbm, 83, rfl⟩
abbrev main_call2_v7 : Ref sig .tc := ⟨.hbm, 84, rfl⟩
abbrev main_call2_v8 : Ref sig .tc := ⟨.hbm, 85, rfl⟩
abbrev main_call2_c_3 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_v24 : Ref sig .tc := ⟨.hbm, 93, rfl⟩
abbrev main_v25 : Ref sig .tc := ⟨.hbm, 94, rfl⟩
abbrev main_c_5 : Ref sig .tc := ⟨.hbm, 95, rfl⟩
abbrev main_v26 : Ref sig .tc := ⟨.hbm, 96, rfl⟩
abbrev main_v27 : Ref sig .tc := ⟨.hbm, 97, rfl⟩
abbrev main_c_6 : Ref sig .tc := ⟨.hbm, 98, rfl⟩
abbrev main_v28 : Ref sig .tc := ⟨.hbm, 99, rfl⟩
abbrev main_v29 : Ref sig .tc := ⟨.hbm, 100, rfl⟩
abbrev main_c_7 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_cst_8 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v35 : Ref sig .tc := ⟨.hbm, 111, rfl⟩
abbrev main_v36 : Ref sig .tc := ⟨.hbm, 112, rfl⟩
abbrev main_c_9 : Ref sig .tc := ⟨.hbm, 113, rfl⟩
abbrev main_v37 : Ref sig .tc := ⟨.hbm, 114, rfl⟩
abbrev main_v38 : Ref sig .tc := ⟨.hbm, 115, rfl⟩
abbrev main_c_10 : Ref sig .tc := ⟨.hbm, 116, rfl⟩
abbrev main_v39 : Ref sig .tc := ⟨.hbm, 117, rfl⟩
abbrev main_v40 : Ref sig .tc := ⟨.hbm, 118, rfl⟩
abbrev main_c_11 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_cst_12 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_v47 : Ref sig .tc := ⟨.hbm, 130, rfl⟩
abbrev main_v48 : Ref sig .tc := ⟨.hbm, 131, rfl⟩
abbrev main_c_13 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_c_14 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_c_15 : Ref sig .tc := ⟨.hbm, 140, rfl⟩
abbrev main_v55 : Ref sig .tc := ⟨.hbm, 141, rfl⟩
abbrev main_v56 : Ref sig .tc := ⟨.hbm, 142, rfl⟩
abbrev main_c_16 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_cst_17 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_v62 : Ref sig .tc := ⟨.hbm, 153, rfl⟩
abbrev main_v63 : Ref sig .tc := ⟨.hbm, 154, rfl⟩
abbrev main_v64_0 : Ref sig .tc := ⟨.hbm, 155, rfl⟩
abbrev main_v64_1 : Ref sig .tc := ⟨.hbm, 156, rfl⟩
abbrev main_v64_2 : Ref sig .tc := ⟨.hbm, 157, rfl⟩
abbrev main_v64_3 : Ref sig .tc := ⟨.hbm, 158, rfl⟩
abbrev main_v64_4 : Ref sig .tc := ⟨.hbm, 159, rfl⟩
abbrev main_v64_5 : Ref sig .tc := ⟨.hbm, 160, rfl⟩
abbrev main_v64_6 : Ref sig .tc := ⟨.hbm, 161, rfl⟩
abbrev main_v64_7 : Ref sig .tc := ⟨.hbm, 162, rfl⟩
abbrev main_v64_8 : Ref sig .tc := ⟨.hbm, 163, rfl⟩
abbrev main_v64_9 : Ref sig .tc := ⟨.hbm, 164, rfl⟩
abbrev main_v64_10 : Ref sig .tc := ⟨.hbm, 165, rfl⟩
abbrev main_v64_11 : Ref sig .tc := ⟨.hbm, 166, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Reference3Ideal.lean ====
abbrev S128x4x1024 : Shape := ⟨3, ![128, 4, 1024]⟩
abbrev S1x1024x5120 : Shape := ⟨3, ![1, 1024, 5120]⟩
abbrev S4 : Shape := ⟨1, ![4]⟩
abbrev S_ : Shape := ⟨0, ![]⟩
abbrev S1024x5120 : Shape := ⟨2, ![1024, 5120]⟩
abbrev S128x4x5120 : Shape := ⟨3, ![128, 4, 5120]⟩
abbrev S128x4x512 : Shape := ⟨3, ![128, 4, 512]⟩
abbrev S128x4x8x64 : Shape := ⟨4, ![128, 4, 8, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S128x4x8x8 : Shape := ⟨4, ![128, 4, 8, 8]⟩
abbrev S128x4x8x48 : Shape := ⟨4, ![128, 4, 8, 48]⟩
abbrev S1x4x1x8 : Shape := ⟨4, ![1, 4, 1, 8]⟩
abbrev S512x512 : Shape := ⟨2, ![512, 512]⟩
abbrev S512x1024 : Shape := ⟨2, ![512, 1024]⟩

abbrev nBuf : Space → Nat
  | .hbm => 216
  | .vmem => 0
  | .smem => 0
  | _ => 0

abbrev hbmTy0_0 (i : Nat) : BufTy := match i % 128 with
  | 0 => ⟨S128x4x1024, .f32⟩
  | 1 => ⟨S1x1024x5120, .f32⟩
  | 2 => ⟨S4, .i32⟩
  | 3 => ⟨S_, .i32⟩
  | 4 => ⟨S4, .i32⟩
  | 5 => ⟨S4, .i32⟩
  | 6 => ⟨S1024x5120, .f32⟩
  | 7 => ⟨S128x4x5120, .f32⟩
  | 8 => ⟨S128x4x512, .f32⟩
  | 9 => ⟨S128x4x512, .f32⟩
  | 10 => ⟨S128x4x512, .f32⟩
  | 11 => ⟨S128x4x512, .f32⟩
  | 12 => ⟨S128x4x512, .f32⟩
  | 13 => ⟨S128x4x512, .f32⟩
  | 14 => ⟨S128x4x1024, .f32⟩
  | 15 => ⟨S128x4x1024, .f32⟩
  | 16 => ⟨S128x4x8x64, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S4, .f32⟩
  | 29 => ⟨S4x1, .f32⟩
  | 30 => ⟨S1x8, .f32⟩
  | 31 => ⟨S4x8, .f32⟩
  | 32 => ⟨S4x8, .f32⟩
  | 33 => ⟨S4x8, .f32⟩
  | 34 => ⟨S4x8, .f32⟩
  | 35 => ⟨S4x1x8, .f32⟩
  | 36 => ⟨S4x8, .f32⟩
  | 37 => ⟨S4x1x8, .f32⟩
  | 38 => ⟨S128x4x8x8, .f32⟩
  | 39 => ⟨S128x4x8x8, .f32⟩
  | 40 => ⟨S128x4x8x48, .f32⟩
  | 41 => ⟨S1x4x1x8, .f32⟩
  | 42 => ⟨S128x4x8x8, .f32⟩
  | 43 => ⟨S128x4x8x8, .f32⟩
  | 44 => ⟨S1x4x1x8, .f32⟩
  | 45 => ⟨S128x4x8x8, .f32⟩
  | 46 => ⟨S128x4x8x8, .f32⟩
  | 47 => ⟨S128x4x8x8, .f32⟩
  | 48 => ⟨S1x4x1x8, .f32⟩
  | 49 => ⟨S128x4x8x8, .f32⟩
  | 50 => ⟨S128x4x8x8, .f32⟩
  | 51 => ⟨S1x4x1x8, .f32⟩
  | 52 => ⟨S128x4x8x8, .f32⟩
  | 53 => ⟨S128x4x8x8, .f32⟩
  | 54 => ⟨S128x4x8x8, .f32⟩
  | 55 => ⟨S128x4x8x64, .f32⟩
  | 56 => ⟨S_, .f32⟩
  | 57 => ⟨S128x4x8x64, .f32⟩
  | 58 => ⟨S128x4x8x64, .f32⟩
  | 59 => ⟨S128x4x8x64, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S_, .f32⟩
  | 69 => ⟨S8, .f32⟩
  | 70 => ⟨S8, .f32⟩
  | 71 => ⟨S4, .f32⟩
  | 72 => ⟨S4x1, .f32⟩
  | 73 => ⟨S1x8, .f32⟩
  | 74 => ⟨S4x8, .f32⟩
  | 75 => ⟨S4x8, .f32⟩
  | 76 => ⟨S4x8, .f32⟩
  | 77 => ⟨S4x8, .f32⟩
  | 78 => ⟨S4x1x8, .f32⟩
  | 79 => ⟨S4x8, .f32⟩
  | 80 => ⟨S4x1x8, .f32⟩
  | 81 => ⟨S128x4x8x8, .f32⟩
  | 82 => ⟨S128x4x8x8, .f32⟩
  | 83 => ⟨S128x4x8x48, .f32⟩
  | 84 => ⟨S1x4x1x8, .f32⟩
  | 85 => ⟨S128x4x8x8, .f32⟩
  | 86 => ⟨S128x4x8x8, .f32⟩
  | 87 => ⟨S1x4x1x8, .f32⟩
  | 88 => ⟨S128x4x8x8, .f32⟩
  | 89 => ⟨S128x4x8x8, .f32⟩
  | 90 => ⟨S128x4x8x8, .f32⟩
  | 91 => ⟨S1x4x1x8, .f32⟩
  | 92 => ⟨S128x4x8x8, .f32⟩
  | 93 => ⟨S128x4x8x8, .f32⟩
  | 94 => ⟨S1x4x1x8, .f32⟩
  | 95 => ⟨S128x4x8x8, .f32⟩
  | 96 => ⟨S128x4x8x8, .f32⟩
  | 97 => ⟨S128x4x8x8, .f32⟩
  | 98 => ⟨S128x4x8x64, .f32⟩
  | 99 => ⟨S128x4x8x64, .f32⟩
  | 100 => ⟨S8, .f32⟩
  | 101 => ⟨S8, .f32⟩
  | 102 => ⟨S_, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S4, .f32⟩
  | 112 => ⟨S4x1, .f32⟩
  | 113 => ⟨S1x8, .f32⟩
  | 114 => ⟨S4x8, .f32⟩
  | 115 => ⟨S4x8, .f32⟩
  | 116 => ⟨S4x8, .f32⟩
  | 117 => ⟨S4x8, .f32⟩
  | 118 => ⟨S4x1x8, .f32⟩
  | 119 => ⟨S4x8, .f32⟩
  | 120 => ⟨S4x1x8, .f32⟩
  | 121 => ⟨S128x4x8x8, .f32⟩
  | 122 => ⟨S128x4x8x8, .f32⟩
  | 123 => ⟨S128x4x8x48, .f32⟩
  | 124 => ⟨S1x4x1x8, .f32⟩
  | 125 => ⟨S128x4x8x8, .f32⟩
  | 126 => ⟨S128x4x8x8, .f32⟩
  | 127 => ⟨S1x4x1x8, .f32⟩
  | _ => ⟨S128x4x1024, .f32⟩

abbrev hbmTy0_1 (i : Nat) : BufTy := match i % 128 with
  | 0 => ⟨S128x4x8x8, .f32⟩
  | 1 => ⟨S128x4x8x8, .f32⟩
  | 2 => ⟨S128x4x8x8, .f32⟩
  | 3 => ⟨S1x4x1x8, .f32⟩
  | 4 => ⟨S128x4x8x8, .f32⟩
  | 5 => ⟨S128x4x8x8, .f32⟩
  | 6 => ⟨S1x4x1x8, .f32⟩
  | 7 => ⟨S128x4x8x8, .f32⟩
  | 8 => ⟨S128x4x8x8, .f32⟩
  | 9 => ⟨S128x4x8x8, .f32⟩
  | 10 => ⟨S128x4x8x64, .f32⟩
  | 11 => ⟨S_, .f32⟩
  | 12 => ⟨S128x4x8x64, .f32⟩
  | 13 => ⟨S128x4x8x64, .f32⟩
  | 14 => ⟨S128x4x8x64, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S4, .f32⟩
  | 27 => ⟨S4x1, .f32⟩
  | 28 => ⟨S1x8, .f32⟩
  | 29 => ⟨S4x8, .f32⟩
  | 30 => ⟨S4x8, .f32⟩
  | 31 => ⟨S4x8, .f32⟩
  | 32 => ⟨S4x8, .f32⟩
  | 33 => ⟨S4x1x8, .f32⟩
  | 34 => ⟨S4x8, .f32⟩
  | 35 => ⟨S4x1x8, .f32⟩
  | 36 => ⟨S128x4x8x8, .f32⟩
  | 37 => ⟨S128x4x8x8, .f32⟩
  | 38 => ⟨S128x4x8x48, .f32⟩
  | 39 => ⟨S1x4x1x8, .f32⟩
  | 40 => ⟨S128x4x8x8, .f32⟩
  | 41 => ⟨S128x4x8x8, .f32⟩
  | 42 => ⟨S1x4x1x8, .f32⟩
  | 43 => ⟨S128x4x8x8, .f32⟩
  | 44 => ⟨S128x4x8x8, .f32⟩
  | 45 => ⟨S128x4x8x8, .f32⟩
  | 46 => ⟨S1x4x1x8, .f32⟩
  | 47 => ⟨S128x4x8x8, .f32⟩
  | 48 => ⟨S128x4x8x8, .f32⟩
  | 49 => ⟨S1x4x1x8, .f32⟩
  | 50 => ⟨S128x4x8x8, .f32⟩
  | 51 => ⟨S128x4x8x8, .f32⟩
  | 52 => ⟨S128x4x8x8, .f32⟩
  | 53 => ⟨S128x4x8x64, .f32⟩
  | 54 => ⟨S512x512, .f32⟩
  | 55 => ⟨S512x512, .f32⟩
  | 56 => ⟨S512x512, .f32⟩
  | 57 => ⟨S512x512, .f32⟩
  | 58 => ⟨S512x512, .f32⟩
  | 59 => ⟨S512x512, .bf16⟩
  | 60 => ⟨S512x512, .f32⟩
  | 61 => ⟨S512x512, .bf16⟩
  | 62 => ⟨S512x512, .f32⟩
  | 63 => ⟨S512x512, .bf16⟩
  | 64 => ⟨S512x512, .f32⟩
  | 65 => ⟨S512x512, .bf16⟩
  | 66 => ⟨S512x512, .f32⟩
  | 67 => ⟨S512x512, .bf16⟩
  | 68 => ⟨S512x512, .f32⟩
  | 69 => ⟨S512x512, .bf16⟩
  | 70 => ⟨S512x1024, .f32⟩
  | 71 => ⟨S512x1024, .f32⟩
  | 72 => ⟨S512x1024, .f32⟩
  | 73 => ⟨S_, .f32⟩
  | 74 => ⟨S512x1024, .f32⟩
  | 75 => ⟨S512x1024, .f32⟩
  | 76 => ⟨S_, .f32⟩
  | 77 => ⟨S512x1024, .f32⟩
  | 78 => ⟨S512x1024, .f32⟩
  | 79 => ⟨S512x1024, .f32⟩
  | 80 => ⟨S512x1024, .f32⟩
  | 81 => ⟨S512x1024, .f32⟩
  | 82 => ⟨S_, .f32⟩
  | 83 => ⟨S512x1024, .f32⟩
  | 84 => ⟨S512x1024, .f32⟩
  | 85 => ⟨S_, .f32⟩
  | 86 => ⟨S512x1024, .f32⟩
  | 87 => ⟨S512x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_2 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_3 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_6 : Ref sig .tc := ⟨.hbm, 102, rfl⟩
abbrev main_v92 : Ref sig .tc := ⟨.hbm, 103, rfl⟩
abbrev main_v93 : Ref sig .tc := ⟨.hbm, 104, rfl⟩
abbrev main_cst_7 : Ref sig .tc := ⟨.hbm, 105, rfl⟩
abbrev main_v94 : Ref sig .tc := ⟨.hbm, 106, rfl⟩
abbrev main_v95 : Ref sig .tc := ⟨.hbm, 107, rfl⟩
abbrev main_cst_8 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_cst_9 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_cst_10 : Ref sig .tc := ⟨.hbm, 145, rfl⟩
abbrev main_v131 : Ref sig .tc := ⟨.hbm, 146, rfl⟩
abbrev main_v132 : Ref sig .tc := ⟨.hbm, 147, rfl⟩
abbrev main_cst_11 : Ref sig .tc := ⟨.hbm, 148, rfl⟩
abbrev main_v133 : Ref sig .tc := ⟨.hbm, 149, rfl⟩
abbrev main_v134 : Ref sig .tc := ⟨.hbm, 150, rfl⟩
abbrev main_cst_12 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_cst_13 : Ref sig .tc := ⟨.hbm, 201, rfl⟩
abbrev main_v184 : Ref sig .tc := ⟨.hbm, 202, rfl⟩
abbrev main_v185 : Ref sig .tc := ⟨.hbm, 203, rfl⟩
abbrev main_cst_14 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_cst_15 : Ref sig .tc := ⟨.hbm, 210, rfl⟩
abbrev main_v191 : Ref sig .tc := ⟨.hbm, 211, rfl⟩
abbrev main_v192 : Ref sig .tc := ⟨.hbm, 212, rfl⟩
abbrev main_cst_16 : Ref sig .tc := ⟨.hbm, 213, rfl⟩
abbrev main_v193 : Ref sig .tc := ⟨.hbm, 214, rfl⟩
abbrev main_v194 : Ref sig .tc := ⟨.hbm, 215, rfl⟩

abbrev nD : Nat := 1
abbrev τ : Topo := Topo.v7x

variable {F : FTy → Type} [FloatOps F]
-- ==== Kernel4.lean ====
abbrev S8x8192x1024 : Shape := ⟨3, ![8, 8192, 1024]⟩
abbrev S8x8192x512 : Shape := ⟨3, ![8, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S4 : Shape := ⟨1, ![4]⟩
abbrev S32 : Shape := ⟨1, ![32]⟩
abbrev S92 : Shape := ⟨1, ![92]⟩
abbrev S128 : Shape := ⟨1, ![128]⟩
abbrev S1x128 : Shape := ⟨2, ![1, 128]⟩
abbrev S512x1024 : Shape := ⟨2, ![512, 1024]⟩
abbrev S1024x1024 : Shape := ⟨2, ![1024, 1024]⟩
abbrev S1024 : Shape := ⟨1, ![1024]⟩
abbrev S65536x1024 : Shape := ⟨2, ![65536, 1024]⟩
abbrev S65536x512 : Shape := ⟨2, ![65536, 512]⟩
abbrev S65536x128 : Shape := ⟨2, ![65536, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 45
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x1024, .f32⟩
  | .hbm, ⟨4, _⟩ => ⟨S8x8192x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S1024x4, .f32⟩
  | .hbm, ⟨15, _⟩ => ⟨S1024x32, .f32⟩
  | .hbm, ⟨16, _⟩ => ⟨S_, .f32⟩
  | .hbm, ⟨17, _⟩ => ⟨S1024x92, .f32⟩
  | .hbm, ⟨18, _⟩ => ⟨S1024x128, .f32⟩
  | .hbm, ⟨19, _⟩ => ⟨S1024x128, .bf16⟩
  | .hbm, ⟨20, _⟩ => ⟨S4, .f32⟩
  | .hbm, ⟨21, _⟩ => ⟨S32, .f32⟩
  | .hbm, ⟨22, _⟩ => ⟨S_, .f32⟩
  | .hbm, ⟨23, _⟩ => ⟨S92, .f32⟩
  | .hbm, ⟨24, _⟩ => ⟨S128, .f32⟩
  | .hbm, ⟨25, _⟩ => ⟨S1x128, .f32⟩
  | .hbm, ⟨26, _⟩ => ⟨S512x1024, .f32⟩
  | .hbm, ⟨27, _⟩ => ⟨S512x1024, .bf16⟩
  | .hbm, ⟨28, _⟩ => ⟨S512x1024, .f32⟩
  | .hbm, ⟨29, _⟩ => ⟨S512x1024, .bf16⟩
  | .hbm, ⟨30, _⟩ => ⟨S1024x1024, .f32⟩
  | .hbm, ⟨31, _⟩ => ⟨S1024x1024, .bf16⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S65536x1024, .f32⟩
  | .hbm, ⟨37, _⟩ => ⟨S8x8192x512, .bf16⟩
  | .hbm, ⟨38, _⟩ => ⟨S8x8192x512, .bf16⟩
  | .hbm, ⟨39, _⟩ => ⟨S65536x512, .bf16⟩
  | .hbm, ⟨40, _⟩ => ⟨S65536x512, .bf16⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x128, .f32⟩
  | .local _ .vmem, ⟨20, _⟩ => ⟨S512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S8x8192x1024 : Shape := ⟨3, ![8, 8192, 1024]⟩
abbrev S8x8192x512 : Shape := ⟨3, ![8, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S65536x1024 : Shape := ⟨2, ![65536, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x1024, .f32⟩
  | .hbm, ⟨4, _⟩ => ⟨S8x8192x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S512x1024, .f32⟩
  | .hbm, ⟨15, _⟩ => ⟨S8x8192x1024, .f32⟩
  | .hbm, ⟨16, _⟩ => ⟨S512x1024, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S8x8192x1024, .f32⟩
  | .hbm, ⟨21, _⟩ => ⟨S1024x1024, .f32⟩
  | .hbm, ⟨22, _⟩ => ⟨S8x8192x1024, .f32⟩
  | .hbm, ⟨23, _⟩ => ⟨S_, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S_, .f32⟩
  | .hbm, ⟨33, _⟩ => ⟨S8x8192x1, .f32⟩
  | .hbm, ⟨34, _⟩ => ⟨S8x8192x1, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S_, .f32⟩
  | .hbm, ⟨42, _⟩ => ⟨S8x8192x1, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S8x8192x1, .f32⟩
  | .hbm, ⟨48, _⟩ => ⟨S8x8192x1024, .f32⟩
  | .hbm, ⟨49, _⟩ => ⟨S8x8192x1024, .f32⟩
  | .hbm, ⟨50, _⟩ => ⟨S1x1x1024, .f32⟩
  | .hbm, ⟨51, _⟩ => ⟨S8x8192x1024, .f32⟩
  | .hbm, ⟨52, _⟩ => ⟨S8x8192x1024, .f32⟩
  | .hbm, ⟨53, _⟩ => ⟨S1x1x1024, .f32⟩
  | .hbm, ⟨54, _⟩ => ⟨S8x8192x1024, .f32⟩
  | .hbm, ⟨55, _⟩ => ⟨S8x8192x1024, .f32⟩
  | .hbm, ⟨56, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.AttnK.Ctl.lean ====
/-
  The kernel's control in closed form: how often the loop over pairs of blocks runs, when its inner condition holds, and
  at which block each load stands.
-/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.AttnK

open Cert.Kernel Cert.Kernel.Gen
open Idealize.ShloMosaic Idealize.ShloMosaic.TcCoe
open View (Piece canon ld)

variable {F : FTy → Type} [FloatOps F]

/-! ## The control: trips, the inner condition, the offsets -/

theorem t1_trips : ∀ i : grid0.Coords, (k0_t1_loop i).trips = ((i 2).val + 1) / 2 := by decide +kernel
theorem t1_cond : ∀ (i : grid0.Coords) (k : Fin (k0_t1_loop i).trips), k0_cond1 i k = 1#1 ↔ 2 * k.val + 1 < (i 2).val := by decide +kernel
theorem off1_eq : ∀ i : grid0.Coords, k0_off1 i = ![0, 512 * ((i 2).val % 16), 0] := by decide +kernel
theorem off2_eq : ∀ (i : grid0.Coords) (k : Fin (k0_t1_loop i).trips) , 2 * k.val + 1 < (i 2).val → k0_off2 i k = ![0, 512 * ((2 * k.val + 1) % 16), 0] := by decide +kernel
theorem off3_eq : ∀ (i : grid0.Coords) (k : Fin (k0_t1_loop i).trips), k0_off3 i k = ![0, 512 * ((2 * k.val) % 16), 0] := by decide +kernel
theorem off4_eq : ∀ (i : grid0.Coords) (k : Fin (k0_t1_loop i).trips), 2 * k.val + 2 < (i 2).val → k0_off4 i k = ![0, 512 * ((2 * k.val + 2) % 16), 0] := by decide +kernel
theorem off5_eq : ∀ (i : grid0.Coords) (k : Fin (k0_t1_loop i).trips), k0_off5 i k = ![0, 512 * ((2 * k.val + 1) % 16), 0] := by decide +kernel

end Cert.AttnK

end
-- ==== Proof.AttnI.State.lean ====
/-
  The attention's state as closed functions of what the staging buffers hold: the scores of a block of keys, the
  running maximum and the running sums after a block, and the state after the diagonal block and `j` earlier blocks.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.ValueKit.Basic

@[expose] public section

set_option maxRecDepth 16384

noncomputable section

namespace Cert.AttnI

open Cert.KernelIdeal Cert.KernelIdeal.Gen
open Idealize.ShloMosaic Idealize.ShloMosaic.TcCoe
open View (Piece canon ld)

variable {F : FTy → Type} [FloatOps F] [Named F]

/-! ## The four quarters of the rows, in each of the three scratch shapes -/

abbrev rM0 : Rect S1024x128 := Rect.unit (s := S1024x128) ![0, 0] S256x128.size inb_S1024x128_S256x128_0_0
abbrev rM1 : Rect S1024x128 := Rect.unit (s := S1024x128) ![256, 0] S256x128.size inb_S1024x128_S256x128_256_0
abbrev rM2 : Rect S1024x128 := Rect.unit (s := S1024x128) ![512, 0] S256x128.size inb_S1024x128_S256x128_512_0
abbrev rM3 : Rect S1024x128 := Rect.unit (s := S1024x128) ![768, 0] S256x128.size inb_S1024x128_S256x128_768_0
abbrev rA0 : Rect S1024x256 := Rect.unit (s := S1024x256) ![0, 0] S256x256.size inb_S1024x256_S256x256_0_0
abbrev rA1 : Rect S1024x256 := Rect.unit (s := S1024x256) ![256, 0] S256x256.size inb_S1024x256_S256x256_256_0
abbrev rA2 : Rect S1024x256 := Rect.unit (s := S1024x256) ![512, 0] S256x256.size inb_S1024x256_S256x256_512_0
abbrev rA3 : Rect S1024x256 := Rect.unit (s := S1024x256) ![768, 0] S256x256.size inb_S1024x256_S256x256_768_0
abbrev rS0 : Rect S1024x512 := Rect.unit (s := S1024x512) ![0, 0] S256x512.size inb_S1024x512_S256x512_0_0
abbrev rS1 : Rect S1024x512 := Rect.unit (s := S1024x512) ![256, 0] S256x512.size inb_S1024x512_S256x512_256_0
abbrev rS2 : Rect S1024x512 := Rect.unit (s := S1024x512) ![512, 0] S256x512.size inb_S1024x512_S256x512_512_0
abbrev rS3 : Rect S1024x512 := Rect.unit (s := S1024x512) ![768, 0] S256x512.size inb_S1024x512_S256x512_768_0

abbrev pcsM (p0 p1 p2 p3 : Vec F S256x128 .f32) : List (Piece (Elt F) S1024x128 .f32) := [⟨rM3, p3⟩, ⟨rM2, p2⟩, ⟨rM1, p1⟩, ⟨rM0, p0⟩]
abbrev pcsA (p0 p1 p2 p3 : Vec F S256x256 .f32) : List (Piece (Elt F) S1024x256 .f32) := [⟨rA3, p3⟩, ⟨rA2, p2⟩, ⟨rA1, p1⟩, ⟨rA0, p0⟩]
abbrev pcsS (p0 p1 p2 p3 : Vec F S256x512 .f32) : List (Piece (Elt F) S1024x512 .f32) := [⟨rS3, p3⟩, ⟨rS2, p2⟩, ⟨rS1, p1⟩, ⟨rS0, p0⟩]

theorem covM (p0 p1 p2 p3 : Vec F S256x128 .f32) (y) : ∃ p ∈ pcsM p0 p1 p2 p3, y ∈ p.1.set := View.cover_of_tiled (pcsM p0 p1 p2 p3) S256x128.size (by rfl) y
theorem covA (p0 p1 p2 p3 : Vec F S256x256 .f32) (y) : ∃ p ∈ pcsA p0 p1 p2 p3, y ∈ p.1.set := View.cover_of_tiled (pcsA p0 p1 p2 p3) S256x256.size (by rfl) y
theorem covS (p0 p1 p2 p3 : Vec F S256x512 .f32) (y) : ∃ p ∈ pcsS p0 p1 p2 p3, y ∈ p.1.set := View.cover_of_tiled (pcsS p0 p1 p2 p3) S256x512.size (by rfl) y

/-! ## One block's update -/

/-- The new maximum of a quarter of the rows, from its scores and the old maximum. -/
def mN (s : Vec F S256x512 .f32) (m : Vec F S256x128 .f32) : Vec F S256x128 .f32 := k0_pay26 s m
/-- The new sums of a quarter of the rows: the old ones rescaled, and the block's weighted values added. -/
def aN (va : FVec F S512x256 .bf16) (s : Vec F S256x512 .f32) (m : Vec F S256x128 .f32) (a : Vec F S256x256 .f32) : Vec F S256x256 .f32 := k0_pay38 s va m a
/-- A block of values with a block of ones on its right. -/
def vA (v19 : FVec F S512x128 .bf16) (vb : Vec F S1x512x128 .bf16) : FVec F S512x256 .bf16 := k0_pay23 v19 vb

/-- The scores of the stacked queries against a block of keys. -/
def sc (v10 : FVec F S1024x128 .bf16) (kb : Vec F S1x512x128 .bf16) : S1024x512.Idx → Elt F .f32 :=
  canon (pcsS (k0_pay19 v10 kb) (k0_pay20 v10 kb) (k0_pay21 v10 kb) (k0_pay22 v10 kb))
/-- The maximum after a block of scores. -/
def upM (S : S1024x512.Idx → Elt F .f32) (M : S1024x128.Idx → Elt F .f32) : S1024x128.Idx → Elt F .f32 :=
  canon (pcsM (mN (ld S rS0) (ld M rM0)) (mN (ld S rS1) (ld M rM1)) (mN (ld S rS2) (ld M rM2)) (mN (ld S rS3) (ld M rM3)))
/-- The sums after a block of scores. -/
def upA (va : FVec F S512x256 .bf16) (S : S1024x512.Idx → Elt F .f32) (M : S1024x128.Idx → Elt F .f32) (A : S1024x256.Idx → Elt F .f32) :
    S1024x256.Idx → Elt F .f32 :=
  canon (pcsA (aN va (ld S rS0) (ld M rM0) (ld A rA0)) (aN va (ld S rS1) (ld M rM1) (ld A rA1))
    (aN va (ld S rS2) (ld M rM2) (ld A rA2)) (aN va (ld S rS3) (ld M rM3) (ld A rA3)))

/-! ## The blocks of keys and values -/

theorem cR_inb (j : ℕ) : ∀ a, (![0, 512 * (j % 16), 0] : Fin 3 → ℕ) a + S1x512x128.size a ≤ S1x8192x128.size a := by
  intro a; fin_cases a
  · show 0 + 1 ≤ 1; omega
  · show 512 * (j % 16) + 512 ≤ 8192; omega
  · show 0 + 128 ≤ 128; omega
/-- Block `j` of the keys (or values). -/
abbrev cR (j : ℕ) : Rect S1x8192x128 := Rect.unit (s := S1x8192x128) ![0, 512 * (j % 16), 0] S1x512x128.size (cR_inb j)
def blk (X : S1x8192x128.Idx → Elt F .bf16) (j : ℕ) : Vec F S1x512x128 .bf16 := ld X (cR j)

/-- The scores of the diagonal block, masked. -/
def tS (i : grid0.Coords) (v10 : FVec F S1024x128 .bf16) (kb : Vec F S1x512x128 .bf16) : S1024x512.Idx → Elt F .f32 :=
  let v20 : BitVec 32 := Scalar.muli (BitVec.ofNat 32 (i 2).val) 512#32
  let v61 : BitVec 32 := BitVec.ofNat 32 (512 * (i 2).val)
  canon (pcsS (k0_pay91 v20 v61 (k0_pay88 v10 kb)) (k0_pay92 v20 v61 (k0_pay89 v10 kb)) (k0_pay93 v20 v61 (k0_pay87 kb) (k0_pay90 v10)) (k0_pay94 v10 v20 v61 (k0_pay87 kb)))

/-- The maximum and the sums after the diagonal block and the first `j` blocks. -/
def stM (i : grid0.Coords) (v10 : FVec F S1024x128 .bf16) (XK : S1x8192x128.Idx → Elt F .bf16) : ℕ → S1024x128.Idx → Elt F .f32
  | 0 => upM (tS i v10 (blk XK (i 2).val)) k0_pay79
  | j + 1 => upM (sc v10 (blk XK j)) (stM i v10 XK j)
def stA (i : grid0.Coords) (v10 : FVec F S1024x128 .bf16) (v19 : FVec F S512x128 .bf16) (XK XV : S1x8192x128.Idx → Elt F .bf16) : ℕ → S1024x256.Idx → Elt F .f32
  | 0 => upA (vA v19 (blk XV (i 2).val)) (tS i v10 (blk XK (i 2).val)) k0_pay79 k0_pay80
  | j + 1 => upA (vA v19 (blk XV j)) (sc v10 (blk XK j)) (stM i v10 XK j) (stA i v10 v19 XK XV j)

/-! ## Reading a quarter back -/

theorem ld_canon_head {S : Shape} {e : EltTy} (r : Rect S) (w : r.shape.Idx → Elt F e) (L : List (Piece (Elt F) S e)) :
    ld (canon (⟨r, w⟩ :: L)) r = w := funext fun x => View.canon_cons_emb r w L x
theorem ld_canon_tail {S : Shape} {e : EltTy} (p : Piece (Elt F) S e) (L : List (Piece (Elt F) S e)) (r : Rect S) (h : Disjoint p.1.set r.set) :
    ld (canon (p :: L)) r = ld (canon L) r :=
  funext fun x => View.canon_cons_of_not_mem p L (Finset.disjoint_right.mp h (r.idx_mem x))

theorem dj_M10 : Disjoint rM1.set rM0.set := Rect.disjoint_of_separated _ _ 0 (by decide)
theorem dj_M20 : Disjoint rM2.set rM0.set := Rect.disjoint_of_separated _ _ 0 (by decide)
theorem dj_M21 : Disjoint rM2.set rM1.set := Rect.disjoint_of_separated _ _ 0 (by decide)
theorem dj_M30 : Disjoint rM3.set rM0.set := Rect.disjoint_of_separated _ _ 0 (by decide)
theorem dj_M31 : Disjoint rM3.set rM1.set := Rect.disjoint_of_separated _ _ 0 (by decide)
theorem dj_M32 : Disjoint rM3.set rM2.set := Rect.disjoint_of_separated _ _ 0 (by decide)
theorem ld_M0 (p0 p1 p2 p3 : Vec F S256x128 .f32) : ld (canon (pcsM p0 p1 p2 p3)) rM0 = p0 := by
  rw [ld_canon_tail ⟨rM3, p3⟩ _ rM0 dj_M30]
  rw [ld_canon_tail ⟨rM2, p2⟩ _ rM0 dj_M20]
  rw [ld_canon_tail ⟨rM1, p1⟩ _ rM0 dj_M10]
  exact ld_canon_head _ _ _
theorem ld_M1 (p0 p1 p2 p3 : Vec F S256x128 .f32) : ld (canon (pcsM p0 p1 p2 p3)) rM1 = p1 := by
  rw [ld_canon_tail ⟨rM3, p3⟩ _ rM1 dj_M31]
  rw [ld_canon_tail ⟨rM2, p2⟩ _ rM1 dj_M21]
  exact ld_canon_head _ _ _
theorem ld_M2 (p0 p1 p2 p3 : Vec F S256x128 .f32) : ld (canon (pcsM p0 p1 p2 p3)) rM2 = p2 := by
  rw [ld_canon_tail ⟨rM3, p3⟩ _ rM2 dj_M32]
  exact ld_canon_head _ _ _
theorem ld_M3 (p0 p1 p2 p3 : Vec F S256x128 .f32) : ld (canon (pcsM p0 p1 p2 p3)) rM3 = p3 := by
  exact ld_canon_head _ _ _
theorem dj_A10 : Disjoint rA1.set rA0.set := Rect.disjoint_of_separated _ _ 0 (by decide)
theorem dj_A20 : Disjoint rA2.set rA0.set := Rect.disjoint_of_separated _ _ 0 (by decide)
theorem dj_A21 : Disjoint rA2.set rA1.set := Rect.disjoint_of_separated _ _ 0 (by decide)
theorem dj_A30 : Disjoint rA3.set rA0.set := Rect.disjoint_of_separated _ _ 0 (by decide)
theorem dj_A31 : Disjoint rA3.set rA1.set := Rect.disjoint_of_separated _ _ 0 (by decide)
theorem dj_A32 : Disjoint rA3.set rA2.set := Rect.disjoint_of_separated _ _ 0 (by decide)
theorem ld_A0 (p0 p1 p2 p3 : Vec F S256x256 .f32) : ld (canon (pcsA p0 p1 p2 p3)) rA0 = p0 := by
  rw [ld_canon_tail ⟨rA3, p3⟩ _ rA0 dj_A30]
  rw [ld_canon_tail ⟨rA2, p2⟩ _ rA0 dj_A20]
  rw [ld_canon_tail ⟨rA1, p1⟩ _ rA0 dj_A10]
  exact ld_canon_head _ _ _
theorem ld_A1 (p0 p1 p2 p3 : Vec F S256x256 .f32) : ld (canon (pcsA p0 p1 p2 p3)) rA1 = p1 := by
  rw [ld_canon_tail ⟨rA3, p3⟩ _ rA1 dj_A31]
  rw [ld_canon_tail ⟨rA2, p2⟩ _ rA1 dj_A21]
  exact ld_canon_head _ _ _
theorem ld_A2 (p0 p1 p2 p3 : Vec F S256x256 .f32) : ld (canon (pcsA p0 p1 p2 p3)) rA2 = p2 := by
  rw [ld_canon_tail ⟨rA3, p3⟩ _ rA2 dj_A32]
  exact ld_canon_head _ _ _
theorem ld_A3 (p0 p1 p2 p3 : Vec F S256x256 .f32) : ld (canon (pcsA p0 p1 p2 p3)) rA3 = p3 := by
  exact ld_canon_head _ _ _
theorem dj_S10 : Disjoint rS1.set rS0.set := Rect.disjoint_of_separated _ _ 0 (by decide)
theorem dj_S20 : Disjoint rS2.set rS0.set := Rect.disjoint_of_separated _ _ 0 (by decide)
theorem dj_S21 : Disjoint rS2.set rS1.set := Rect.disjoint_of_separated _ _ 0 (by decide)
theorem dj_S30 : Disjoint rS3.set rS0.set := Rect.disjoint_of_separated _ _ 0 (by decide)
theorem dj_S31 : Disjoint rS3.set rS1.set := Rect.disjoint_of_separated _ _ 0 (by decide)
theorem dj_S32 : Disjoint rS3.set rS2.set := Rect.disjoint_of_separated _ _ 0 (by decide)
theorem ld_S0 (p0 p1 p2 p3 : Vec F S256x512 .f32) : ld (canon (pcsS p0 p1 p2 p3)) rS0 = p0 := by
  rw [ld_canon_tail ⟨rS3, p3⟩ _ rS0 dj_S30]
  rw [ld_canon_tail ⟨rS2, p2⟩ _ rS0 dj_S20]
  rw [ld_canon_tail ⟨rS1, p1⟩ _ rS0 dj_S10]
  exact ld_canon_head _ _ _
theorem ld_S1 (p0 p1 p2 p3 : Vec F S256x512 .f32) : ld (canon (pcsS p0 p1 p2 p3)) rS1 = p1 := by
  rw [ld_canon_tail ⟨rS3, p3⟩ _ rS1 dj_S31]
  rw [ld_canon_tail ⟨rS2, p2⟩ _ rS1 dj_S21]
  exact ld_canon_head _ _ _
theorem ld_S2 (p0 p1 p2 p3 : Vec F S256x512 .f32) : ld (canon (pcsS p0 p1 p2 p3)) rS2 = p2 := by
  rw [ld_canon_tail ⟨rS3, p3⟩ _ rS2 dj_S32]
  exact ld_canon_head _ _ _
theorem ld_S3 (p0 p1 p2 p3 : Vec F S256x512 .f32) : ld (canon (pcsS p0 p1 p2 p3)) rS3 = p3 := by
  exact ld_canon_head _ _ _

/-! ## Reading a quarter back from the run's list of writes -/

theorem rc_head {S : Shape} {e : EltTy} (M : Memref sig .tc .vmem S e) (r : Rect S) (w : r.shape.Idx → Elt F e) (L : List (Piece (Elt F) S e)) :
    M.view.readCov (⟨r, w⟩ :: L) r.toLoadRect = w :=
  (View.readCov_eq_canon' _ _ _).trans (funext fun x => View.canon_cons_emb r w L x)
theorem rc_tail {S : Shape} {e : EltTy} (M : Memref sig .tc .vmem S e) (p : Piece (Elt F) S e) (L : List (Piece (Elt F) S e)) (r : Rect S) (h : Disjoint p.1.set r.set) :
    M.view.readCov (p :: L) r.toLoadRect = M.view.readCov L r.toLoadRect := by
  rw [View.readCov_eq_canon', View.readCov_eq_canon']
  exact funext fun x => View.canon_cons_of_not_mem p L (Finset.disjoint_right.mp h (r.idx_mem x))
theorem rcM0 (M : Memref sig .tc .vmem S1024x128 .f32) (p0 p1 p2 p3 : Vec F S256x128 .f32) (L : List (Piece (Elt F) S1024x128 .f32)) :
    M.view.readCov (⟨rM3, p3⟩ :: ⟨rM2, p2⟩ :: ⟨rM1, p1⟩ :: ⟨rM0, p0⟩ :: L) rM0.toLoadRect = p0 := by
  rw [rc_tail M ⟨rM3, p3⟩ _ rM0 dj_M30]
  rw [rc_tail M ⟨rM2, p2⟩ _ rM0 dj_M20]
  rw [rc_tail M ⟨rM1, p1⟩ _ rM0 dj_M10]
  exact rc_head _ _ _ _
theorem rcM1 (M : Memref sig .tc .vmem S1024x128 .f32) (p0 p1 p2 p3 : Vec F S256x128 .f32) (L : List (Piece (Elt F) S1024x128 .f32)) :
    M.view.readCov (⟨rM0, p0⟩ :: ⟨rM3, p3⟩ :: ⟨rM2, p2⟩ :: ⟨rM1, p1⟩ :: L) rM1.toLoadRect = p1 := by
  rw [rc_tail M ⟨rM0, p0⟩ _ rM1 dj_M10.symm]
  rw [rc_tail M ⟨rM3, p3⟩ _ rM1 dj_M31]
  rw [rc_tail M ⟨rM2, p2⟩ _ rM1 dj_M21]
  exact rc_head _ _ _ _
theorem rcM2 (M : Memref sig .tc .vmem S1024x128 .f32) (p0 p1 p2 p3 : Vec F S256x128 .f32) (L : List (Piece (Elt F) S1024x128 .f32)) :
    M.view.readCov (⟨rM1, p1⟩ :: ⟨rM0, p0⟩ :: ⟨rM3, p3⟩ :: ⟨rM2, p2⟩ :: L) rM2.toLoadRect = p2 := by
  rw [rc_tail M ⟨rM1, p1⟩ _ rM2 dj_M21.symm]
  rw [rc_tail M ⟨rM0, p0⟩ _ rM2 dj_M20.symm]
  rw [rc_tail M ⟨rM3, p3⟩ _ rM2 dj_M32]
  exact rc_head _ _ _ _
theorem rcM3 (M : Memref sig .tc .vmem S1024x128 .f32) (p0 p1 p2 p3 : Vec F S256x128 .f32) (L : List (Piece (Elt F) S1024x128 .f32)) :
    M.view.readCov (⟨rM2, p2⟩ :: ⟨rM1, p1⟩ :: ⟨rM0, p0⟩ :: ⟨rM3, p3⟩ :: L) rM3.toLoadRect = p3 := by
  rw [rc_tail M ⟨rM2, p2⟩ _ rM3 dj_M32.symm]
  rw [rc_tail M ⟨rM1, p1⟩ _ rM3 dj_M31.symm]
  rw [rc_tail M ⟨rM0, p0⟩ _ rM3 dj_M30.symm]
  exact rc_head _ _ _ _
abbrev rWM : Rect S1024x128 := Rect.unit (s := S1024x128) ![0, 0] S1024x128.size inb_S1024x128_S1024x128_0_0
theorem rc_wholeM (M : Memref sig .tc .vmem S1024x128 .f32) (z : S1024x128.Idx → Elt F .f32) (L : List (Piece (Elt F) S1024x128 .f32)) (r : Rect S1024x128) :
    M.view.readCov (⟨rWM, z⟩ :: L) r.toLoadRect = ld z r := by
  rw [View.readCov_eq_canon']
  refine funext fun x => ?_
  exact congrFun (View.canon_cons_unit_lit (S := S1024x128) inb_S1024x128_S1024x128_0_0 z L (fun a => by fin_cases a <;> rfl)) _
theorem whM0 (M : Memref sig .tc .vmem S1024x128 .f32) (z : S1024x128.Idx → Elt F .f32) (L : List (Piece (Elt F) S1024x128 .f32)) :
    M.view.readCov (⟨rWM, z⟩ :: L) rM0.toLoadRect = ld z rM0 := by
  exact rc_wholeM M z L rM0
theorem whM1 (M : Memref sig .tc .vmem S1024x128 .f32) (p0 : Vec F S256x128 .f32) (z : S1024x128.Idx → Elt F .f32) (L : List (Piece (Elt F) S1024x128 .f32)) :
    M.view.readCov (⟨rM0, p0⟩ :: ⟨rWM, z⟩ :: L) rM1.toLoadRect = ld z rM1 := by
  rw [rc_tail M ⟨rM0, p0⟩ _ rM1 dj_M10.symm]
  exact rc_wholeM M z L rM1
theorem whM2 (M : Memref sig .tc .vmem S1024x128 .f32) (p0 p1 : Vec F S256x128 .f32) (z : S1024x128.Idx → Elt F .f32) (L : List (Piece (Elt F) S1024x128 .f32)) :
    M.view.readCov (⟨rM1, p1⟩ :: ⟨rM0, p0⟩ :: ⟨rWM, z⟩ :: L) rM2.toLoadRect = ld z rM2 := by
  rw [rc_tail M ⟨rM1, p1⟩ _ rM2 dj_M21.symm]
  rw [rc_tail M ⟨rM0, p0⟩ _ rM2 dj_M20.symm]
  exact rc_wholeM M z L rM2
theorem whM3 (M : Memref sig .tc .vmem S1024x128 .f32) (p0 p1 p2 : Vec F S256x128 .f32) (z : S1024x128.Idx → Elt F .f32) (L : List (Piece (Elt F) S1024x128 .f32)) :
    M.view.readCov (⟨rM2, p2⟩ :: ⟨rM1, p1⟩ :: ⟨rM0, p0⟩ :: ⟨rWM, z⟩ :: L) rM3.toLoadRect = ld z rM3 := by
  rw [rc_tail M ⟨rM2, p2⟩ _ rM3 dj_M32.symm]
  rw [rc_tail M ⟨rM1, p1⟩ _ rM3 dj_M31.symm]
  rw [rc_tail M ⟨rM0, p0⟩ _ rM3 dj_M30.symm]
  exact rc_wholeM M z L rM3
theorem rcA0 (M : Memref sig .tc .vmem S1024x256 .f32) (p0 p1 p2 p3 : Vec F S256x256 .f32) (L : List (Piece (Elt F) S1024x256 .f32)) :
    M.view.readCov (⟨rA3, p3⟩ :: ⟨rA2, p2⟩ :: ⟨rA1, p1⟩ :: ⟨rA0, p0⟩ :: L) rA0.toLoadRect = p0 := by
  rw [rc_tail M ⟨rA3, p3⟩ _ rA0 dj_A30]
  rw [rc_tail M ⟨rA2, p2⟩ _ rA0 dj_A20]
  rw [rc_tail M ⟨rA1, p1⟩ _ rA0 dj_A10]
  exact rc_head _ _ _ _
theorem rcA1 (M : Memref sig .tc .vmem S1024x256 .f32) (p0 p1 p2 p3 : Vec F S256x256 .f32) (L : List (Piece (Elt F) S1024x256 .f32)) :
    M.view.readCov (⟨rA0, p0⟩ :: ⟨rA3, p3⟩ :: ⟨rA2, p2⟩ :: ⟨rA1, p1⟩ :: L) rA1.toLoadRect = p1 := by
  rw [rc_tail M ⟨rA0, p0⟩ _ rA1 dj_A10.symm]
  rw [rc_tail M ⟨rA3, p3⟩ _ rA1 dj_A31]
  rw [rc_tail M ⟨rA2, p2⟩ _ rA1 dj_A21]
  exact rc_head _ _ _ _
theorem rcA2 (M : Memref sig .tc .vmem S1024x256 .f32) (p0 p1 p2 p3 : Vec F S256x256 .f32) (L : List (Piece (Elt F) S1024x256 .f32)) :
    M.view.readCov (⟨rA1, p1⟩ :: ⟨rA0, p0⟩ :: ⟨rA3, p3⟩ :: ⟨rA2, p2⟩ :: L) rA2.toLoadRect = p2 := by
  rw [rc_tail M ⟨rA1, p1⟩ _ rA2 dj_A21.symm]
  rw [rc_tail M ⟨rA0, p0⟩ _ rA2 dj_A20.symm]
  rw [rc_tail M ⟨rA3, p3⟩ _ rA2 dj_A32]
  exact rc_head _ _ _ _
theorem rcA3 (M : Memref sig .tc .vmem S1024x256 .f32) (p0 p1 p2 p3 : Vec F S256x256 .f32) (L : List (Piece (Elt F) S1024x256 .f32)) :
    M.view.readCov (⟨rA2, p2⟩ :: ⟨rA1, p1⟩ :: ⟨rA0, p0⟩ :: ⟨rA3, p3⟩ :: L) rA3.toLoadRect = p3 := by
  rw [rc_tail M ⟨rA2, p2⟩ _ rA3 dj_A32.symm]
  rw [rc_tail M ⟨rA1, p1⟩ _ rA3 dj_A31.symm]
  rw [rc_tail M ⟨rA0, p0⟩ _ rA3 dj_A30.symm]
  exact rc_head _ _ _ _
abbrev rWA : Rect S1024x256 := Rect.unit (s := S1024x256) ![0, 0] S1024x256.size inb_S1024x256_S1024x256_0_0
theorem rc_wholeA (M : Memref sig .tc .vmem S1024x256 .f32) (z : S1024x256.Idx → Elt F .f32) (L : List (Piece (Elt F) S1024x256 .f32)) (r : Rect S1024x256) :
    M.view.readCov (⟨rWA, z⟩ :: L) r.toLoadRect = ld z r := by
  rw [View.readCov_eq_canon']
  refine funext fun x => ?_
  exact congrFun (View.canon_cons_unit_lit (S := S1024x256) inb_S1024x256_S1024x256_0_0 z L (fun a => by fin_cases a <;> rfl)) _
theorem whA0 (M : Memref sig .tc .vmem S1024x256 .f32) (z : S1024x256.Idx → Elt F .f32) (L : List (Piece (Elt F) S1024x256 .f32)) :
    M.view.readCov (⟨rWA, z⟩ :: L) rA0.toLoadRect = ld z rA0 := by
  exact rc_wholeA M z L rA0
theorem whA1 (M : Memref sig .tc .vmem S1024x256 .f32) (p0 : Vec F S256x256 .f32) (z : S1024x256.Idx → Elt F .f32) (L : List (Piece (Elt F) S1024x256 .f32)) :
    M.view.readCov (⟨rA0, p0⟩ :: ⟨rWA, z⟩ :: L) rA1.toLoadRect = ld z rA1 := by
  rw [rc_tail M ⟨rA0, p0⟩ _ rA1 dj_A10.symm]
  exact rc_wholeA M z L rA1
theorem whA2 (M : Memref sig .tc .vmem S1024x256 .f32) (p0 p1 : Vec F S256x256 .f32) (z : S1024x256.Idx → Elt F .f32) (L : List (Piece (Elt F) S1024x256 .f32)) :
    M.view.readCov (⟨rA1, p1⟩ :: ⟨rA0, p0⟩ :: ⟨rWA, z⟩ :: L) rA2.toLoadRect = ld z rA2 := by
  rw [rc_tail M ⟨rA1, p1⟩ _ rA2 dj_A21.symm]
  rw [rc_tail M ⟨rA0, p0⟩ _ rA2 dj_A20.symm]
  exact rc_wholeA M z L rA2
theorem whA3 (M : Memref sig .tc .vmem S1024x256 .f32) (p0 p1 p2 : Vec F S256x256 .f32) (z : S1024x256.Idx → Elt F .f32) (L : List (Piece (Elt F) S1024x256 .f32)) :
    M.view.readCov (⟨rA2, p2⟩ :: ⟨rA1, p1⟩ :: ⟨rA0, p0⟩ :: ⟨rWA, z⟩ :: L) rA3.toLoadRect = ld z rA3 := by
  rw [rc_tail M ⟨rA2, p2⟩ _ rA3 dj_A32.symm]
  rw [rc_tail M ⟨rA1, p1⟩ _ rA3 dj_A31.symm]
  rw [rc_tail M ⟨rA0, p0⟩ _ rA3 dj_A30.symm]
  exact rc_wholeA M z L rA3
theorem rcS0 (M : Memref sig .tc .vmem S1024x512 .f32) (p0 p1 p2 p3 : Vec F S256x512 .f32) (L : List (Piece (Elt F) S1024x512 .f32)) :
    M.view.readCov (⟨rS3, p3⟩ :: ⟨rS2, p2⟩ :: ⟨rS1, p1⟩ :: ⟨rS0, p0⟩ :: L) rS0.toLoadRect = p0 := by
  rw [rc_tail M ⟨rS3, p3⟩ _ rS0 dj_S30]
  rw [rc_tail M ⟨rS2, p2⟩ _ rS0 dj_S20]
  rw [rc_tail M ⟨rS1, p1⟩ _ rS0 dj_S10]
  exact rc_head _ _ _ _
theorem rcS1 (M : Memref sig .tc .vmem S1024x512 .f32) (p0 p1 p2 p3 : Vec F S256x512 .f32) (L : List (Piece (Elt F) S1024x512 .f32)) :
    M.view.readCov (⟨rS0, p0⟩ :: ⟨rS3, p3⟩ :: ⟨rS2, p2⟩ :: ⟨rS1, p1⟩ :: L) rS1.toLoadRect = p1 := by
  rw [rc_tail M ⟨rS0, p0⟩ _ rS1 dj_S10.symm]
  rw [rc_tail M ⟨rS3, p3⟩ _ rS1 dj_S31]
  rw [rc_tail M ⟨rS2, p2⟩ _ rS1 dj_S21]
  exact rc_head _ _ _ _
theorem rcS2 (M : Memref sig .tc .vmem S1024x512 .f32) (p0 p1 p2 p3 : Vec F S256x512 .f32) (L : List (Piece (Elt F) S1024x512 .f32)) :
    M.view.readCov (⟨rS1, p1⟩ :: ⟨rS0, p0⟩ :: ⟨rS3, p3⟩ :: ⟨rS2, p2⟩ :: L) rS2.toLoadRect = p2 := by
  rw [rc_tail M ⟨rS1, p1⟩ _ rS2 dj_S21.symm]
  rw [rc_tail M ⟨rS0, p0⟩ _ rS2 dj_S20.symm]
  rw [rc_tail M ⟨rS3, p3⟩ _ rS2 dj_S32]
  exact rc_head _ _ _ _
theorem rcS3 (M : Memref sig .tc .vmem S1024x512 .f32) (p0 p1 p2 p3 : Vec F S256x512 .f32) (L : List (Piece (Elt F) S1024x512 .f32)) :
    M.view.readCov (⟨rS2, p2⟩ :: ⟨rS1, p1⟩ :: ⟨rS0, p0⟩ :: ⟨rS3, p3⟩ :: L) rS3.toLoadRect = p3 := by
  rw [rc_tail M ⟨rS2, p2⟩ _ rS3 dj_S32.symm]
  rw [rc_tail M ⟨rS1, p1⟩ _ rS3 dj_S31.symm]
  rw [rc_tail M ⟨rS0, p0⟩ _ rS3 dj_S30.symm]
  exact rc_head _ _ _ _
theorem rcS1' (M : Memref sig .tc .vmem S1024x512 .f32) (p0 p1 p2 p3 : Vec F S256x512 .f32) (L : List (Piece (Elt F) S1024x512 .f32)) :
    M.view.readCov (⟨rS3, p3⟩ :: ⟨rS2, p2⟩ :: ⟨rS1, p1⟩ :: ⟨rS0, p0⟩ :: L) rS1.toLoadRect = p1 := by
  rw [rc_tail M ⟨rS3, p3⟩ _ rS1 dj_S31]
  rw [rc_tail M ⟨rS2, p2⟩ _ rS1 dj_S21]
  exact rc_head _ _ _ _
theorem rcS2' (M : Memref sig .tc .vmem S1024x512 .f32) (p0 p1 p2 p3 : Vec F S256x512 .f32) (L : List (Piece (Elt F) S1024x512 .f32)) :
    M.view.readCov (⟨rS3, p3⟩ :: ⟨rS2, p2⟩ :: ⟨rS1, p1⟩ :: ⟨rS0, p0⟩ :: L) rS2.toLoadRect = p2 := by
  rw [rc_tail M ⟨rS3, p3⟩ _ rS2 dj_S32]
  exact rc_head _ _ _ _
theorem rcS3' (M : Memref sig .tc .vmem S1024x512 .f32) (p0 p1 p2 p3 : Vec F S256x512 .f32) (L : List (Piece (Elt F) S1024x512 .f32)) :
    M.view.readCov (⟨rS3, p3⟩ :: ⟨rS2, p2⟩ :: ⟨rS1, p1⟩ :: ⟨rS0, p0⟩ :: L) rS3.toLoadRect = p3 := by
  exact rc_head _ _ _ _

theorem mN_congr {s s' : Vec F S256x512 .f32} {m m' : Vec F S256x128 .f32} (hs : s = s') (hm : m = m') : mN s m = mN s' m' := by rw [hs, hm]
theorem aN_congr (va : FVec F S512x256 .bf16) {s s' : Vec F S256x512 .f32} {m m' : Vec F S256x128 .f32} {a a' : Vec F S256x256 .f32} (hs : s = s') (hm : m = m') (ha : a = a') :
    aN va s m a = aN va s' m' a' := by rw [hs, hm, ha]
theorem pcsM_congr {p0 p1 p2 p3 q0 q1 q2 q3 : Vec F S256x128 .f32} (h0 : p0 = q0) (h1 : p1 = q1) (h2 : p2 = q2) (h3 : p3 = q3) : canon (pcsM p0 p1 p2 p3) = canon (pcsM q0 q1 q2 q3) := by rw [h0, h1, h2, h3]
theorem pcsA_congr {p0 p1 p2 p3 q0 q1 q2 q3 : Vec F S256x256 .f32} (h0 : p0 = q0) (h1 : p1 = q1) (h2 : p2 = q2) (h3 : p3 = q3) : canon (pcsA p0 p1 p2 p3) = canon (pcsA q0 q1 q2 q3) := by rw [h0, h1, h2, h3]

end Cert.AttnI

end
-- ==== Proof.AttnI.Trip.lean ====
/-
  One trip of the loop over pairs of blocks: from the state before the pair to the state after it.
-/
module

public import proofs.«01_k».proof.Proof.AttnI.State

@[expose] public section

set_option maxRecDepth 16384

noncomputable section

namespace Cert.AttnI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open View (Piece canon ld)

variable {F : FTy → Type} [FloatOps F] [Named F]

local notation "𝕄" => MT nD τ sig Unit (Elt F) ℕ (UR sig nD τ) ℕ

abbrev 𝒱₀ : Variants := Variants.none

/-- A memref's buffer at contents `f`. -/
abbrev pt (c : Dev nD) {S : Shape} {e : EltTy} (M : Memref sig .tc .vmem S e) (f : Buf (Elt F) (M.view.loc (c : Thread nD τ))) : sProp 𝕄 :=
  M.view.loc (c : Thread nD τ) ↦[M.view.set]{fullShare} f
/-- A memref's buffer at contents that read `X`. -/
abbrev ow (c : Dev nD) {S : Shape} {e : EltTy} (M : Memref sig .tc .vmem S e) (X : S.Idx → Elt F e) : sProp 𝕄 :=
  owns (c : Thread nD τ) M fullShare X

/-- Reading four pieces that cover the rows, written over anything. -/
theorem rdM (M : Memref sig .tc .vmem S1024x128 .f32) (f : M.view.ty.Contents (Elt F)) (p0 p1 p2 p3 : Vec F S256x128 .f32) (L : List (Piece (Elt F) S1024x128 .f32)) :
    M.view.read (Elt F) (M.view.writes (Elt F) f (⟨rM3, p3⟩ :: ⟨rM2, p2⟩ :: ⟨rM1, p1⟩ :: ⟨rM0, p0⟩ :: L)) = canon (pcsM p0 p1 p2 p3) :=
  (congrArg _ (View.writes_append M.view f (pcsM p0 p1 p2 p3) L)).trans (View.read_writes_eq_canon _ _ _ (covM _ _ _ _))
theorem rdA (M : Memref sig .tc .vmem S1024x256 .f32) (f : M.view.ty.Contents (Elt F)) (p0 p1 p2 p3 : Vec F S256x256 .f32) (L : List (Piece (Elt F) S1024x256 .f32)) :
    M.view.read (Elt F) (M.view.writes (Elt F) f (⟨rA3, p3⟩ :: ⟨rA2, p2⟩ :: ⟨rA1, p1⟩ :: ⟨rA0, p0⟩ :: L)) = canon (pcsA p0 p1 p2 p3) :=
  (congrArg _ (View.writes_append M.view f (pcsA p0 p1 p2 p3) L)).trans (View.read_writes_eq_canon _ _ _ (covA _ _ _ _))

section
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x512x128 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x512 .f32) (harg11 : arg11.IsWhole) (arg12 : Memref sig .tc .vmem S1024x512 .f32) (harg12 : arg12.IsWhole)

/-- A trip whose inner condition fails takes one block in. -/
theorem tripN (v10 : FVec F S1024x128 .bf16) (v19 : FVec F S512x128 .bf16) (v37 : BitVec 32) (v237 : BitVec 32) (c2_i32 : BitVec 32) (v238 : BitVec 32) (v243 : BitVec 32) (v244 : BitVec 1)
   (k : Fin (k0_t1_loop i).trips) (hk : ¬ k0_cond1 i k = 1#1)
   (X6 X7 : S1x8192x128.Idx → Elt F .bf16) (M : S1024x128.Idx → Elt F .f32) (A : S1024x256.Idx → Elt F .f32) (S : S1024x512.Idx → Elt F .f32) :
   iprop(ow c arg6 X6 ∗ ow c arg7 X7 ∗ ow c arg9 M ∗ ow c arg10 A ∗ ow c arg11 S ∗ ∃ d, ow c arg12 d)
    ⊢ wp frame (wpE (defs₀ (F := F)) 𝒱₀ (c : Thread nD τ) none) Set.univ
       (k0_t1_body i arg3 harg3 arg4 harg4 arg5 harg5 arg6 harg6 arg7 harg7 arg8 harg8 arg9 harg9 arg10 harg10 arg11 harg11 arg12 harg12 v10 v19 v37 v237 c2_i32 v238 v243 v244 k ())
       (fun _ => iprop(ow c arg6 X6 ∗ ow c arg7 X7 ∗ ow c arg9 (upM S M)
         ∗ ow c arg10 (upA (vA v19 (ld X7 (Rect.unit (s := S1x8192x128) (k0_off3 i k) S1x512x128.size (k0_off3_inb i k)))) S M A) ∗ ow c arg11 S ∗ ∃ d, ow c arg12 d)) := by
  unfold k0_t1_body ow owns
  iintro ⟨⟨%f6, %e6, H6⟩, ⟨%f7, %e7, H7⟩, ⟨%f9, %e9, H9⟩, ⟨%f10, %e10, H10⟩, ⟨%f11, %e11, H11⟩, ⟨%d12, %f12, -, H12⟩⟩
  sl_exec
  rw [wp_ret]; imodintro
  isplitl [H6]; · iexists f6; isplitr; · ipureintro; exact e6
                  iexact H6
  isplitl [H7]; · iexists f7; isplitr; · ipureintro; exact e7
                  iexact H7
  isplitl [H9]
  · iexists _; isplitr
    swap; · iexact H9
    ipureintro
    refine (View.read_writes_eq_canon _ _ _ (covM _ _ _ _)).trans ?_
    subst e9 e11
    rfl
  isplitl [H10]
  · iexists _; isplitr
    swap; · iexact H10
    ipureintro
    refine (View.read_writes_eq_canon _ _ _ (covA _ _ _ _)).trans ?_
    subst e7 e9 e10 e11
    rfl
  isplitl [H11]; · iexists f11; isplitr; · ipureintro; exact e11
                   iexact H11
  iexists _; iexists _; isplitr
  swap; · iexact H12
  ipureintro; rfl

/-- A trip whose inner condition holds takes two blocks in and stages the next one's scores. -/
theorem tripC (v10 : FVec F S1024x128 .bf16) (v19 : FVec F S512x128 .bf16) (v37 : BitVec 32) (v237 : BitVec 32) (c2_i32 : BitVec 32) (v238 : BitVec 32) (v243 : BitVec 32) (v244 : BitVec 1)
   (k : Fin (k0_t1_loop i).trips) (hk : k0_cond1 i k = 1#1)
   (X6 X7 : S1x8192x128.Idx → Elt F .bf16) (M : S1024x128.Idx → Elt F .f32) (A : S1024x256.Idx → Elt F .f32) (S : S1024x512.Idx → Elt F .f32)
   :
   iprop(ow c arg6 X6 ∗ ow c arg7 X7 ∗ ow c arg9 M ∗ ow c arg10 A ∗ ow c arg11 S ∗ ∃ d, ow c arg12 d)
    ⊢ wp frame (wpE (defs₀ (F := F)) 𝒱₀ (c : Thread nD τ) none) Set.univ
       (k0_t1_body i arg3 harg3 arg4 harg4 arg5 harg5 arg6 harg6 arg7 harg7 arg8 harg8 arg9 harg9 arg10 harg10 arg11 harg11 arg12 harg12 v10 v19 v37 v237 c2_i32 v238 v243 v244 k ())
       (fun _ => iprop(ow c arg6 X6 ∗ ow c arg7 X7 ∗ ow c arg9 (upM (sc v10 (ld X6 (Rect.unit (s := S1x8192x128) (k0_off2 i k) S1x512x128.size (k0_off2_inb i k)))) (upM S M))
         ∗ ow c arg10 (upA (vA v19 (ld X7 (Rect.unit (s := S1x8192x128) (k0_off5 i k) S1x512x128.size (k0_off5_inb i k hk)))) (sc v10 (ld X6 (Rect.unit (s := S1x8192x128) (k0_off2 i k) S1x512x128.size (k0_off2_inb i k)))) (upM S M)
            (upA (vA v19 (ld X7 (Rect.unit (s := S1x8192x128) (k0_off3 i k) S1x512x128.size (k0_off3_inb i k)))) S M A))
         ∗ ow c arg11 (sc v10 (ld X6 (Rect.unit (s := S1x8192x128) (k0_off4 i k) S1x512x128.size (k0_off4_inb i k hk)))) ∗ ∃ d, ow c arg12 d)) := by
  unfold k0_t1_body ow owns
  iintro ⟨⟨%f6, %e6, H6⟩, ⟨%f7, %e7, H7⟩, ⟨%f9, %e9, H9⟩, ⟨%f10, %e10, H10⟩, ⟨%f11, %e11, H11⟩, ⟨%d12, %f12, -, H12⟩⟩
  sl_exec
  rw [wp_ret]; imodintro
  isplitl [H6]; · iexists f6; isplitr; · ipureintro; exact e6
                  iexact H6
  isplitl [H7]; · iexists f7; isplitr; · ipureintro; exact e7
                  iexact H7
  isplitl [H9]
  · iexists _; isplitr
    swap; · iexact H9
    ipureintro
    refine (rdM _ _ _ _ _ _ _).trans ?_
    subst e6 e9 e11
    unfold upM sc
    simp only [ld_M0, ld_M1, ld_M2, ld_M3, ld_S0, ld_S1, ld_S2, ld_S3]
    refine pcsM_congr ?_ ?_ ?_ ?_
    · refine mN_congr ?_ ?_
      · exact rcS0 _ _ _ _ _ _
      · exact rcM0 _ _ _ _ _ _
    · refine mN_congr ?_ ?_
      · exact rcS1' _ _ _ _ _ _
      · exact rcM1 _ _ _ _ _ _
    · refine mN_congr ?_ ?_
      · exact rcS2' _ _ _ _ _ _
      · exact rcM2 _ _ _ _ _ _
    · refine mN_congr ?_ ?_
      · exact rcS3' _ _ _ _ _ _
      · exact rcM3 _ _ _ _ _ _
  isplitl [H10]
  · iexists _; isplitr
    swap; · iexact H10
    ipureintro
    refine (rdA _ _ _ _ _ _ _).trans ?_
    subst e6 e7 e9 e10 e11
    unfold upA upM sc
    simp only [ld_M0, ld_M1, ld_M2, ld_M3, ld_A0, ld_A1, ld_A2, ld_A3, ld_S0, ld_S1, ld_S2, ld_S3]
    refine pcsA_congr ?_ ?_ ?_ ?_
    · refine aN_congr _ ?_ ?_ ?_
      · exact rcS0 _ _ _ _ _ _
      · exact rcM0 _ _ _ _ _ _
      · exact rcA0 _ _ _ _ _ _
    · refine aN_congr _ ?_ ?_ ?_
      · exact rcS1' _ _ _ _ _ _
      · exact rcM1 _ _ _ _ _ _
      · exact rcA1 _ _ _ _ _ _
    · refine aN_congr _ ?_ ?_ ?_
      · exact rcS2' _ _ _ _ _ _
      · exact rcM2 _ _ _ _ _ _
      · exact rcA2 _ _ _ _ _ _
    · refine aN_congr _ ?_ ?_ ?_
      · exact rcS3' _ _ _ _ _ _
      · exact rcM3 _ _ _ _ _ _
      · exact rcA3 _ _ _ _ _ _
  isplitl [H11]
  · iexists _; isplitr
    swap; · iexact H11
    ipureintro
    refine (View.read_writes_eq_canon _ _ _ (covS _ _ _ _)).trans ?_
    subst e6
    rfl
  iexists _; iexists _; isplitr
  swap; · iexact H12
  ipureintro; rfl
end
end Cert.AttnI
end
-- ==== Proof.AttnI.Ctl.lean ====
/-
  The kernel's control in closed form: how often the loop over pairs of blocks runs, when its inner condition holds, and
  at which block each load stands.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.AttnI

open Cert.KernelIdeal Cert.KernelIdeal.Gen
open Idealize.ShloMosaic Idealize.ShloMosaic.TcCoe
open View (Piece canon ld)

variable {F : FTy → Type} [FloatOps F] [Named F]

/-! ## The control: trips, the inner condition, the offsets -/

theorem t1_trips : ∀ i : grid0.Coords, (k0_t1_loop i).trips = ((i 2).val + 1) / 2 := by decide +kernel
theorem t1_cond : ∀ (i : grid0.Coords) (k : Fin (k0_t1_loop i).trips), k0_cond1 i k = 1#1 ↔ 2 * k.val + 1 < (i 2).val := by decide +kernel
theorem off1_eq : ∀ i : grid0.Coords, k0_off1 i = ![0, 512 * ((i 2).val % 16), 0] := by decide +kernel
theorem off2_eq : ∀ (i : grid0.Coords) (k : Fin (k0_t1_loop i).trips) , 2 * k.val + 1 < (i 2).val → k0_off2 i k = ![0, 512 * ((2 * k.val + 1) % 16), 0] := by decide +kernel
theorem off3_eq : ∀ (i : grid0.Coords) (k : Fin (k0_t1_loop i).trips), k0_off3 i k = ![0, 512 * ((2 * k.val) % 16), 0] := by decide +kernel
theorem off4_eq : ∀ (i : grid0.Coords) (k : Fin (k0_t1_loop i).trips), 2 * k.val + 2 < (i 2).val → k0_off4 i k = ![0, 512 * ((2 * k.val + 2) % 16), 0] := by decide +kernel
theorem off5_eq : ∀ (i : grid0.Coords) (k : Fin (k0_t1_loop i).trips), k0_off5 i k = ![0, 512 * ((2 * k.val + 1) % 16), 0] := by decide +kernel

end Cert.AttnI

end
-- ==== Proof.AttnI.Loop.lean ====
/-
  The loop over the earlier blocks: its invariant, one trip, and the whole loop.
-/
module

public import proofs.«01_k».proof.Proof.AttnI.Trip
public import proofs.«01_k».proof.Proof.AttnI.Ctl

@[expose] public section

set_option maxRecDepth 16384

noncomputable section

namespace Cert.AttnI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open View (Piece canon ld)

variable {F : FTy → Type} [FloatOps F] [Named F]

local notation "𝕄" => MT nD τ sig Unit (Elt F) ℕ (UR sig nD τ) ℕ

/-- What a block reads at an offset that is the block's. -/
theorem ld_off (X : S1x8192x128.Idx → Elt F .bf16) (off : Fin 3 → ℕ) (inb) (j : ℕ) (h : off = ![0, 512 * (j % 16), 0]) :
    ld X (Rect.unit (s := S1x8192x128) off S1x512x128.size inb) = blk X j := by
  subst h; rfl

theorem t2_trips : ∀ i : grid0.Coords, (k0_t2_loop i).trips = 0 := by decide +kernel

section
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x512x128 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x512 .f32) (harg11 : arg11.IsWhole) (arg12 : Memref sig .tc .vmem S1024x512 .f32) (harg12 : arg12.IsWhole)

/-- Before trip `k`: `2 k` earlier blocks are in, or all of them; the next block's scores are staged when there is one. -/
def inv (v10 : FVec F S1024x128 .bf16) (v19 : FVec F S512x128 .bf16) (X6 X7 : S1x8192x128.Idx → Elt F .bf16) (k : ℕ) : sProp 𝕄 :=
  iprop(ow c arg6 X6 ∗ ow c arg7 X7 ∗ ow c arg9 (stM i v10 X6 (min (2 * k) (i 2).val)) ∗ ow c arg10 (stA i v10 v19 X6 X7 (min (2 * k) (i 2).val))
    ∗ (∃ S, ⌜2 * k < (i 2).val → S = sc v10 (blk X6 (2 * k))⌝ ∗ ow c arg11 S) ∗ ∃ d, ow c arg12 d)

theorem trip (v10 : FVec F S1024x128 .bf16) (v19 : FVec F S512x128 .bf16) (v37 : BitVec 32) (v237 : BitVec 32) (c2_i32 : BitVec 32) (v238 : BitVec 32) (v243 : BitVec 32) (v244 : BitVec 1)
   (X6 X7 : S1x8192x128.Idx → Elt F .bf16) (k : Fin (k0_t1_loop i).trips) :
   inv c i arg6 arg7 arg9 arg10 arg11 arg12 v10 v19 X6 X7 k.val
    ⊢ wp frame (wpE (defs₀ (F := F)) 𝒱₀ (c : Thread nD τ) none) Set.univ
       (k0_t1_body i arg3 harg3 arg4 harg4 arg5 harg5 arg6 harg6 arg7 harg7 arg8 harg8 arg9 harg9 arg10 harg10 arg11 harg11 arg12 harg12 v10 v19 v37 v237 c2_i32 v238 v243 v244 k ())
       (fun _ => inv c i arg6 arg7 arg9 arg10 arg11 arg12 v10 v19 X6 X7 (k.val + 1)) := by
  have hk : k.val < ((i 2).val + 1) / 2 := lt_of_lt_of_eq k.isLt (t1_trips i)
  have e1 : min (2 * k.val) (i 2).val = 2 * k.val := by omega
  unfold inv
  iintro ⟨H6, H7, H9, H10, ⟨%S, %hS, H11⟩, H12⟩
  have hS' := hS (by omega)
  subst hS'
  rw [e1]
  by_cases hc : k0_cond1 i k = 1#1
  · have hn := (t1_cond i k).mp hc
    have e2 : min (2 * (k.val + 1)) (i 2).val = 2 * k.val + 1 + 1 := by omega
    have h := tripC c i arg3 harg3 arg4 harg4 arg5 harg5 arg6 harg6 arg7 harg7 arg8 harg8 arg9 harg9 arg10 harg10 arg11 harg11 arg12 harg12 v10 v19 v37 v237 c2_i32 v238 v243 v244 k hc X6 X7 (stM i v10 X6 (2 * k.val)) (stA i v10 v19 X6 X7 (2 * k.val)) (sc v10 (blk X6 (2 * k.val)))
    rw [ld_off X6 (k0_off2 i k) _ (2 * k.val + 1) (off2_eq i k hn), ld_off X7 (k0_off5 i k) _ (2 * k.val + 1) (off5_eq i k), ld_off X7 (k0_off3 i k) _ (2 * k.val) (off3_eq i k)] at h
    iapply (h.trans (wp_mono frame (wpE (defs₀ (F := F)) 𝒱₀ (c : Thread nD τ) none) Set.univ (fun _ => ?_)))
    swap
    · isplitl [H6]; · iexact H6
      isplitl [H7]; · iexact H7
      isplitl [H9]; · iexact H9
      isplitl [H10]; · iexact H10
      isplitl [H11]; · iexact H11
      iexact H12
    rw [e2]
    iintro ⟨H6, H7, H9, H10, H11, H12⟩
    isplitl [H6]; · iexact H6
    isplitl [H7]; · iexact H7
    isplitl [H9]; · iexact H9
    isplitl [H10]; · iexact H10
    isplitl [H11]
    · iexists _
      isplitr
      swap; · iexact H11
      ipureintro
      intro h2
      rw [ld_off X6 (k0_off4 i k) _ (2 * k.val + 2) (off4_eq i k (by omega))]
      rfl
    iexact H12
  · have hn : ¬ 2 * k.val + 1 < (i 2).val := fun h => hc ((t1_cond i k).mpr h)
    have e2 : min (2 * (k.val + 1)) (i 2).val = 2 * k.val + 1 := by omega
    have h := tripN c i arg3 harg3 arg4 harg4 arg5 harg5 arg6 harg6 arg7 harg7 arg8 harg8 arg9 harg9 arg10 harg10 arg11 harg11 arg12 harg12 v10 v19 v37 v237 c2_i32 v238 v243 v244 k hc X6 X7 (stM i v10 X6 (2 * k.val)) (stA i v10 v19 X6 X7 (2 * k.val)) (sc v10 (blk X6 (2 * k.val)))
    rw [ld_off X7 (k0_off3 i k) _ (2 * k.val) (off3_eq i k)] at h
    iapply (h.trans (wp_mono frame (wpE (defs₀ (F := F)) 𝒱₀ (c : Thread nD τ) none) Set.univ (fun _ => ?_)))
    swap
    · isplitl [H6]; · iexact H6
      isplitl [H7]; · iexact H7
      isplitl [H9]; · iexact H9
      isplitl [H10]; · iexact H10
      isplitl [H11]; · iexact H11
      iexact H12
    rw [e2]
    iintro ⟨H6, H7, H9, H10, H11, H12⟩
    isplitl [H6]; · iexact H6
    isplitl [H7]; · iexact H7
    isplitl [H9]; · iexact H9
    isplitl [H10]; · iexact H10
    isplitl [H11]
    · iexists _
      isplitr
      swap; · iexact H11
      ipureintro
      intro h2; omega
    iexact H12

/-- The whole loop: all the earlier blocks. -/
theorem loop1 (v10 : FVec F S1024x128 .bf16) (v19 : FVec F S512x128 .bf16) (v37 : BitVec 32) (v237 : BitVec 32) (c2_i32 : BitVec 32) (v238 : BitVec 32) (v243 : BitVec 32) (v244 : BitVec 1)
   (X6 X7 : S1x8192x128.Idx → Elt F .bf16) {β : Type} (kk : Unit → Prog (TpuEff nD τ sig (Elt F) Λ₀ .tc) β) (Q : β → sProp 𝕄) :
   inv c i arg6 arg7 arg9 arg10 arg11 arg12 v10 v19 X6 X7 0
    ⊢ iprop((iprop(ow c arg6 X6 ∗ ow c arg7 X7 ∗ (∃ d, ow c arg9 d) ∗ ow c arg10 (stA i v10 v19 X6 X7 (i 2).val) ∗ (∃ d, ow c arg11 d) ∗ ∃ d, ow c arg12 d)
        -∗ wp frame (wpE (defs₀ (F := F)) 𝒱₀ (c : Thread nD τ) none) Set.univ (kk ()) Q)
       -∗ wp frame (wpE (defs₀ (F := F)) 𝒱₀ (c : Thread nD τ) none) Set.univ
       (Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 v10 v19 v37 v237 c2_i32 v238 v243 v244) >>= kk) Q) := by
  have h := Scf.wp_for_bind frame (wpE (defs₀ (F := F)) 𝒱₀ (c : Thread nD τ) none) Set.univ (k0_t1_loop i).lb (k0_t1_loop i).ub (k0_t1_loop i).st (k0_t1_ok i) ()
    (k0_t1_body i arg3 harg3 arg4 harg4 arg5 harg5 arg6 harg6 arg7 harg7 arg8 harg8 arg9 harg9 arg10 harg10 arg11 harg11 arg12 harg12 v10 v19 v37 v237 c2_i32 v238 v243 v244)
    (fun k _ => inv c i arg6 arg7 arg9 arg10 arg11 arg12 v10 v19 X6 X7 k)
    (fun k _ => trip c i arg3 harg3 arg4 harg4 arg5 harg5 arg6 harg6 arg7 harg7 arg8 harg8 arg9 harg9 arg10 harg10 arg11 harg11 arg12 harg12 v10 v19 v37 v237 c2_i32 v238 v243 v244 X6 X7 k) (kk := kk) (Q := Q)
  iintro HI HK
  iapply h $$ [HI]
  · iexact HI
  iintro %_ HI
  iapply HK
  have ht : Scf.trips (k0_t1_loop i).lb (k0_t1_loop i).ub (k0_t1_loop i).st = ((i 2).val + 1) / 2 := t1_trips i
  rw [ht]
  unfold inv
  rw [show min (2 * (((i 2).val + 1) / 2)) (i 2).val = (i 2).val by omega]
  icases HI with ⟨H6, H7, H9, H10, ⟨%S, -, H11⟩, H12⟩
  isplitl [H6]; · iexact H6
  isplitl [H7]; · iexact H7
  isplitl [H9]; · iexists _; iexact H9
  isplitl [H10]; · iexact H10
  isplitl [H11]; · iexists _; iexact H11
  iexact H12

/-- The loop over a remainder: no trips. -/
theorem loop2 (v10 : FVec F S1024x128 .bf16) (v19 : FVec F S512x128 .bf16) (v37 : BitVec 32) (v237 : BitVec 32) (c2_i32 : BitVec 32) (v238 : BitVec 32) (v243 : BitVec 32) (v244 : BitVec 1) (v259 : BitVec 32)
   {β : Type} (kk : Unit → Prog (TpuEff nD τ sig (Elt F) Λ₀ .tc) β) (Q : β → sProp 𝕄) :
   wp frame (wpE (defs₀ (F := F)) 𝒱₀ (c : Thread nD τ) none) Set.univ (kk ()) Q
    ⊢ wp frame (wpE (defs₀ (F := F)) 𝒱₀ (c : Thread nD τ) none) Set.univ
       (Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 v10 v19 v37 v237 c2_i32 v238 v243 v244 v259) >>= kk) Q := by
  have h := Scf.wp_for_bind frame (wpE (defs₀ (F := F)) 𝒱₀ (c : Thread nD τ) none) Set.univ (k0_t2_loop i).lb (k0_t2_loop i).ub (k0_t2_loop i).st (k0_t2_ok i) ()
    (k0_t2_body i arg3 harg3 arg4 harg4 arg5 harg5 arg6 harg6 arg7 harg7 arg8 harg8 arg9 harg9 arg10 harg10 arg11 harg11 arg12 harg12 v10 v19 v37 v237 c2_i32 v238 v243 v244 v259)
    (fun _ _ => wp frame (wpE (defs₀ (F := F)) 𝒱₀ (c : Thread nD τ) none) Set.univ (kk ()) Q)
    (fun k _ => absurd (lt_of_lt_of_eq k.isLt (t2_trips i)) (Nat.not_lt_zero _)) (kk := kk) (Q := Q)
  iintro HI
  iapply h $$ [HI]
  · iexact HI
  iintro %_ HI
  iexact HI

end
end Cert.AttnI
end
-- ==== Proof.AttnI.Body.lean ====
/-
  The body at one point of the grid: what it leaves in the result's block.
-/
module

public import proofs.«01_k».proof.Proof.AttnI.Loop

@[expose] public section

set_option maxRecDepth 16384

noncomputable section

namespace Cert.AttnI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open View (Piece canon ld)

variable {F : FTy → Type} [FloatOps F] [Named F]

local notation "𝕄" => MT nD τ sig Unit (Elt F) ℕ (UR sig nD τ) ℕ

theorem rdw10 (M : Memref sig .tc .vmem S1024x256 .f32) (f : M.view.ty.Contents (Elt F)) :
    M.view.readAt (Elt F) (Rect.unit (s := S1024x256) ![0, 0] S1024x256.size inb_S1024x256_S1024x256_0_0).toLoadRect f = M.view.read (Elt F) f :=
  View.ld_unit_lit (S := S1024x256) inb_S1024x256_S1024x256_0_0 (M.view.read (Elt F) f) (fun a => by fin_cases a <;> rfl)
theorem rdw4 (M : Memref sig .tc .vmem S1x128 .f32) (f : M.view.ty.Contents (Elt F)) :
    M.view.readAt (Elt F) (Rect.unit (s := S1x128) ![0, 0] S1x128.size inb_S1x128_S1x128_0_0).toLoadRect f = M.view.read (Elt F) f :=
  View.ld_unit_lit (S := S1x128) inb_S1x128_S1x128_0_0 (M.view.read (Elt F) f) (fun a => by fin_cases a <;> rfl)
theorem rdw3 (M : Memref sig .tc .vmem S4x64 .f32) (f : M.view.ty.Contents (Elt F)) :
    M.view.readAt (Elt F) (Rect.unit (s := S4x64) ![0, 0] S4x64.size inb_S4x64_S4x64_0_0).toLoadRect f = M.view.read (Elt F) f :=
  View.ld_unit_lit (S := S4x64) inb_S4x64_S4x64_0_0 (M.view.read (Elt F) f) (fun a => by fin_cases a <;> rfl)
theorem rdw5 (M : Memref sig .tc .vmem S1x512x128 .bf16) (f : M.view.ty.Contents (Elt F)) :
    M.view.readAt (Elt F) (Rect.unit (s := S1x512x128) ![0, 0, 0] S1x512x128.size inb_S1x512x128_S1x512x128_0_0_0).toLoadRect f = M.view.read (Elt F) f :=
  View.ld_unit_lit (S := S1x512x128) inb_S1x512x128_S1x512x128_0_0_0 (M.view.read (Elt F) f) (fun a => by fin_cases a <;> rfl)
abbrev rO : Rect S1x512x128 := Rect.unit (s := S1x512x128) ![0, 0, 0] S1x512x128.size inb_S1x512x128_S1x512x128_0_0_0
theorem covO (w : Vec F S1x512x128 .bf16) (y) : ∃ p ∈ ([⟨rO, w⟩] : List (Piece (Elt F) S1x512x128 .bf16)), y ∈ p.1.set :=
  View.cover_of_tiled ([⟨rO, w⟩] : List (Piece (Elt F) S1x512x128 .bf16)) S1x512x128.size (by rfl) y
theorem canO (w : Vec F S1x512x128 .bf16) : canon ([⟨rO, w⟩] : List (Piece (Elt F) S1x512x128 .bf16)) = w :=
  View.canon_cons_unit_lit (S := S1x512x128) inb_S1x512x128_S1x512x128_0_0_0 w [] (fun a => by fin_cases a <;> rfl)

section
variable {v10 v10' : FVec F S1024x128 .bf16} {kb kb' : Vec F S1x512x128 .bf16} {v20 v61 v61' : BitVec 32}
theorem c87 (h : kb = kb') : k0_pay87 kb = k0_pay87 kb' := by rw [h]
theorem c88 (h0 : v10 = v10') (h : kb = kb') : k0_pay88 v10 kb = k0_pay88 v10' kb' := by rw [h0, h]
theorem c89 (h0 : v10 = v10') (h : kb = kb') : k0_pay89 v10 kb = k0_pay89 v10' kb' := by rw [h0, h]
theorem c91 {a a' : FVec F S256x512 .f32} (h0 : v61 = v61') (h : a = a') : k0_pay91 v20 v61 a = k0_pay91 v20 v61' a' := by rw [h0, h]
theorem c92 {a a' : FVec F S256x512 .f32} (h0 : v61 = v61') (h : a = a') : k0_pay92 v20 v61 a = k0_pay92 v20 v61' a' := by rw [h0, h]
theorem c93 {a a' : FVec F S512x128 .bf16} {b b' : FVec F S256x128 .bf16} (h0 : v61 = v61') (h : a = a') (hb : b = b') : k0_pay93 v20 v61 a b = k0_pay93 v20 v61' a' b' := by rw [h0, h, hb]
theorem c94 {a a' : FVec F S512x128 .bf16} (h : v10 = v10') (h0 : v61 = v61') (ha : a = a') : k0_pay94 v10 v20 v61 a = k0_pay94 v10' v20 v61' a' := by rw [h0, h, ha]
end

/-- What the body leaves in the result's block, from what the input blocks hold. -/
def oB (i : grid0.Coords) (X3 : S4x64.Idx → Elt F .f32) (X4 : S1x128.Idx → Elt F .f32) (X5 : S1x512x128.Idx → Elt F .bf16) (X6 X7 : S1x8192x128.Idx → Elt F .bf16) :
    S1x512x128.Idx → Elt F .bf16 :=
  let A := stA i (k0_pay78 X5) k0_pay81 X6 X7 (i 2).val
  k0_pay1 (k0_pay120 A) (k0_pay121 A) (k0_pay122 X4) (k0_pay123 X3)

section
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x512x128 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x512 .f32) (harg11 : arg11.IsWhole) (arg12 : Memref sig .tc .vmem S1024x512 .f32) (harg12 : arg12.IsWhole)

/-- What the body's last part hands on: the sums' two halves, the weights, the scalar. -/
theorem part21 (v10 : FVec F S1024x128 .bf16) (v19 : FVec F S512x128 .bf16) (v37 : BitVec 32) (v237 : BitVec 32) (c2_i32 : BitVec 32) (v238 : BitVec 32) (v243 : BitVec 32) (v244 : BitVec 1)
   (X3 : S4x64.Idx → Elt F .f32) (X4 : S1x128.Idx → Elt F .f32) (X6 X7 : S1x8192x128.Idx → Elt F .bf16) :
   iprop(inv c i arg6 arg7 arg9 arg10 arg11 arg12 v10 v19 X6 X7 0 ∗ ow c arg3 X3 ∗ ow c arg4 X4)
    ⊢ wp frame (wpE (defs₀ (F := F)) 𝒱₀ (c : Thread nD τ) none) Set.univ
       (k0_part21 i arg3 harg3 arg4 harg4 arg5 harg5 arg6 harg6 arg7 harg7 arg8 harg8 arg9 harg9 arg10 harg10 arg11 harg11 arg12 harg12 v10 v19 v37 v237 c2_i32 v238 v243 v244)
       (fun r => iprop(⌜r = ⟨k0_pay120 (stA i v10 v19 X6 X7 (i 2).val), k0_pay121 (stA i v10 v19 X6 X7 (i 2).val), k0_pay122 X4, k0_pay123 X3⟩⌝
         ∗ ow c arg3 X3 ∗ ow c arg4 X4 ∗ ow c arg6 X6 ∗ ow c arg7 X7 ∗ (∃ d, ow c arg9 d) ∗ (∃ d, ow c arg10 d) ∗ (∃ d, ow c arg11 d) ∗ ∃ d, ow c arg12 d)) := by
  rw [k0_part21_eq_skeleton]
  unfold k0_part21_skel
  iintro ⟨HI, H3, H4⟩
  iapply (loop1 c i arg3 harg3 arg4 harg4 arg5 harg5 arg6 harg6 arg7 harg7 arg8 harg8 arg9 harg9 arg10 harg10 arg11 harg11 arg12 harg12 v10 v19 v37 v237 c2_i32 v238 v243 v244 X6 X7 _ _) $$ [HI]
  · iexact HI
  iintro ⟨H6, H7, H9, H10, H11, H12⟩
  iapply (loop2 c i arg3 harg3 arg4 harg4 arg5 harg5 arg6 harg6 arg7 harg7 arg8 harg8 arg9 harg9 arg10 harg10 arg11 harg11 arg12 harg12 v10 v19 v37 v237 c2_i32 v238 v243 v244 _ _ _)
  unfold ow owns
  icases H3 with ⟨%f3, %e3, H3⟩
  icases H4 with ⟨%f4, %e4, H4⟩
  icases H10 with ⟨%f10, %e10, H10⟩
  sl_exec
  rw [wp_ret]; imodintro
  isplitr
  · ipureintro
    rw [rdw10 arg10 f10, rdw4 arg4 f4, rdw3 arg3 f3, e10, e4, e3]
  isplitl [H3]; · iexists f3; isplitr; · ipureintro; exact e3
                  iexact H3
  isplitl [H4]; · iexists f4; isplitr; · ipureintro; exact e4
                  iexact H4
  isplitl [H6]; · iexact H6
  isplitl [H7]; · iexact H7
  isplitl [H9]; · iexact H9
  isplitl [H10]; · iexists _, f10; isplitr; · ipureintro; rfl
                   iexact H10
  isplitl [H11]; · iexact H11
  iexact H12

set_option sl_exec.stopBefore "k0_part21" in
theorem body (X3 : S4x64.Idx → Elt F .f32) (X4 : S1x128.Idx → Elt F .f32) (X5 : S1x512x128.Idx → Elt F .bf16) (X6 X7 : S1x8192x128.Idx → Elt F .bf16) :
   iprop(ow c arg3 X3 ∗ ow c arg4 X4 ∗ ow c arg5 X5 ∗ ow c arg6 X6 ∗ ow c arg7 X7 ∗ (∃ d, ow c arg8 d) ∗ (∃ d, ow c arg9 d) ∗ (∃ d, ow c arg10 d) ∗ (∃ d, ow c arg11 d) ∗ ∃ d, ow c arg12 d)
    ⊢ wp frame (wpE (defs₀ (F := F)) 𝒱₀ (c : Thread nD τ) none) Set.univ
       (cc0_diff_prompt i arg3 harg3 arg4 harg4 arg5 harg5 arg6 harg6 arg7 harg7 arg8 harg8 arg9 harg9 arg10 harg10 arg11 harg11 arg12 harg12)
       (fun _ => iprop(ow c arg3 X3 ∗ ow c arg4 X4 ∗ ow c arg5 X5 ∗ ow c arg6 X6 ∗ ow c arg7 X7 ∗ ow c arg8 (oB i X3 X4 X5 X6 X7) ∗ (∃ d, ow c arg9 d) ∗ (∃ d, ow c arg10 d) ∗ (∃ d, ow c arg11 d) ∗ ∃ d, ow c arg12 d)) := by
  unfold cc0_diff_prompt ow owns
  iintro ⟨⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩⟩
  sl_exec
  have hr : body.sl.r c arg5 f5 = k0_pay78 X5 := by subst e5; exact congrArg k0_pay78 (rdw5 arg5 f5)
  have hkb : View.readAt (Elt F) arg6.view (Rect.unit (s := S1x8192x128) (k0_off1 i) S1x512x128.size (k0_off1_inb i)).toLoadRect f6 = blk X6 (i 2).val := by
    subst e6; exact ld_off _ _ _ _ (off1_eq i)
  have hvb : View.readAt (Elt F) arg7.view (Rect.unit (s := S1x8192x128) (k0_off1 i) S1x512x128.size (k0_off1_inb i)).toLoadRect f7 = blk X7 (i 2).val := by
    subst e7; exact ld_off _ _ _ _ (off1_eq i)
  have hk0 : View.readAt (Elt F) arg6.view (Rect.unit (s := S1x8192x128) ![0, 0, 0] S1x512x128.size inb_S1x8192x128_S1x512x128_0_0_0).toLoadRect f6 = blk X6 0 := by
    subst e6; rfl
  have hv : ∀ i, Scalar.muli (body.sl.v37 i) 512#32 = BitVec.ofNat 32 (512 * (i 2).val) := by decide +kernel
  dsimp only
  rw [wp_bind]
  have h := fun Q' => (part21 c i arg3 harg3 arg4 harg4 arg5 harg5 arg6 harg6 arg7 harg7 arg8 harg8 arg9 harg9 arg10 harg10 arg11 harg11 arg12 harg12 (body.sl.r c arg5 f5) k0_pay81 (body.sl.v37 i) (body.sl.v237 i) 2#32 (body.sl.v238 i) (body.sl.v243 i) 1#1 X3 X4 X6 X7).trans (wp_wand frame (wpE (defs₀ (F := F)) 𝒱₀ (c : Thread nD τ) none) Set.univ (Q' := Q'))
  iapply (h _) $$ [H3 H4 H6 H7 H9 H10 H11 H12]
  · isplitl [H6 H7 H9 H10 H11 H12]
    · unfold inv ow owns
      rw [show min (2 * 0) (i 2).val = 0 by omega]
      isplitl [H6]; · iexists f6; isplitr; · ipureintro; exact e6
                      iexact H6
      isplitl [H7]; · iexists f7; isplitr; · ipureintro; exact e7
                      iexact H7
      isplitl [H9]
      · iexists _; isplitr
        swap; · iexact H9
        ipureintro
        refine (rdM _ _ _ _ _ _ _).trans ?_
        unfold stM upM tS
        simp only [ld_S0, ld_S1, ld_S2, ld_S3]
        refine pcsM_congr ?_ ?_ ?_ ?_
        · refine mN_congr ?_ ?_
          · exact c91 (hv i) (c88 rfl hkb)
          · exact whM0 _ _ _
        · refine mN_congr ?_ ?_
          · exact c92 (hv i) (c89 rfl hkb)
          · exact whM1 _ _ _ _
        · refine mN_congr ?_ ?_
          · exact c93 (hv i) (c87 hkb) rfl
          · exact whM2 _ _ _ _ _
        · refine mN_congr ?_ ?_
          · exact c94 rfl (hv i) (c87 hkb)
          · exact whM3 _ _ _ _ _ _
      isplitl [H10]
      · iexists _; isplitr
        swap; · iexact H10
        ipureintro
        refine (rdA _ _ _ _ _ _ _).trans ?_
        unfold stA upA tS
        simp only [ld_S0, ld_S1, ld_S2, ld_S3]
        rw [← hvb]
        refine pcsA_congr ?_ ?_ ?_ ?_
        · refine aN_congr _ ?_ ?_ ?_
          · exact c91 (hv i) (c88 rfl hkb)
          · exact whM0 _ _ _
          · exact whA0 _ _ _
        · refine aN_congr _ ?_ ?_ ?_
          · exact c92 (hv i) (c89 rfl hkb)
          · exact whM1 _ _ _ _
          · exact whA1 _ _ _ _
        · refine aN_congr _ ?_ ?_ ?_
          · exact c93 (hv i) (c87 hkb) rfl
          · exact whM2 _ _ _ _ _
          · exact whA2 _ _ _ _ _
        · refine aN_congr _ ?_ ?_ ?_
          · exact c94 rfl (hv i) (c87 hkb)
          · exact whM3 _ _ _ _ _ _
          · exact whA3 _ _ _ _ _ _
      isplitl [H11]
      · iexists (sc (body.sl.r c arg5 f5) (blk X6 (2 * 0))); isplitr
        · ipureintro; intro _; rfl
        iexists _; isplitr
        swap; · iexact H11
        ipureintro
        refine (View.read_writes_eq_canon _ _ _ (covS _ _ _ _)).trans ?_
        exact congrArg (sc (body.sl.r c arg5 f5)) hk0
      iexists _, f12; isplitr; · ipureintro; rfl
      iexact H12
    isplitl [H3]
    · unfold ow owns
      iexists f3; isplitr; · ipureintro; exact e3
      iexact H3
    unfold ow owns
    iexists f4; isplitr; · ipureintro; exact e4
    iexact H4
  iintro %r ⟨%hr2, H3, H4, H6, H7, H9, H10, H11, H12⟩
  subst hr2
  unfold ow owns
  dsimp only
  sl_exec
  rw [wp_ret]; imodintro
  isplitl [H3]; · iexact H3
  isplitl [H4]; · iexact H4
  isplitl [H5]; · iexists f5; isplitr; · ipureintro; exact e5
                  iexact H5
  isplitl [H6]; · iexact H6
  isplitl [H7]; · iexact H7
  isplitl [H8]
  · iexists _; isplitr
    swap; · iexact H8
    ipureintro
    refine (View.read_writes_eq_canon _ _ _ (covO _)).trans ?_
    refine (canO _).trans ?_
    rw [hr]; rfl
  isplitl [H9]; · iexact H9
  isplitl [H10]; · iexact H10
  isplitl [H11]; · iexact H11
  iexact H12

end
end Cert.AttnI
end
-- ==== Proof.AttnI.Run.lean ====
/-
  The run of the program: the proof data of its pipeline, the body at every point, the launch.
-/
module

public import Idealize.ShloMosaic.Lib.Claim
public import proofs.«01_k».proof.Proof.AttnI.Body

@[expose] public section

set_option maxRecDepth 16384

noncomputable section

namespace Cert.AttnI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open View (Piece canon ld)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the result's block at point `t`. -/
def outAt (c : Dev nD) (t : Fin cfg0.N) : S1x512x128.Idx → Elt F .bf16 :=
  oB (grid0.coords t) (iblk m c 0 t) (iblk m c 1 t) (iblk m c 2 t) (iblk m c 3 t) (iblk m c 4 t)

/-- The pipeline's proof data: inputs left in place, the result's block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  rw [show (dats m 0 c).Φ t.succ = (dats m 0 c).Φ t.castSucc from rfl, after_0, after_1, after_2, after_3, after_4, after_5,
    show (dats m 0 c).Φ t.castSucc = Pipeline.ΦA spec0 c from rfl,
    show (dats m 0 c).owesAt () t.succ = (dats m 0 c).owesAt () t.castSucc from rfl]
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c)]
  unfold Pipeline.ΦA
  rw [scopedRest0_eq]
  iintro ⟨⟨⟨⟨%s0, S0⟩, ⟨%s1, S1⟩, ⟨%s2, S2⟩, ⟨%s3, S3⟩⟩, Hg⟩, HO, ⟨%d0, H0⟩, ⟨%d1, H1⟩, ⟨%d2, H2⟩, ⟨%d3, H3⟩, ⟨%d4, H4⟩, ⟨%d5, H5⟩⟩
  have h := fun Q' => (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t)).trans
      (wp_wand frame (wpE (defs₀ (F := F)) 𝒱₀ (c : Thread nD τ) none) Set.univ (Q' := Q'))
  iapply (h _) $$ [H0 H1 H2 H3 H4 H5 S0 S1 S2 S3]
  · unfold ow
    isplitl [H0]; · iexact H0
    isplitl [H1]; · iexact H1
    isplitl [H2]; · iexact H2
    isplitl [H3]; · iexact H3
    isplitl [H4]; · iexact H4
    isplitl [H5]; · iexists _; iexact H5
    isplitl [S0]; · iexists s0; rw [owns_whole]; iexact S0
    isplitl [S1]; · iexists s1; rw [owns_whole]; iexact S1
    isplitl [S2]; · iexists s2; rw [owns_whole]; iexact S2
    iexists s3; rw [owns_whole]; iexact S3
  iintro %_ ⟨H0, H1, H2, H3, H4, H5, ⟨%x0, S0⟩, ⟨%x1, S1⟩, ⟨%x2, S2⟩, ⟨%x3, S3⟩⟩
  isplitl [S0 S1 S2 S3 Hg]
  · isplitr [Hg]
    · isplitl [S0]; · iexists x0; rw [← owns_whole]; iexact S0
      isplitl [S1]; · iexists x1; rw [← owns_whole]; iexact S1
      isplitl [S2]; · iexists x2; rw [← owns_whole]; iexact S2
      iexists x3; rw [← owns_whole]; iexact S3
    iexact Hg
  isplitl [HO]; · iexact HO
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The run: every array of the pipeline ends at what the proof data says, and every semaphore counter at zero. -/
theorem run_q : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_q m ρ)

/-- The run writes none of the operands. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the operands are kept and every semaphore counter ends at zero. -/
theorem frame_q : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (args_kept m ρ) ((θ_run defs _ _).mono (fun _ h => h.2) (run_q m ρ))

end Cert.AttnI

end
-- ==== Proof.AttnV.Blocks.lean ====
/-
  What a grid point's windows hold, element by element, of the arguments.
-/
module

public import proofs.«01_k».proof.Proof.AttnI.Run
public import Idealize.ShloMosaic.Lib.StableHlo.ReadAt
public import Idealize.ShloMosaic.Lib.Pipeline.ValueKit.Geometry
public import Idealize.ShloMosaic.Lib.Pipeline.ValueKit.Partial

@[expose] public section

set_option maxRecDepth 16384

noncomputable section

namespace Cert.AttnB

open Cert.KernelIdeal Cert.KernelIdeal.Gen Cert.AttnI
open Idealize.ShloMosaic Idealize.ShloMosaic.TcCoe Idealize.ShloMosaic.Tactic

variable (m : (ℓ : Loc nD τ sig) → Buf (Elt Ideal) ℓ)

/-- The blocks that a grid point takes, from its coordinates. -/
theorem idx : ∀ t, win0_0.index t = ![0, 0] ∧ win0_1.index t = ![0, 0]
    ∧ win0_2.index t = ![(grid0.coords t 0).val, (grid0.coords t 2).val, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, (grid0.coords t 2).val, (grid0.coords t 1).val] := by decide +kernel

theorem V5 (c : Dev nD) (a : Fin 4) (b : Fin 64) : V m c main_v5 (ix2 a b) = m (c, main_arg3) (ix3 0 a b) := by
  unfold V
  after_reads_at

theorem V7 (c : Dev nD) (b : Fin 128) : V m c main_v7 (ix2 0 b) = m (c, main_arg4) (ix2 0 b) := by
  unfold V
  after_reads_at

theorem V2 (c : Dev nD) (a : Fin 8) (b : Fin 8192) (d : Fin 512) : V m c main_v2 (ix3 a b d) = HMul.hMul (α := EReal) (β := EReal) (γ := EReal) (m (c, main_arg0) (ix3 a b d)) (Ideal.ofBits .f32 1040187392#32) := by
  unfold V
  after_reads_at
  rfl

theorem V3 (c : Dev nD) (a : Fin 8) (b : Fin 8192) (d : Fin 512) : V m c main_v3 (ix3 a b d) = m (c, main_arg1) (ix3 a b d) := by
  unfold V
  after_reads_at
  rfl

theorem V4 (c : Dev nD) (a : Fin 8) (b : Fin 8192) (d : Fin 512) : V m c main_v4 (ix3 a b d) = m (c, main_arg2) (ix3 a b d) := by
  unfold V
  after_reads_at
  rfl

theorem b0 (c : Dev nD) (t : Fin grid0.N) (a : Fin 4) (b : Fin 64) : iblk m c 0 t (ix2 a b) = m (c, main_arg3) (ix3 0 a b) := by
  rw [← V5 m c]
  blk_ext [iblk, idx t]

theorem b1 (c : Dev nD) (t : Fin grid0.N) (b : Fin 128) : iblk m c 1 t (ix2 0 b) = m (c, main_arg4) (ix2 0 b) := by
  rw [← V7 m c]
  blk_ext [iblk, idx t]

theorem lt0 (t : Fin grid0.N) : (grid0.coords t 0).val < 8 := (grid0.coords t 0).isLt
theorem lt1 (t : Fin grid0.N) : (grid0.coords t 1).val < 4 := (grid0.coords t 1).isLt
theorem lt2 (t : Fin grid0.N) : (grid0.coords t 2).val < 16 := (grid0.coords t 2).isLt

/-- The coordinates of an element of a grid point's block in the arrays of queries and of outputs. -/
def pB (t : Fin grid0.N) : Fin 8 := ⟨(grid0.coords t 0).val, lt0 t⟩
def pT (t : Fin grid0.N) (x : Fin 512) : Fin 8192 := ⟨512 * (grid0.coords t 2).val + x.val, by have := lt2 t; omega⟩
def pD (t : Fin grid0.N) (k : Fin 128) : Fin 512 := ⟨(grid0.coords t 1).val * 128 + k.val, by have := lt1 t; omega⟩

theorem b2 (c : Dev nD) (t : Fin grid0.N) (x : Fin 512) (k : Fin 128) :
    iblk m c 2 t (ix3 0 x k) = HMul.hMul (α := EReal) (β := EReal) (γ := EReal) (m (c, main_arg0) (ix3 (pB t) (pT t x) (pD t k))) (Ideal.ofBits .f32 1040187392#32) := by
  rw [← V2 m c]
  unfold pB pT pD
  blk_ext [iblk, idx t]

theorem b3 (c : Dev nD) (t : Fin grid0.N) (x : Fin 8192) (k : Fin 128) :
    iblk m c 3 t (ix3 0 x k) = m (c, main_arg1) (ix3 (pB t) x (pD t k)) := by
  rw [← V3 m c]
  unfold pB pD
  blk_ext [iblk, idx t]

theorem b4 (c : Dev nD) (t : Fin grid0.N) (x : Fin 8192) (k : Fin 128) :
    iblk m c 4 t (ix3 0 x k) = m (c, main_arg2) (ix3 (pB t) x (pD t k)) := by
  rw [← V4 m c]
  unfold pB pD
  blk_ext [iblk, idx t]

theorem emb5 (t : Fin grid0.N) (x : Fin 512) (k : Fin 128) : ((cfg0.win 5).blk t).view.emb (ix3 0 x k) = ix3 (pB t) (pT t x) (pD t k) := by
  unfold pB pT pD
  blk_ext [idx t]

/-- The array of outputs is what every grid point's block says it is. -/
theorem arr_out (c : Dev nD) (G : S8x8192x512.Idx → Elt Ideal .f32)
    (h : ∀ (t : Fin grid0.N) (x : Fin 512) (k : Fin 128), outAt m c t (ix3 0 x k) = G (ix3 (pB t) (pT t x) (pD t k))) :
    (dats m 0 c).arrAt 5 (cfgs 0).N = G := by
  refine (dats m 0 c).arrAt_eq_of_covers 5 _ (by decide +kernel) fun t hf y => ?_
  blk_simp
  rw [after_5]
  have e : ∀ y : S1x512x128.Idx, outAt m c t y = G ((win0_5.blk t).view.emb y) := fun y => by
    have h0 : y = ix3 (n0 := 1) (n1 := 512) (n2 := 128) 0 (y 1) (y 2) :=
      (eq_ix3 (n0 := 1) (n1 := 512) (n2 := 128) y).trans (congrArg (fun a : Fin 1 => ix3 a (y 1) (y 2)) (Subsingleton.elim (α := Fin 1) (y 0) 0))
    rw [h0]
    exact (h t (y 1) (y 2)).trans (congrArg G (emb5 t (y 1) (y 2)).symm)
  exact e y

end Cert.AttnB

end
-- ==== Proof.AttnV.Words.lean ====
/-
  The comparisons of index words that the two programs make, as comparisons of numbers.
-/
module

public import Idealize.ShloMosaic.Lib.Pointwise
public import Idealize.ShloMosaic.Lib.Tactic.WordOmega

@[expose] public section

namespace Cert.Words

open Idealize.ShloMosaic

theorem bit_sle (s t : ℕ) (hs : s < 2 ^ 31) (ht : t < 2 ^ 31) :
    IntOp.cmpi CmpIPredicate.sle (BitVec.ofNat 32 s) (BitVec.ofNat 32 t) = if s ≤ t then 1#1 else 0#1 := by
  have h1 : (BitVec.ofNat 32 s).toInt = s := by rw [BitVec.toInt_eq_toNat_of_lt] <;> simp [BitVec.toNat_ofNat] <;> omega
  have h2 : (BitVec.ofNat 32 t).toInt = t := by rw [BitVec.toInt_eq_toNat_of_lt] <;> simp [BitVec.toNat_ofNat] <;> omega
  simp only [IntOp.cmpi, BitVec.sle, h1, h2, Nat.cast_le]
  by_cases h : s ≤ t <;> simp [h]

theorem bit_slt (s t : ℕ) (hs : s < 2 ^ 31) (ht : t < 2 ^ 31) :
    IntOp.cmpi CmpIPredicate.slt (BitVec.ofNat 32 s) (BitVec.ofNat 32 t) = if s < t then 1#1 else 0#1 := by
  have h1 : (BitVec.ofNat 32 s).toInt = s := by rw [BitVec.toInt_eq_toNat_of_lt] <;> simp [BitVec.toNat_ofNat] <;> omega
  have h2 : (BitVec.ofNat 32 t).toInt = t := by rw [BitVec.toInt_eq_toNat_of_lt] <;> simp [BitVec.toNat_ofNat] <;> omega
  simp only [IntOp.cmpi, BitVec.slt, h1, h2, Nat.cast_lt]
  by_cases h : s < t <;> simp [h]

theorem bit_sge (s t : ℕ) (hs : s < 2 ^ 31) (ht : t < 2 ^ 31) :
    IntOp.cmpi CmpIPredicate.sge (BitVec.ofNat 32 s) (BitVec.ofNat 32 t) = if t ≤ s then 1#1 else 0#1 := by
  have h1 : (BitVec.ofNat 32 s).toInt = s := by rw [BitVec.toInt_eq_toNat_of_lt] <;> simp [BitVec.toNat_ofNat] <;> omega
  have h2 : (BitVec.ofNat 32 t).toInt = t := by rw [BitVec.toInt_eq_toNat_of_lt] <;> simp [BitVec.toNat_ofNat] <;> omega
  simp only [IntOp.cmpi, BitVec.sle, h1, h2, Nat.cast_le]
  by_cases h : t ≤ s <;> simp [h]

theorem select_if {α : Type} (p : Prop) [Decidable p] (a b : α) : Scalar.select (if p then 1#1 else 0#1) a b = if p then a else b := by
  by_cases h : p <;> simp [h, Scalar.select]

/-- The comparison of a key's number with a query's, the block's first number added to both. -/
theorem diag (n x r : ℕ) (hn : n < 16) (hx : x < 512) (hr : r < 512) (y : BitVec 32) (hy : y = BitVec.ofNat 32 r) :
    IntOp.cmpi CmpIPredicate.sle (IntOp.addi (BitVec.ofNat 32 x) (BitVec.ofNat 32 (512 * n)))
      (IntOp.addi y (Scalar.muli (BitVec.ofNat 32 n) 512#32)) = if x ≤ r then 1#1 else 0#1 := by
  have e1 : IntOp.addi (BitVec.ofNat 32 x) (BitVec.ofNat 32 (512 * n)) = BitVec.ofNat 32 (x + 512 * n) := (BitVec.ofNat_add ..).symm
  have e2 : IntOp.addi y (Scalar.muli (BitVec.ofNat 32 n) 512#32) = BitVec.ofNat 32 (r + n * 512) := by
    rw [hy, BitVec.ofNat_add, BitVec.ofNat_mul]; rfl
  rw [e1, e2, bit_sle _ _ (by omega) (by omega)]
  congr 1
  exact propext (by omega)

end Cert.Words
-- ==== Proof.AttnV.RefAt.lean ====
/-
  The reference's result in parts, each read at an index: the masked scores, their maximum, the softmax, the
  difference of the two softmaxes against the values, and the normalised result.
-/
module

public import proofs.«01_k».proof.Proof.Gen.ReferenceIdeal.Run
public import Idealize.ShloMosaic.Lib.Pointwise
public import proofs.«01_k».proof.Proof.AttnV.Words

@[expose] public section

set_option maxRecDepth 16384

noncomputable section

namespace Cert.AttnR

open Cert.ReferenceIdeal Cert.ReferenceIdeal.Gen
open Idealize.ShloMosaic Idealize.ShloMosaic.TcCoe

/-- The scores, masked above the diagonal. -/
def SC (a0 a1 : FVec Ideal S8x8192x512 .f32) : FVec Ideal S8x8x8192x8192 .f32 :=
  (select (broadcastInDim S8x8x8192x8192 ![0, 1, 2, 3] bcast_S1x1x8192x8192_S8x8x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) (mulf (Host.dotGeneral dot_S8x8192x8x64_S8x8192x8x64_S8x8x8192x8192_3_3_1_1_02_02 none (shapeCast _ a0 shapeCasts_S8x8192x512_S8x8192x8x64) (shapeCast _ a1 shapeCasts_S8x8192x512_S8x8192x8x64)) (broadcastInDim S8x8x8192x8192 ![] bcast_S_S8x8x8192x8192 (constant S_ .f32 0x3E000000#32))) (broadcastInDim S8x8x8192x8192 ![] bcast_S_S8x8x8192x8192 (id (constant S_ .f32 0xFF800000#32))))
/-- Their maximum along the keys. -/
def MX (sc : FVec Ideal S8x8x8192x8192 .f32) : FVec Ideal S8x8x8192 .f32 :=
  (maximumf (broadcastInDim S8x8x8192 ![] bcast_S_S8x8x8192 (constant S_ .f32 0xFF800000#32)) (Host.reduce FloatOps.maximumf sc (constant S_ .f32 0xFF800000#32) reducesTo_S8x8x8192x8192_S8x8x8192_d3 h_S_))
/-- The exponentials. -/
def EX (sc : FVec Ideal S8x8x8192x8192 .f32) (mx : FVec Ideal S8x8x8192 .f32) : FVec Ideal S8x8x8192x8192 .f32 :=
  (Host.exp (subf sc (broadcastInDim S8x8x8192x8192 ![0, 1, 2, 3] bcast_S8x8x8192x1_S8x8x8192x8192_0_1_2_3 (broadcastInDim S8x8x8192x1 ![0, 1, 2] bcast_S8x8x8192_S8x8x8192x1_0_1_2 mx))))
/-- The softmax. -/
def PR (ex : FVec Ideal S8x8x8192x8192 .f32) : FVec Ideal S8x8x8192x8192 .f32 :=
  (Host.divf ex (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduceAdd ex (constant S_ .f32 0x00000000#32) reducesTo_S8x8x8192x8192_S8x8x8192_d3 h_S_))))
/-- The number lambda. -/
def LAM (a3 : FVec Ideal S1x4x64 .f32) : FVec Ideal S_ .f32 :=
  (addf (subf (Host.exp (Host.reduceAdd (mulf (shapeCast _ (extractStridedSlice S1x64 ![0, 0] (shapeCast _ a3 shapeCasts_S1x4x64_S4x64) slices_S4x64_S1x64_0_0) shapeCasts_S1x64_S64) (shapeCast _ (extractStridedSlice S1x64 ![1, 0] (shapeCast _ a3 shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ a3 shapeCasts_S1x4x64_S4x64) slices_S4x64_S1x64_2_0) shapeCasts_S1x64_S64) (shapeCast _ (extractStridedSlice S1x64 ![3, 0] (shapeCast _ a3 shapeCasts_S1x4x64_S4x64) slices_S4x64_S1x64_3_0) shapeCasts_S1x64_S64)) (constant S_ .f32 0x00000000#32) reducesTo_S64_S_d0 h_S_))) (constant S_ .f32 0x3E4CCCCD#32))
/-- The difference of the two softmaxes against the values. -/
def OO (a2 : FVec Ideal S8x8192x512 .f32) (pr : FVec Ideal S8x8x8192x8192 .f32) (lam : FVec Ideal S_ .f32) : FVec Ideal S8x8192x4x128 .f32 :=
  (transpose S8x8192x4x128 [0, 3, 1, 2] (Host.dotGeneral dot_S8x8192x4x128_S8x4x8192x8192_S8x4x128x8192_1_3_3_2_02_01 none (shapeCast _ a2 shapeCasts_S8x8192x512_S8x8192x4x128) (subf (shapeCast _ (extractStridedSlice S8x4x1x8192x8192 ![0, 0, 0, 0, 0] (shapeCast _ pr shapeCasts_S8x8x8192x8192_S8x4x2x8192x8192) slices_S8x4x2x8192x8192_S8x4x1x8192x8192_0_0_0_0_0) shapeCasts_S8x4x1x8192x8192_S8x4x8192x8192) (mulf (broadcastInDim S8x4x8192x8192 ![] bcast_S_S8x4x8192x8192 lam) (shapeCast _ (extractStridedSlice S8x4x1x8192x8192 ![0, 0, 1, 0, 0] (shapeCast _ pr shapeCasts_S8x8x8192x8192_S8x4x2x8192x8192) slices_S8x4x2x8192x8192_S8x4x1x8192x8192_0_0_1_0_0) shapeCasts_S8x4x1x8192x8192_S8x4x8192x8192)))) transposes_S8x4x128x8192_S8x8192x4x128_0_3_1_2)
/-- The normalised result. -/
def OUT (a4 : FVec Ideal S1x128 .f32) (o : FVec Ideal S8x8192x4x128 .f32) : FVec Ideal S8x8192x512 .bf16 :=
  truncf .bf16 (shapeCast _ (mulf (mulf (mulf o (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2 (Host.reduceAdd (mulf o o) (constant S_ .f32 0x00000000#32) reducesTo_S8x8192x4x128_S8x8192x4_d3 h_S_)) (broadcastInDim S8x8192x4x1 ![] bcast_S_S8x8192x4x1 (constant S_ .f32 0x43000000#32))) (broadcastInDim S8x8192x4x1 ![] bcast_S_S8x8192x4x1 (constant S_ .f32 0x3727C5AC#32)))))) (broadcastInDim S8x8192x4x128 ![0, 1, 2, 3] bcast_S1x1x1x128_S8x8192x4x128_0_1_2_3 (broadcastInDim S1x1x1x128 ![3] bcast_S128_S1x1x1x128_3 (shapeCast _ a4 shapeCasts_S1x128_S128)))) (broadcastInDim S8x8192x4x128 ![] bcast_S_S8x8192x4x128 (constant S_ .f32 0x3F4CCCCD#32))) shapeCasts_S8x8192x4x128_S8x8192x512) bitsLt_bf16_f32

theorem res_eq (m : (ℓ : Loc nD τ sig) → Buf (Elt Ideal) ℓ) (c : Dev nD) :
    Value.res_main_v70 (F := Ideal) m c = OUT (m ((c.tc : Thread nD τ).loc main_arg4)) (OO (m ((c.tc : Thread nD τ).loc main_arg2))
      (PR (EX (SC (m ((c.tc : Thread nD τ).loc main_arg0)) (m ((c.tc : Thread nD τ).loc main_arg1))) (MX (SC (m ((c.tc : Thread nD τ).loc main_arg0)) (m ((c.tc : Thread nD τ).loc main_arg1))))))
      (LAM (m ((c.tc : Thread nD τ).loc main_arg3)))) := by
  unfold Value.res_main_v70
  rfl

theorem ninf : Ideal.ofBits FTy.f32 4286578688#32 = ⊥ := by
  unfold Ideal.ofBits
  simp [Ideal.ieee]

theorem SC_at (a0 a1 : FVec Ideal S8x8192x512 .f32) (b : Fin 8) (g : Fin 8) (t s : Fin 8192) : SC a0 a1 (ix4 b g t s)
    = if s.val ≤ t.val then (∑ x : Fin 64, a0 (ix3 b t ⟨g.val * 64 + x.val, by omega⟩) * a1 (ix3 b s ⟨g.val * 64 + x.val, by omega⟩)) * Ideal.ofBits FTy.f32 1040187392#32 else ⊥ := by
  pointwise [SC]
  rw [Words.bit_sle _ _ (by omega) (by omega), Words.select_if]
  congr 1
theorem host_max {n0 n1 n2 n3 : ℕ} (sc : FVec Ideal ⟨4, ![n0, n1, n2, n3]⟩ .f32) (init : FVec Ideal ⟨0, ![]⟩ .f32)
    (h : (⟨4, ![n0, n1, n2, n3]⟩ : Shape).ReducesTo [3] ⟨3, ![n0, n1, n2]⟩) (hu : 0 < (⟨0, ![]⟩ : Shape).numel) (b : Fin n0) (g : Fin n1) (t : Fin n2) :
    Host.reduce FloatOps.maximumf sc init h hu (ix3 b g t)
      = Finset.fold max (init (Shape.Idx.first hu)) (fun s : Fin n3 => sc (ix4 b g t s)) Finset.univ := by
  rw [Host.reduce_eq_fold, Shape.ReducesTo.fold_fiber_r4_a3]
  rfl

theorem max_at {S : Shape} (x y : FVec Ideal S .f32) (j : S.Idx) (a b : EReal) (hx : x j = a) (hy : y j = b) : maximumf x y j = max a b := by
  subst hx hy; rfl
theorem bc_at {S : Shape} (h : (⟨0, ![]⟩ : Shape).BroadcastsInDim S ![]) (j : S.Idx) :
    broadcastInDim S ![] h (constant (F := Ideal) ⟨0, ![]⟩ .f32 0xFF800000#32) j = ⊥ := ninf

theorem MX_at (sc : FVec Ideal S8x8x8192x8192 .f32) (b : Fin 8) (g : Fin 8) (t : Fin 8192) : MX sc (ix3 b g t)
    = max ⊥ (Finset.fold max ((constant (F := Ideal) S_ .f32 0xFF800000#32) (Shape.Idx.first h_S_)) (fun s : Fin 8192 => sc (ix4 b g t s)) Finset.univ) :=
  max_at _ _ _ _ _ (bc_at _ _) (host_max (n0 := 8) (n1 := 8) (n2 := 8192) (n3 := 8192) sc (constant S_ .f32 0xFF800000#32) reducesTo_S8x8x8192x8192_S8x8x8192_d3 h_S_ b g t)
theorem first_eq : ((constant (F := Ideal) S_ .f32 0xFF800000#32) (Shape.Idx.first h_S_)) = (⊥ : EReal) := ninf
theorem EX_at (sc : FVec Ideal S8x8x8192x8192 .f32) (mx) (b : Fin 8) (g : Fin 8) (t s : Fin 8192) :
    EX sc mx (ix4 b g t s) = Ideal.exp (sc (ix4 b g t s) - mx (ix3 b g t)) := by
  pointwise [EX]
theorem PR_at (ex : FVec Ideal S8x8x8192x8192 .f32) (b : Fin 8) (g : Fin 8) (t s : Fin 8192) :
    PR ex (ix4 b g t s) = Ideal.div (ex (ix4 b g t s)) (∑ x : Fin 8192, ex (ix4 b g t x)) := by
  pointwise [PR]
theorem LAM_at (a3 : FVec Ideal S1x4x64 .f32) : LAM a3 ix0
    = Ideal.exp (∑ x, a3 (ix3 0 0 x) * a3 (ix3 0 1 x)) - Ideal.exp (∑ x, a3 (ix3 0 2 x) * a3 (ix3 0 3 x)) + Ideal.ofBits FTy.f32 1045220557#32 := by
  pointwise [LAM]
theorem OO_at (a2 : FVec Ideal S8x8192x512 .f32) (pr) (lam) (b : Fin 8) (t : Fin 8192) (h : Fin 4) (d : Fin 128) : OO a2 pr lam (ix4 b t h d)
    = ∑ x : Fin 8192, a2 (ix3 b x ⟨h.val * 128 + d.val, by omega⟩) * (pr (ix4 b ⟨h.val * 2, by omega⟩ t x) - lam ix0 * pr (ix4 b ⟨h.val * 2 + 1, by omega⟩ t x)) := by
  pointwise [OO]
theorem OUT_at (a4 : FVec Ideal S1x128 .f32) (o) (b : Fin 8) (t : Fin 8192) (d : Fin 512) : OUT a4 o (ix3 b t d)
    = o (ix4 b t ⟨d.val / 128, by omega⟩ ⟨d.val % 128, by omega⟩)
      * Ideal.rsqrt (Ideal.div (∑ x : Fin 128, o (ix4 b t ⟨d.val / 128, by omega⟩ x) * o (ix4 b t ⟨d.val / 128, by omega⟩ x)) (Ideal.ofBits FTy.f32 1124073472#32) + Ideal.ofBits FTy.f32 925353388#32)
      * a4 (ix2 0 ⟨d.val % 128, by omega⟩) * Ideal.ofBits FTy.f32 1061997773#32 := by
  pointwise [OUT]

end Cert.AttnR

end
-- ==== Proof.AttnV.Soft.lean ====
/-
  The arithmetic of a softmax kept up block by block, of scores that may be infinite and weights that are
  real: weighted sums of exponentials, what raising the subtracted maximum does to them, and one block's step.
-/
module

public import Idealize.ShloMosaic.PureOps.Ideal
public import Mathlib.Data.EReal.Operations
public import Mathlib.Algebra.BigOperators.Intervals
public import Mathlib.Tactic.Ring

@[expose] public section

noncomputable section

namespace Cert.Soft

open Idealize.ShloMosaic

/-- The exponential of a score less a maximum, a real number between zero and one when the maximum is one. -/
def e (s M : EReal) : ℝ := (Ideal.exp (s - M)).toReal

theorem e_bot (M : EReal) : e ⊥ M = 0 := by
  unfold e
  rw [EReal.bot_sub]
  exact EReal.toReal_zero
theorem e_top (s : EReal) : e s ⊤ = 0 := by
  unfold e
  rw [EReal.sub_top]
  exact EReal.toReal_zero
theorem e_coe (a b : ℝ) : e (a : EReal) (b : EReal) = Real.exp (a - b) := by
  unfold e
  rw [← EReal.coe_sub]
  exact EReal.toReal_coe _

theorem exp_eq {s M : EReal} (h : s ≤ M) : Ideal.exp (s - M) = ((e s M : ℝ) : EReal) := by
  induction s with
  | bot => rw [e_bot, EReal.bot_sub]; rfl
  | top => rw [top_le_iff.mp h, e_top, EReal.sub_top]; rfl
  | coe a =>
    induction M with
    | bot => exact absurd h (by simp)
    | top => rw [e_top, EReal.sub_top]; rfl
    | coe b => rw [e_coe, ← EReal.coe_sub]; rfl

theorem e_nonneg (s M : EReal) : 0 ≤ e s M := by
  have h : ∀ x : EReal, 0 ≤ Ideal.exp x := fun x => by
    induction x with
    | bot => exact le_rfl
    | top => exact le_top
    | coe r => exact EReal.coe_nonneg.mpr (Real.exp_pos r).le
  exact EReal.toReal_nonneg (h _)

/-- Raising the maximum multiplies by the exponential of the difference. -/
theorem e_mul {s M M' : EReal} (h : s ≤ M) (h' : M ≤ M') : e s M * e M M' = e s M' := by
  induction s with
  | bot => rw [e_bot, e_bot, zero_mul]
  | top => rw [top_le_iff.mp h] at h' ⊢; rw [top_le_iff.mp h', e_top, zero_mul]
  | coe a =>
    induction M with
    | bot => exact absurd h (by simp)
    | top => rw [top_le_iff.mp h', e_top, e_top, zero_mul]
    | coe b =>
      induction M' with
      | bot => exact absurd h' (by simp)
      | top => rw [e_top, e_top, mul_zero]
      | coe c => rw [e_coe, e_coe, e_coe, ← Real.exp_add]; congr 1; ring

/-- The sum over a set of keys of the exponential of the score less a maximum, times a weight. -/
def E (σ : ℕ → EReal) (w : ℕ → ℝ) (S : Finset ℕ) (M : EReal) : ℝ := ∑ t ∈ S, e (σ t) M * w t

theorem E_shift (σ : ℕ → EReal) (w : ℕ → ℝ) (S : Finset ℕ) {M M' : EReal} (h : S.sup σ ≤ M) (h' : M ≤ M') : E σ w S M * e M M' = E σ w S M' := by
  unfold E
  rw [Finset.sum_mul]
  refine Finset.sum_congr rfl fun t ht => ?_
  rw [mul_right_comm, e_mul (Finset.sup_le_iff.mp h t ht) h']

theorem coe_sum {ι : Type*} (S : Finset ι) (f : ι → ℝ) : ∑ x ∈ S, ((f x : ℝ) : EReal) = ((∑ x ∈ S, f x : ℝ) : EReal) := by
  classical
  induction S using Finset.induction_on with
  | empty => simp
  | insert a s ha ih => rw [Finset.sum_insert ha, Finset.sum_insert ha, ih, EReal.coe_add]

theorem div_coe_coe (a b : ℝ) (hb : b ≠ 0) : Ideal.div (a : EReal) (b : EReal) = ((a / b : ℝ) : EReal) := by
  rw [Ideal.div_coe hb, ← EReal.coe_mul, mul_one_div]

/-- A block of 512 keys, its numbers counted from its first. -/
theorem sum_block (f : ℕ → ℝ) (b : ℕ) : ∑ x : Fin 512, f (b + x.val) = ∑ t ∈ Finset.Ico b (b + 512), f t := by
  rw [Fin.sum_univ_eq_sum_range (fun x => f (b + x)) 512, Finset.sum_Ico_eq_sum_range]
  simp

/-- The keys of a block up to the `r`-th. -/
theorem sum_block_le (f : ℕ → ℝ) (b r : ℕ) (hr : r < 512) :
    ∑ x : Fin 512, (if x.val ≤ r then f (b + x.val) else 0) = ∑ t ∈ Finset.Ico b (b + r + 1), f t := by
  rw [Fin.sum_univ_eq_sum_range (fun x => if x ≤ r then f (b + x) else 0) 512, Finset.sum_Ico_eq_sum_range,
    ← Finset.sum_filter]
  refine Finset.sum_congr ?_ fun _ _ => rfl
  ext x
  simp only [Finset.mem_filter, Finset.mem_range]
  omega

/-- The greatest of a block's scores, and of it up to its `r`-th. -/
theorem sup_block (σ : ℕ → EReal) (j : ℕ) (m : EReal) (hm : ∀ c, m ≤ c ↔ ∀ x : Fin 512, σ (512 * j + x.val) ≤ c) :
    max ((Finset.range (512 * j)).sup σ) m = (Finset.range (512 * (j + 1))).sup σ := by
  refine eq_of_forall_ge_iff fun c => ?_
  rw [max_le_iff, hm, Finset.sup_le_iff, Finset.sup_le_iff]
  simp only [Finset.mem_range]
  constructor
  · rintro ⟨h1, h2⟩ t ht
    by_cases h : t < 512 * j
    · exact h1 t h
    · have := h2 ⟨t - 512 * j, by omega⟩
      rwa [show 512 * j + (t - 512 * j) = t by omega] at this
  · exact fun h => ⟨fun t ht => h t (by omega), fun x => h _ (by omega)⟩
theorem sup_first (σ : ℕ → EReal) (b r : ℕ) (hr : r < 512) (m : EReal) (hm : ∀ c, m ≤ c ↔ ∀ x : Fin 512, (if x.val ≤ r then σ (b + x.val) else ⊥) ≤ c) :
    max ⊥ m = (Finset.Ico b (b + r + 1)).sup σ := by
  refine eq_of_forall_ge_iff fun c => ?_
  rw [max_eq_right bot_le, hm, Finset.sup_le_iff]
  simp only [Finset.mem_Ico]
  constructor
  · rintro h t ht
    have := h ⟨t - b, by omega⟩
    rw [if_pos (show t - b ≤ r by omega)] at this
    rwa [show b + (t - b) = t by omega] at this
  · intro h x
    split_ifs
    · exact h _ (by omega)
    · exact bot_le
theorem sup_join (σ : ℕ → EReal) (b r : ℕ) :
    max ((Finset.Ico b (b + r + 1)).sup σ) ((Finset.range b).sup σ) = (Finset.range (b + r + 1)).sup σ := by
  refine eq_of_forall_ge_iff fun c => ?_
  rw [max_le_iff, Finset.sup_le_iff, Finset.sup_le_iff, Finset.sup_le_iff]
  simp only [Finset.mem_Ico, Finset.mem_range]
  exact ⟨fun h t ht => if k : t < b then h.2 t k else h.1 t (by omega), fun h => ⟨fun t ht => h t (by omega), fun t ht => h t (by omega)⟩⟩

/-- One block's step: the sums kept so far, rescaled, and the block's own. -/
theorem step (σ : ℕ → EReal) (w : ℕ → ℝ) (S : Finset ℕ) {M M' : EReal} (j : ℕ) (hS : S.sup σ ≤ M) (hj : (Finset.range (512 * j)).sup σ ≤ M)
    (h : M ≤ M') (hx : ∀ x : Fin 512, σ (512 * j + x.val) ≤ M') :
    ((E σ w S M + E σ w (Finset.range (512 * j)) M : ℝ) : EReal) * Ideal.exp (M - M')
      + ∑ x : Fin 512, Ideal.exp (σ (512 * j + x.val) - M') * ((w (512 * j + x.val) : ℝ) : EReal)
      = ((E σ w S M' + E σ w (Finset.range (512 * (j + 1))) M' : ℝ) : EReal) := by
  simp only [exp_eq h, exp_eq (hx _), ← EReal.coe_mul, coe_sum, ← EReal.coe_add]
  congr 1
  rw [add_mul, E_shift σ w S hS h, E_shift σ w _ hj h, sum_block (fun t => e (σ t) M' * w t) (512 * j), add_assoc]
  congr 1
  unfold E
  rw [Finset.sum_range_add_sum_Ico _ (by omega)]
  rfl

/-- The first block, masked past its `r`-th key. -/
theorem first (σ : ℕ → EReal) (w : ℕ → ℝ) (M' : EReal) (b r : ℕ) (hr : r < 512) (hx : ∀ x : Fin 512, (if x.val ≤ r then σ (b + x.val) else ⊥) ≤ M') :
    (0 : EReal) * Ideal.exp ((⊥ : EReal) - M')
      + ∑ x : Fin 512, Ideal.exp ((if x.val ≤ r then σ (b + x.val) else ⊥) - M') * ((w (b + x.val) : ℝ) : EReal)
      = ((E σ w (Finset.Ico b (b + r + 1)) M' : ℝ) : EReal) := by
  rw [zero_mul, zero_add]
  unfold E
  rw [← sum_block_le (fun t => e (σ t) M' * w t) b r hr, ← coe_sum]
  refine Finset.sum_congr rfl fun x _ => ?_
  rw [exp_eq (hx x), ← EReal.coe_mul]
  congr 1
  split_ifs
  · rfl
  · rw [e_bot, zero_mul]

/-- The keys before a block and the block's own up to its `r`-th. -/
theorem E_join (σ : ℕ → EReal) (w : ℕ → ℝ) (b r : ℕ) (M : EReal) :
    E σ w (Finset.Ico b (b + r + 1)) M + E σ w (Finset.range b) M = E σ w (Finset.range (b + r + 1)) M := by
  unfold E
  rw [add_comm, Finset.sum_range_add_sum_Ico _ (by omega)]

/-- The sums written out over all the keys, those past the `T`-th masked. -/
theorem whole (N : ℕ) (σ : ℕ → EReal) (w : ℕ → ℝ) (M : EReal) (T : ℕ) (hT : T < N) :
    (∑ t : Fin N, e (if t.val ≤ T then σ t.val else ⊥) M * w t.val) = E σ w (Finset.range (T + 1)) M := by
  unfold E
  rw [Fin.sum_univ_eq_sum_range (fun t => e (if t ≤ T then σ t else ⊥) M * w t) N, ← Finset.sum_subset (s₁ := Finset.range (T + 1))]
  · refine Finset.sum_congr rfl fun t ht => ?_
    rw [if_pos (by simp only [Finset.mem_range] at ht; omega)]
  · intro t ht
    simp only [Finset.mem_range] at ht ⊢
    omega
  · intro t _ ht
    simp only [Finset.mem_range] at ht
    rw [if_neg (by omega), e_bot, zero_mul]

/-- The greatest of the scores written out over all the keys, those past the `T`-th masked. -/
theorem sup_whole (N : ℕ) (σ : ℕ → EReal) (T : ℕ) (hT : T < N) :
    max ⊥ (Finset.fold max ⊥ (fun t : Fin N => if t.val ≤ T then σ t.val else ⊥) Finset.univ) = (Finset.range (T + 1)).sup σ := by
  refine eq_of_forall_ge_iff fun c => ?_
  rw [max_eq_right bot_le, Finset.fold_max_le, Finset.sup_le_iff]
  simp only [Finset.mem_range, Finset.mem_univ, true_imp_iff, bot_le, true_and]
  constructor
  · rintro h t ht
    have := h ⟨t, by omega⟩
    rwa [if_pos (show t ≤ T by omega)] at this
  · intro h x
    split_ifs
    · exact h _ (by omega)
    · exact bot_le

theorem real_of {a : EReal} (h1 : a ≠ ⊤) (h2 : a ≠ ⊥) : ∃ r : ℝ, a = (r : EReal) := ⟨a.toReal, (EReal.coe_toReal h1 h2).symm⟩

/-- A sum of products with one number that is neither negative nor infinite. -/
theorem sum_mul {ι : Type*} (S : Finset ι) (f : ι → EReal) (c : ℝ) (hc : 0 ≤ c) : ∑ x ∈ S, f x * (c : EReal) = (∑ x ∈ S, f x) * (c : EReal) := by
  classical
  induction S using Finset.induction_on with
  | empty => simp
  | insert a s ha ih =>
    rw [Finset.sum_insert ha, Finset.sum_insert ha, ih, EReal.right_distrib_of_nonneg_of_ne_top (EReal.coe_nonneg.mpr hc) (EReal.coe_ne_top c)]

end Cert.Soft

end
-- ==== Proof.AttnV.Rows.lean ====
/-
  One block's update of the running maximum and the running sums, read at a row: what the maximum becomes, what
  the sums become, the scores as sums of products, the diagonal block's scores masked.
-/
module

public import proofs.«01_k».proof.Proof.AttnI.Body
public import proofs.«01_k».proof.Proof.AttnV.Soft
public import proofs.«01_k».proof.Proof.AttnV.Words

@[expose] public section

set_option maxRecDepth 16384

noncomputable section

namespace Cert.AttnV

open Cert.KernelIdeal Cert.KernelIdeal.Gen Cert.AttnI
open Idealize.ShloMosaic Idealize.ShloMosaic.TcCoe
open View (Piece canon ld)

theorem ofBits_ninf : Ideal.ofBits FTy.f32 4286578688#32 = ⊥ := by
  unfold Ideal.ofBits
  simp [Ideal.ieee]

theorem masked_eq : (Named.named (F := Ideal) κ "masked" 4048155338#32 : Ideal .f32) = ⊥ :=
  rfl

/-! ## A quarter of the rows -/

/-- The greatest score of a row of a block, in the order the program takes it. -/
def top (s : Fin 512 → EReal) : EReal :=
  Finset.fold max ⊥ (fun x : Fin 128 => max (max (max (s ⟨x.val, by omega⟩) (s ⟨128 + x.val, by omega⟩)) (s ⟨256 + x.val, by omega⟩)) (s ⟨384 + x.val, by omega⟩)) Finset.univ

theorem top_le (s : Fin 512 → EReal) (c : EReal) : top s ≤ c ↔ ∀ x, s x ≤ c := by
  unfold top
  rw [Finset.fold_max_le]
  simp only [Finset.mem_univ, true_imp_iff, bot_le, true_and, max_le_iff]
  constructor
  · intro h x
    rcases lt_or_ge x.val 256 with h1 | h1
    · rcases lt_or_ge x.val 128 with h2 | h2
      · exact (h ⟨x.val, h2⟩).1.1.1
      · have := (h ⟨x.val - 128, by omega⟩).1.1.2
        rwa [show (⟨128 + (x.val - 128), by omega⟩ : Fin 512) = x from Fin.ext (by show 128 + (x.val - 128) = x.val; omega)] at this
    · rcases lt_or_ge x.val 384 with h2 | h2
      · have := (h ⟨x.val - 256, by omega⟩).1.2
        rwa [show (⟨256 + (x.val - 256), by omega⟩ : Fin 512) = x from Fin.ext (by show 256 + (x.val - 256) = x.val; omega)] at this
      · have := (h ⟨x.val - 384, by omega⟩).2
        rwa [show (⟨384 + (x.val - 384), by omega⟩ : Fin 512) = x from Fin.ext (by show 384 + (x.val - 384) = x.val; omega)] at this
  · exact fun h x => ⟨⟨⟨h _, h _⟩, h _⟩, h _⟩

theorem mN_at (s : Vec Ideal S256x512 .f32) (m : Vec Ideal S256x128 .f32) (r : Fin 256) (l : Fin 128) :
    mN s m (ix2 r l) = max (m (ix2 r l)) (top fun x => s (ix2 r x)) := by
  pointwise [mN, k0_pay26, k0_pay24]
  rw [ofBits_ninf]; rfl
theorem n37_at (s : Vec Ideal S256x512 .f32) (m : Vec Ideal S256x128 .f32) (r : Fin 256) (l : Fin 128) :
    k0_pay37 s m (ix2 r l) = max (m (ix2 r l)) (top fun x => s (ix2 r x)) := by
  pointwise [k0_pay37]
  rw [ofBits_ninf]; rfl

theorem mN_row (s : Vec Ideal S256x512 .f32) (m : Vec Ideal S256x128 .f32) (r : Fin 256) (l : Fin 128) (sf : Fin 512 → EReal) (m0 : EReal)
    (hs : ∀ x, s (ix2 r x) = sf x) (hm : m (ix2 r l) = m0) : mN s m (ix2 r l) = max m0 (top sf) := by
  rw [mN_at, hm, show (fun x => s (ix2 r x)) = sf from funext hs]

theorem aN_row (va : FVec Ideal S512x256 .bf16) (s : Vec Ideal S256x512 .f32) (m : Vec Ideal S256x128 .f32) (a : Vec Ideal S256x256 .f32)
    (r : Fin 256) (c : Fin 256) (sf : Fin 512 → EReal) (m0 a0 : EReal) (hs : ∀ x, s (ix2 r x) = sf x) (hm : ∀ l, m (ix2 r l) = m0) (ha : a (ix2 r c) = a0) :
    aN va s m a (ix2 r c) = a0 * Ideal.exp (m0 - max m0 (top sf))
      + ∑ x : Fin 512, Ideal.exp (sf x - max m0 (top sf)) * va (ix2 x c) := by
  have h37 : ∀ l, k0_pay37 s m (ix2 r l) = max m0 (top sf) := fun l => by
    rw [n37_at, hm, show (fun x => s (ix2 r x)) = sf from funext hs]
  pointwise [aN, k0_pay38]
  simp only [h37, hm, ha, hs, dite_eq_ite, ite_self]

/-! ## The rows of the whole -/

theorem row_cases (P : Fin 1024 → Prop) (h0 : ∀ r : Fin 256, P ⟨0 + r.val, by omega⟩) (h1 : ∀ r : Fin 256, P ⟨256 + r.val, by omega⟩)
    (h2 : ∀ r : Fin 256, P ⟨512 + r.val, by omega⟩) (h3 : ∀ r : Fin 256, P ⟨768 + r.val, by omega⟩) (R : Fin 1024) : P R := by
  rcases lt_or_ge R.val 256 with h | h
  · have := h0 ⟨R.val, h⟩; simpa using this
  rcases lt_or_ge R.val 512 with h' | h'
  · have := h1 ⟨R.val - 256, by omega⟩; simpa [show 256 + (R.val - 256) = R.val by omega] using this
  rcases lt_or_ge R.val 768 with h'' | h''
  · have := h2 ⟨R.val - 512, by omega⟩; simpa [show 512 + (R.val - 512) = R.val by omega] using this
  · have := h3 ⟨R.val - 768, by omega⟩; simpa [show 768 + (R.val - 768) = R.val by omega] using this

section
variable {e : EltTy}
theorem lM0 (S : S1024x128.Idx → Elt Ideal e) (r : Fin 256) (x : Fin 128) : ld S rM0 (ix2 r x) = S (ix2 ⟨0 + r.val, by omega⟩ x) := by pointwise
theorem lM1 (S : S1024x128.Idx → Elt Ideal e) (r : Fin 256) (x : Fin 128) : ld S rM1 (ix2 r x) = S (ix2 ⟨256 + r.val, by omega⟩ x) := by pointwise
theorem lM2 (S : S1024x128.Idx → Elt Ideal e) (r : Fin 256) (x : Fin 128) : ld S rM2 (ix2 r x) = S (ix2 ⟨512 + r.val, by omega⟩ x) := by pointwise
theorem lM3 (S : S1024x128.Idx → Elt Ideal e) (r : Fin 256) (x : Fin 128) : ld S rM3 (ix2 r x) = S (ix2 ⟨768 + r.val, by omega⟩ x) := by pointwise
theorem lA0 (S : S1024x256.Idx → Elt Ideal e) (r : Fin 256) (x : Fin 256) : ld S rA0 (ix2 r x) = S (ix2 ⟨0 + r.val, by omega⟩ x) := by pointwise
theorem lA1 (S : S1024x256.Idx → Elt Ideal e) (r : Fin 256) (x : Fin 256) : ld S rA1 (ix2 r x) = S (ix2 ⟨256 + r.val, by omega⟩ x) := by pointwise
theorem lA2 (S : S1024x256.Idx → Elt Ideal e) (r : Fin 256) (x : Fin 256) : ld S rA2 (ix2 r x) = S (ix2 ⟨512 + r.val, by omega⟩ x) := by pointwise
theorem lA3 (S : S1024x256.Idx → Elt Ideal e) (r : Fin 256) (x : Fin 256) : ld S rA3 (ix2 r x) = S (ix2 ⟨768 + r.val, by omega⟩ x) := by pointwise
theorem lS0 (S : S1024x512.Idx → Elt Ideal e) (r : Fin 256) (x : Fin 512) : ld S rS0 (ix2 r x) = S (ix2 ⟨0 + r.val, by omega⟩ x) := by pointwise
theorem lS1 (S : S1024x512.Idx → Elt Ideal e) (r : Fin 256) (x : Fin 512) : ld S rS1 (ix2 r x) = S (ix2 ⟨256 + r.val, by omega⟩ x) := by pointwise
theorem lS2 (S : S1024x512.Idx → Elt Ideal e) (r : Fin 256) (x : Fin 512) : ld S rS2 (ix2 r x) = S (ix2 ⟨512 + r.val, by omega⟩ x) := by pointwise
theorem lS3 (S : S1024x512.Idx → Elt Ideal e) (r : Fin 256) (x : Fin 512) : ld S rS3 (ix2 r x) = S (ix2 ⟨768 + r.val, by omega⟩ x) := by pointwise
end

theorem upM_at (S : S1024x512.Idx → Elt Ideal .f32) (M : S1024x128.Idx → Elt Ideal .f32) (R : Fin 1024) (l : Fin 128) :
    upM S M (ix2 R l) = max (M (ix2 R l)) (top fun x => S (ix2 R x)) := by
  revert R
  refine row_cases _ ?_ ?_ ?_ ?_ <;> intro r
  · exact (lM0 (upM S M) r l).symm.trans ((congrFun (ld_M0 ..) _).trans (mN_row _ _ r l _ _ (lS0 S r) (lM0 M r l)))
  · exact (lM1 (upM S M) r l).symm.trans ((congrFun (ld_M1 ..) _).trans (mN_row _ _ r l _ _ (lS1 S r) (lM1 M r l)))
  · exact (lM2 (upM S M) r l).symm.trans ((congrFun (ld_M2 ..) _).trans (mN_row _ _ r l _ _ (lS2 S r) (lM2 M r l)))
  · exact (lM3 (upM S M) r l).symm.trans ((congrFun (ld_M3 ..) _).trans (mN_row _ _ r l _ _ (lS3 S r) (lM3 M r l)))

theorem upA_at (va : FVec Ideal S512x256 .bf16) (S : S1024x512.Idx → Elt Ideal .f32) (M : S1024x128.Idx → Elt Ideal .f32)
    (A : S1024x256.Idx → Elt Ideal .f32) (R : Fin 1024) (c : Fin 256) (m0 : EReal) (hm : ∀ l, M (ix2 R l) = m0) :
    upA va S M A (ix2 R c) = A (ix2 R c) * Ideal.exp (m0 - max m0 (top fun x => S (ix2 R x)))
      + ∑ x : Fin 512, Ideal.exp (S (ix2 R x) - max m0 (top fun x => S (ix2 R x))) * va (ix2 x c) := by
  revert R
  refine row_cases _ ?_ ?_ ?_ ?_ <;> intro r hm
  · exact (lA0 (upA va S M A) r c).symm.trans ((congrFun (ld_A0 ..) _).trans (aN_row va _ _ _ r c _ _ _ (lS0 S r) (fun l => (lM0 M r l).trans (hm l)) (lA0 A r c)))
  · exact (lA1 (upA va S M A) r c).symm.trans ((congrFun (ld_A1 ..) _).trans (aN_row va _ _ _ r c _ _ _ (lS1 S r) (fun l => (lM1 M r l).trans (hm l)) (lA1 A r c)))
  · exact (lA2 (upA va S M A) r c).symm.trans ((congrFun (ld_A2 ..) _).trans (aN_row va _ _ _ r c _ _ _ (lS2 S r) (fun l => (lM2 M r l).trans (hm l)) (lA2 A r c)))
  · exact (lA3 (upA va S M A) r c).symm.trans ((congrFun (ld_A3 ..) _).trans (aN_row va _ _ _ r c _ _ _ (lS3 S r) (fun l => (lM3 M r l).trans (hm l)) (lA3 A r c)))

/-! ## The scores -/

theorem sc_at (v10 : FVec Ideal S1024x128 .bf16) (kb : Vec Ideal S1x512x128 .bf16) (R : Fin 1024) (x : Fin 512) :
    sc v10 kb (ix2 R x) = ∑ k : Fin 128, v10 (ix2 R k) * kb (ix3 0 x k) := by
  revert R
  refine row_cases _ ?_ ?_ ?_ ?_ <;> intro r
  · rw [← lS0 (sc v10 kb)]; unfold sc; rw [ld_S0]; pointwise [k0_pay19, k0_pay18]
  · rw [← lS1 (sc v10 kb)]; unfold sc; rw [ld_S1]; pointwise [k0_pay20, k0_pay18]
  · rw [← lS2 (sc v10 kb)]; unfold sc; rw [ld_S2]; pointwise [k0_pay21, k0_pay18]
  · rw [← lS3 (sc v10 kb)]; unfold sc; rw [ld_S3]; pointwise [k0_pay22, k0_pay18]

theorem tS_at (i : grid0.Coords) (v10 : FVec Ideal S1024x128 .bf16) (kb : Vec Ideal S1x512x128 .bf16) (R : Fin 1024) (x : Fin 512) :
    tS i v10 kb (ix2 R x) = if x.val ≤ R.val % 512 then ∑ k : Fin 128, v10 (ix2 R k) * kb (ix3 0 x k) else ⊥ := by
  have hn : (i 2).val < 16 := (i 2).isLt
  revert R
  refine row_cases _ ?_ ?_ ?_ ?_ <;> intro r
  · rw [← lS0 (tS i v10 kb)]; unfold tS; rw [ld_S0]; pointwise [k0_pay91, k0_pay88, k0_pay87]
    rw [Words.diag _ _ (0 + r.val) hn x.isLt (by omega) _ (by first | exact (BitVec.ofNat_add ..).symm.trans (congrArg _ (Nat.add_comm ..)) | simp [IntOp.addi]), Words.select_if, masked_eq]
    congr 1; exact propext (by omega)
  · rw [← lS1 (tS i v10 kb)]; unfold tS; rw [ld_S1]; pointwise [k0_pay92, k0_pay89, k0_pay87]
    rw [Words.diag _ _ (256 + r.val) hn x.isLt (by omega) _ (by first | exact (BitVec.ofNat_add ..).symm.trans (congrArg _ (Nat.add_comm ..)) | simp [IntOp.addi]), Words.select_if, masked_eq]
    congr 1; exact propext (by omega)
  · rw [← lS2 (tS i v10 kb)]; unfold tS; rw [ld_S2]; pointwise [k0_pay93, k0_pay87, k0_pay90]
    rw [Words.diag _ _ (0 + r.val) hn x.isLt (by omega) _ (by first | exact (BitVec.ofNat_add ..).symm.trans (congrArg _ (Nat.add_comm ..)) | simp [IntOp.addi]), Words.select_if, masked_eq]
    congr 1; exact propext (by omega)
  · rw [← lS3 (tS i v10 kb)]; unfold tS; rw [ld_S3]; pointwise [k0_pay94, k0_pay87]
    rw [Words.diag _ _ (256 + r.val) hn x.isLt (by omega) _ (by first | exact (BitVec.ofNat_add ..).symm.trans (congrArg _ (Nat.add_comm ..)) | simp [IntOp.addi]), Words.select_if, masked_eq]
    congr 1; exact propext (by omega)

theorem vA_at (vb : Vec Ideal S1x512x128 .bf16) (x : Fin 512) (c : Fin 256) :
    vA k0_pay81 vb (ix2 x c) = if h : c.val < 128 then vb (ix3 0 x ⟨c.val, h⟩) else 1 := by
  pointwise [vA, k0_pay23, k0_pay81]

theorem blk_at (X : S1x8192x128.Idx → Elt Ideal .bf16) (j : ℕ) (x : Fin 512) (k : Fin 128) :
    blk X j (ix3 0 x k) = X (ix3 0 ⟨512 * (j % 16) + x.val, by omega⟩ k) := by
  pointwise [blk]

theorem M0_at (r : Fin 1024) (x : Fin 128) : (k0_pay79 : FVec Ideal _ _) (ix2 r x) = ⊥ := by
  pointwise [k0_pay79]; exact masked_eq
theorem A0_at (r : Fin 1024) (x : Fin 256) : (k0_pay80 : FVec Ideal _ _) (ix2 r x) = 0 := by
  pointwise [k0_pay80]

theorem q_at (X : Vec Ideal S1x512x128 .bf16) (R : Fin 1024) (k : Fin 128) :
    k0_pay78 X (ix2 R k) = if (R.val < 512 ↔ k.val < 64) then X (ix3 0 ⟨R.val % 512, by omega⟩ k) else 0 := by
  pointwise [k0_pay78]
  rw [Words.bit_slt _ _ (by omega) (by omega), Words.bit_sge _ _ (by omega) (by omega)]
  have h1 := R.isLt
  by_cases h : R.val < 512
  · rw [dif_pos h]
    refine (Words.select_if ..).trans ?_
    simp only [h, true_iff, Nat.mod_eq_of_lt h]
  · rw [dif_neg h]
    refine (Words.select_if ..).trans ?_
    simp only [h, false_iff, not_lt, show R.val % 512 = R.val - 512 by omega]

/-! ## The last step -/

theorem lam_at (A : Vec Ideal S4x64 .f32) (x : Fin 512) (k : Fin 128) : k0_pay123 A (ix2 x k)
    = Ideal.exp (∑ x, A (ix2 0 x) * A (ix2 1 x)) - Ideal.exp (∑ x, A (ix2 2 x) * A (ix2 3 x)) + Ideal.ofBits FTy.f32 1045220557#32 := by
  pointwise [k0_pay123]

theorem out_at (A : Vec Ideal S1024x256 .f32) (X4 : Vec Ideal S1x128 .f32) (X3 : Vec Ideal S4x64 .f32) (x : Fin 512) (k : Fin 128) (o : Fin 128 → EReal)
    (ho : ∀ k : Fin 128, Ideal.div (A (ix2 ⟨x.val, by omega⟩ ⟨k.val, by omega⟩)) (A (ix2 ⟨x.val, by omega⟩ ⟨128 + k.val, by omega⟩))
      - k0_pay123 X3 (ix2 x k) * Ideal.div (A (ix2 ⟨512 + x.val, by omega⟩ ⟨k.val, by omega⟩)) (A (ix2 ⟨512 + x.val, by omega⟩ ⟨128 + k.val, by omega⟩)) = o k) :
    k0_pay1 (k0_pay120 A) (k0_pay121 A) (k0_pay122 X4) (k0_pay123 X3) (ix3 0 x k)
      = o k * Ideal.rsqrt (Ideal.div (∑ k, o k * o k) (Ideal.ofBits FTy.f32 1124073472#32) + Ideal.ofBits FTy.f32 925353388#32)
        * X4 (ix2 0 k) * Ideal.ofBits FTy.f32 1061997773#32 := by
  simp only [← ho]
  pointwise [k0_pay1, k0_pay120, k0_pay121, k0_pay119, k0_pay122]

end Cert.AttnV

end
-- ==== Proof.AttnV.Meet.lean ====
/-
  The two orders of the differential attention: the difference of two averages of the values, and the values averaged with the
  difference of the weights. After the row's normalisation the two are the same, even where all the weights of a row are
  zero (a score is infinite): there both rows are infinite or zero, and the normalisation makes them zero.
-/
module

public import proofs.«01_k».proof.Proof.AttnV.Soft

@[expose] public section

noncomputable section

namespace Cert.Meet

open Idealize.ShloMosaic

/-- A row of 128 numbers normalised by its root mean square, scaled by a weight. -/
def nrm (o : Fin 128 → EReal) (s : EReal) (k : Fin 128) : EReal :=
  o k * Ideal.rsqrt (Ideal.div (∑ k, o k * o k) (Ideal.ofBits FTy.f32 1124073472#32) + Ideal.ofBits FTy.f32 925353388#32) * s * Ideal.ofBits FTy.f32 1061997773#32

/-- Zero or infinite. -/
def wild (x : EReal) : Prop := x = 0 ∨ x = ⊤ ∨ x = ⊥

theorem wild_add {x y : EReal} (hx : wild x) (hy : wild y) : wild (x + y) := by
  rcases hx with rfl | rfl | rfl <;> rcases hy with rfl | rfl | rfl <;> simp [wild]
theorem wild_mul (v : ℝ) {x : EReal} (hx : wild x) : wild ((v : EReal) * x) := by
  rcases lt_trichotomy v 0 with h | rfl | h
  · rcases hx with rfl | rfl | rfl
    · exact .inl (mul_zero _)
    · exact .inr (.inr (EReal.coe_mul_top_of_neg h))
    · exact .inr (.inl (EReal.coe_mul_bot_of_neg h))
  · exact .inl (by rw [EReal.coe_zero, zero_mul])
  · rcases hx with rfl | rfl | rfl
    · exact .inl (mul_zero _)
    · exact .inr (.inl (EReal.coe_mul_top_of_pos h))
    · exact .inr (.inr (EReal.coe_mul_bot_of_pos h))
theorem wild_sum {ι : Type*} (S : Finset ι) (f : ι → EReal) (h : ∀ x ∈ S, wild (f x)) : wild (∑ x ∈ S, f x) := by
  classical
  induction S using Finset.induction_on with
  | empty => exact .inl Finset.sum_empty
  | insert a s ha ih =>
    rw [Finset.sum_insert ha]
    exact wild_add (h a (Finset.mem_insert_self _ _)) (ih fun x hx => h x (Finset.mem_insert_of_mem hx))

theorem c128 : Ideal.ofBits FTy.f32 1124073472#32 = ((128 : ℝ) : EReal) := by
  unfold Ideal.ofBits
  simp [Ideal.ieee]
  rw [← EReal.coe_mul]
  norm_num
theorem ceps : ∃ r : ℝ, Ideal.ofBits FTy.f32 925353388#32 = (r : EReal) := by
  unfold Ideal.ofBits
  simp [Ideal.ieee]
  exact ⟨10995116 * (2 ^ 40)⁻¹, (EReal.coe_mul _ _).symm⟩

/-- A row of zeros and infinities is normalised to zero. -/
theorem nrm_wild (o : Fin 128 → EReal) (h : ∀ k, wild (o k)) (s : EReal) (k : Fin 128) : nrm o s k = 0 := by
  have sq : ∀ k, o k * o k = 0 ∨ o k * o k = ⊤ := fun k => by
    rcases h k with e | e | e <;> rw [e] <;> simp
  unfold nrm
  suffices hz : o k * Ideal.rsqrt (Ideal.div (∑ k, o k * o k) (Ideal.ofBits FTy.f32 1124073472#32) + Ideal.ofBits FTy.f32 925353388#32) = 0 by
    rw [hz, zero_mul, zero_mul]
  by_cases hk : o k = 0
  · rw [hk, zero_mul]
  have ht : o k * o k = ⊤ := by
    rcases h k with e | e | e
    · exact absurd e hk
    · rw [e]; rfl
    · rw [e]; rfl
  have hs : ∑ k, o k * o k = ⊤ := by
    refine top_le_iff.mp (ht ▸ Finset.single_le_sum (f := fun k => o k * o k) (fun x _ => ?_) (Finset.mem_univ k))
    rcases sq x with e | e <;> simp [e]
  obtain ⟨r, hr⟩ := ceps
  rw [hs, c128, hr, Ideal.div_coe (by norm_num), EReal.top_mul_coe_of_pos (by norm_num), EReal.top_add_coe]
  exact mul_zero _

theorem div_zero_zero : Ideal.div ((0 : ℝ) : EReal) ((0 : ℝ) : EReal) = ⊥ := by simp [Ideal.div]

section
variable {N : ℕ} (e0 e1 : Fin N → ℝ) (v : Fin N → Fin 128 → ℝ) (lam : ℝ)

/-- The difference of two averages. -/
def oK (k : Fin 128) : EReal := Ideal.div ((∑ s, e0 s * v s k : ℝ) : EReal) ((∑ s, e0 s : ℝ) : EReal)
  - (lam : EReal) * Ideal.div ((∑ s, e1 s * v s k : ℝ) : EReal) ((∑ s, e1 s : ℝ) : EReal)
/-- The average with the difference of the weights. -/
def oR (k : Fin 128) : EReal := ∑ s, ((v s k : ℝ) : EReal) * (Ideal.div ((e0 s : ℝ) : EReal) ((∑ s, e0 s : ℝ) : EReal)
  - (lam : EReal) * Ideal.div ((e1 s : ℝ) : EReal) ((∑ s, e1 s : ℝ) : EReal))

theorem all_zero (f : Fin N → ℝ) (hf : ∀ s, 0 ≤ f s) (h : ∑ s, f s = 0) (s : Fin N) : f s = 0 :=
  (Finset.sum_eq_zero_iff_of_nonneg fun x _ => hf x).mp h s (Finset.mem_univ s)

theorem meet (h0 : ∀ s, 0 ≤ e0 s) (h1 : ∀ s, 0 ≤ e1 s) (s : EReal) (k : Fin 128) : nrm (oK e0 e1 v lam) s k = nrm (oR e0 e1 v lam) s k := by
  by_cases d0 : ∑ s, e0 s = 0
  · have z := all_zero e0 h0 d0
    rw [nrm_wild _ (fun k => ?_), nrm_wild _ (fun k => ?_)]
    · unfold oR
      refine wild_sum _ _ fun x _ => wild_mul _ (.inr (.inr ?_))
      rw [z x, d0, div_zero_zero, EReal.bot_sub]
    · unfold oK
      refine .inr (.inr ?_)
      simp only [z, zero_mul, Finset.sum_const_zero]
      rw [div_zero_zero, EReal.bot_sub]
  by_cases d1 : ∑ s, e1 s = 0
  · have z := all_zero e1 h1 d1
    by_cases hl : lam = 0
    · have e : oK e0 e1 v lam = oR e0 e1 v lam := funext fun k => by
        unfold oK oR
        simp only [hl, EReal.coe_zero, zero_mul, sub_zero, Soft.div_coe_coe _ _ d0, ← EReal.coe_mul, Soft.coe_sum]
        congr 1
        rw [Finset.sum_div]
        exact Finset.sum_congr rfl fun x _ => by ring
      rw [e]
    · have w : ∀ a : ℝ, wild ((a : EReal) - (lam : EReal) * ⊥) := fun a => by
        rcases lt_or_gt_of_ne hl with h | h
        · rw [EReal.coe_mul_bot_of_neg h]; exact .inr (.inr rfl)
        · rw [EReal.coe_mul_bot_of_pos h]; exact .inr (.inl rfl)
      rw [nrm_wild _ (fun k => ?_), nrm_wild _ (fun k => ?_)]
      · unfold oR
        refine wild_sum _ _ fun x _ => wild_mul _ ?_
        rw [z x, d1, div_zero_zero, Soft.div_coe_coe _ _ d0]
        exact w _
      · unfold oK
        simp only [z, zero_mul, Finset.sum_const_zero]
        rw [div_zero_zero, Soft.div_coe_coe _ _ d0]
        exact w _
  · have e : oK e0 e1 v lam = oR e0 e1 v lam := funext fun k => by
      unfold oK oR
      simp only [Soft.div_coe_coe _ _ d0, Soft.div_coe_coe _ _ d1, ← EReal.coe_mul, ← EReal.coe_sub, Soft.coe_sum]
      congr 1
      rw [Finset.sum_div, Finset.sum_div, Finset.mul_sum, ← Finset.sum_sub_distrib]
      exact Finset.sum_congr rfl fun x _ => by ring
    rw [e]
end

end Cert.Meet

end
-- ==== Proof.AttnV.Inv.lean ====
/-
  The running maximum and sums of a grid point, row by row: after the diagonal block and `J` earlier blocks the
  maximum is the greatest score of the keys seen and the sums are their weighted exponentials. What the body writes follows.
-/
module

public import proofs.«01_k».proof.Proof.AttnV.Rows
public import proofs.«01_k».proof.Proof.AttnV.Meet

@[expose] public section

set_option maxRecDepth 16384

noncomputable section

namespace Cert.AttnV

open Cert.KernelIdeal Cert.KernelIdeal.Gen Cert.AttnI
open Idealize.ShloMosaic Idealize.ShloMosaic.TcCoe
open View (Piece canon ld)

/-- A key's number as an index of the whole sequence. -/
def key (t : ℕ) : Fin 8192 := ⟨t % 8192, Nat.mod_lt _ (by decide)⟩
/-- The score of a row against a key. -/
def sco (v10 : FVec Ideal S1024x128 .bf16) (XK : S1x8192x128.Idx → Elt Ideal .bf16) (R : Fin 1024) (t : ℕ) : EReal :=
  ∑ k : Fin 128, (v10 (ix2 R k) * XK (ix3 0 (key t) k) : EReal)
/-- The weight of a key in a column: its value there, or one. -/
def wt (vr : Fin 8192 → Fin 128 → ℝ) (c : Fin 256) (t : ℕ) : ℝ := if h : c.val < 128 then vr (key t) ⟨c.val, h⟩ else 1

section
variable (v10 : FVec Ideal S1024x128 .bf16) (XK XV : S1x8192x128.Idx → Elt Ideal .bf16)
  (vr : Fin 8192 → Fin 128 → ℝ)

theorem key_blk (j x : ℕ) (hx : x < 512) (h : 512 * (j % 16) + x < 8192) : (⟨512 * (j % 16) + x, h⟩ : Fin 8192) = key (512 * j + x) :=
  Fin.ext (by show 512 * (j % 16) + x = (512 * j + x) % 8192; omega)

theorem sum_sco (j : ℕ) (R : Fin 1024) (x : Fin 512) :
    ∑ k : Fin 128, v10 (ix2 R k) * blk XK j (ix3 0 x k) = sco v10 XK R (512 * j + x.val) := by
  unfold sco
  refine Finset.sum_congr rfl fun k _ => ?_
  rw [blk_at, key_blk _ _ x.isLt]

theorem vA_real (hV : ∀ t k, XV (ix3 0 t k) = ((vr t k : ℝ) : EReal)) (j : ℕ) (x : Fin 512) (c : Fin 256) :
    vA k0_pay81 (blk XV j) (ix2 x c) = ((wt vr c (512 * j + x.val) : ℝ) : EReal) := by
  rw [vA_at]
  unfold wt
  by_cases h : c.val < 128
  · rw [dif_pos h, dif_pos h, blk_at, hV, key_blk _ _ x.isLt]
  · rw [dif_neg h, dif_neg h, EReal.coe_one]

theorem stM_zero (i : grid0.Coords) : stM i v10 XK 0 = upM (tS i v10 (blk XK (i 2).val)) (k0_pay79 (F := Ideal)) := by rw [Cert.AttnI.stM]
theorem stM_succ (i : grid0.Coords) (J : ℕ) : stM i v10 XK (J + 1) = upM (sc v10 (blk XK J)) (stM i v10 XK J) := by rw [Cert.AttnI.stM]
theorem stA_zero (i : grid0.Coords) (v19 : FVec Ideal S512x128 .bf16) : stA i v10 v19 XK XV 0 = upA (vA v19 (blk XV (i 2).val)) (tS i v10 (blk XK (i 2).val)) (k0_pay79 (F := Ideal)) (k0_pay80 (F := Ideal)) := by
  rw [Cert.AttnI.stA]
theorem stA_succ (i : grid0.Coords) (v19 : FVec Ideal S512x128 .bf16) (J : ℕ) :
    stA i v10 v19 XK XV (J + 1) = upA (vA v19 (blk XV J)) (sc v10 (blk XK J)) (stM i v10 XK J) (stA i v10 v19 XK XV J) := by rw [Cert.AttnI.stA]

/-- The greatest score of the diagonal block's keys seen by a row and of the first `J` blocks. -/
def mx (i : grid0.Coords) (R : Fin 1024) (J : ℕ) : EReal :=
  max ((Finset.Ico (512 * (i 2).val) (512 * (i 2).val + R.val % 512 + 1)).sup (sco v10 XK R)) ((Finset.range (512 * J)).sup (sco v10 XK R))

theorem mx_zero (i : grid0.Coords) (R : Fin 1024) :
    mx v10 XK i R 0 = (Finset.Ico (512 * (i 2).val) (512 * (i 2).val + R.val % 512 + 1)).sup (sco v10 XK R) := by
  unfold mx
  rw [Nat.mul_zero, Finset.range_zero, Finset.sup_empty]
  exact max_eq_left bot_le

theorem inv (i : grid0.Coords) (hV : ∀ t k, XV (ix3 0 t k) = ((vr t k : ℝ) : EReal)) (R : Fin 1024) (J : ℕ) :
    (∀ l, stM i v10 XK J (ix2 R l) = mx v10 XK i R J) ∧ ∀ c, stA i v10 k0_pay81 XK XV J (ix2 R c)
      = ((Soft.E (sco v10 XK R) (wt vr c) (Finset.Ico (512 * (i 2).val) (512 * (i 2).val + R.val % 512 + 1)) (mx v10 XK i R J)
          + Soft.E (sco v10 XK R) (wt vr c) (Finset.range (512 * J)) (mx v10 XK i R J) : ℝ) : EReal) := by
  induction J with
  | zero =>
    have hs : ∀ x : Fin 512, tS i v10 (blk XK (i 2).val) (ix2 R x)
        = if x.val ≤ R.val % 512 then sco v10 XK R (512 * (i 2).val + x.val) else ⊥ := fun x => by
      rw [tS_at, sum_sco v10 XK]
    have ht : max ⊥ (top fun x => tS i v10 (blk XK (i 2).val) (ix2 R x)) = mx v10 XK i R 0 := by
      refine (Soft.sup_first (sco v10 XK R) (512 * (i 2).val) (R.val % 512) (Nat.mod_lt _ (by decide)) _ fun c => ?_).trans ?_
      · rw [top_le]
        exact forall_congr' fun x => by rw [hs]
      · rw [mx_zero]
    have hx : ∀ x : Fin 512, (if x.val ≤ R.val % 512 then sco v10 XK R (512 * (i 2).val + x.val) else ⊥) ≤ mx v10 XK i R 0 := fun x =>
      (hs x).symm.trans_le ((top_le (fun x => tS i v10 (blk XK (i 2).val) (ix2 R x)) (mx v10 XK i R 0)).mp (ht ▸ le_max_right _ _) x)
    refine ⟨fun l => ?_, fun c => ?_⟩
    · rw [stM_zero, upM_at, M0_at, ht]
    · rw [stA_zero, upA_at _ _ _ _ R c ⊥ (fun l => M0_at R l), ht, A0_at]
      simp only [hs, vA_real XV vr hV]
      refine (Soft.first (sco v10 XK R) (wt vr c) (mx v10 XK i R 0) (512 * (i 2).val) (R.val % 512) (Nat.mod_lt _ (by decide)) hx).trans ?_
      congr 1
      simp [Soft.E]
  | succ J ih =>
    obtain ⟨hm, ha⟩ := ih
    have hs : ∀ x : Fin 512, sc v10 (blk XK J) (ix2 R x) = sco v10 XK R (512 * J + x.val) := fun x => by
      rw [sc_at, sum_sco v10 XK]
    have ht : max (mx v10 XK i R J) (top fun x => sc v10 (blk XK J) (ix2 R x)) = mx v10 XK i R (J + 1) := by
      unfold mx
      rw [max_assoc]
      congr 1
      refine Soft.sup_block (sco v10 XK R) J _ fun c => ?_
      rw [top_le]
      exact forall_congr' fun x => by rw [hs]
    have hx : ∀ x : Fin 512, sco v10 XK R (512 * J + x.val) ≤ mx v10 XK i R (J + 1) := fun x =>
      (hs x).symm.trans_le ((top_le (fun x => sc v10 (blk XK J) (ix2 R x)) (mx v10 XK i R (J + 1))).mp (ht ▸ le_max_right _ _) x)
    refine ⟨fun l => ?_, fun c => ?_⟩
    · rw [stM_succ, upM_at, hm, ht]
    · rw [stA_succ, upA_at _ _ _ _ R c (mx v10 XK i R J) hm, ht, ha]
      simp only [hs, vA_real XV vr hV]
      exact Soft.step (sco v10 XK R) (wt vr c) _ J (le_max_left _ _) (le_max_right _ _) (ht ▸ le_max_left _ _) hx

/-- The quotient of a row's sums, when every block up to the diagonal has been taken: all the keys that the row sees. -/
theorem quot (i : grid0.Coords) (hV : ∀ t k, XV (ix3 0 t k) = ((vr t k : ℝ) : EReal)) (R : Fin 1024) (k : Fin 128) :
    Ideal.div (stA i v10 k0_pay81 XK XV (i 2).val (ix2 R ⟨k.val, by omega⟩)) (stA i v10 k0_pay81 XK XV (i 2).val (ix2 R ⟨128 + k.val, by omega⟩))
      = Ideal.div ((Soft.E (sco v10 XK R) (fun t => vr (key t) k) (Finset.range (512 * (i 2).val + R.val % 512 + 1))
            ((Finset.range (512 * (i 2).val + R.val % 512 + 1)).sup (sco v10 XK R)) : ℝ) : EReal)
          ((Soft.E (sco v10 XK R) (fun _ => 1) (Finset.range (512 * (i 2).val + R.val % 512 + 1))
            ((Finset.range (512 * (i 2).val + R.val % 512 + 1)).sup (sco v10 XK R)) : ℝ) : EReal) := by
  obtain ⟨-, ha⟩ := inv v10 XK XV vr i hV R (i 2).val
  have em : mx v10 XK i R (i 2).val = (Finset.range (512 * (i 2).val + R.val % 512 + 1)).sup (sco v10 XK R) := Soft.sup_join _ _ _
  rw [ha, ha, Soft.E_join, Soft.E_join, em]
  have e1 : wt vr ⟨k.val, by omega⟩ = fun t => vr (key t) k := funext fun t => dif_pos k.isLt
  have e2 : wt vr ⟨128 + k.val, by omega⟩ = fun _ => 1 := funext fun t => dif_neg (by simp)
  rw [e1, e2]

/-- The weight of a key in a row that sees the keys up to the `T`-th. -/
def wgt (σ : ℕ → EReal) (T : ℕ) (s : Fin 8192) : ℝ := Soft.e (if s.val ≤ T then σ s.val else ⊥) ((Finset.range (T + 1)).sup σ)

theorem key_val (s : Fin 8192) : key s.val = s := Fin.ext (Nat.mod_eq_of_lt s.isLt)

theorem quot_wgt (i : grid0.Coords) (hV : ∀ t k, XV (ix3 0 t k) = ((vr t k : ℝ) : EReal)) (R : Fin 1024) (T : ℕ) (hT : T < 8192)
    (e : 512 * (i 2).val + R.val % 512 = T) (k : Fin 128) :
    Ideal.div (stA i v10 k0_pay81 XK XV (i 2).val (ix2 R ⟨k.val, by omega⟩)) (stA i v10 k0_pay81 XK XV (i 2).val (ix2 R ⟨128 + k.val, by omega⟩))
      = Ideal.div ((∑ s, wgt (sco v10 XK R) T s * vr s k : ℝ) : EReal) ((∑ s, wgt (sco v10 XK R) T s : ℝ) : EReal) := by
  rw [quot v10 XK XV vr i hV, e, ← Soft.whole 8192 _ _ _ T hT, ← Soft.whole 8192 _ _ _ T hT]
  simp only [key_val, mul_one]
  rfl
end

theorem oB_at (i : grid0.Coords) (X3 : S4x64.Idx → Elt Ideal .f32) (X4 : S1x128.Idx → Elt Ideal .f32) (X5 : S1x512x128.Idx → Elt Ideal .bf16)
    (XK XV : S1x8192x128.Idx → Elt Ideal .bf16) (vr : Fin 8192 → Fin 128 → ℝ) (lam : ℝ)
    (hV : ∀ t k, XV (ix3 0 t k) = ((vr t k : ℝ) : EReal)) (x : Fin 512) (T : ℕ) (hT : T < 8192) (e : 512 * (i 2).val + x.val = T)
    (hl : ∀ k, k0_pay123 X3 (ix2 x k) = (lam : EReal)) (k : Fin 128) :
    oB i X3 X4 X5 XK XV (ix3 0 x k)
      = Meet.nrm (Meet.oK (wgt (sco (k0_pay78 X5) XK ⟨x.val, by omega⟩) T) (wgt (sco (k0_pay78 X5) XK ⟨512 + x.val, by omega⟩) T) vr lam) (X4 (ix2 0 k)) k := by
  refine out_at (stA i (k0_pay78 X5) k0_pay81 XK XV (i 2).val) X4 X3 x k
    (Meet.oK (wgt (sco (k0_pay78 X5) XK ⟨x.val, by omega⟩) T) (wgt (sco (k0_pay78 X5) XK ⟨512 + x.val, by omega⟩) T) vr lam) fun k => ?_
  rw [quot_wgt _ XK XV vr i hV _ T hT (by show _ + x.val % 512 = T; rw [Nat.mod_eq_of_lt x.isLt, e]),
    quot_wgt _ XK XV vr i hV _ T hT (by show _ + (512 + x.val) % 512 = T; rw [Nat.add_mod_left, Nat.mod_eq_of_lt x.isLt, e]), hl]
  rfl

end Cert.AttnV

end
-- ==== Proof.AttnV.RefVal.lean ====
/-
  The reference's attention over real values: the values averaged with the difference of two softmaxes' weights.
-/
module

public import proofs.«01_k».proof.Proof.AttnV.RefAt
public import proofs.«01_k».proof.Proof.AttnV.Inv

@[expose] public section

set_option maxRecDepth 16384

noncomputable section

namespace Cert.AttnR

open Cert.ReferenceIdeal Cert.ReferenceIdeal.Gen
open Idealize.ShloMosaic Idealize.ShloMosaic.TcCoe
open Cert.AttnV (key key_val wgt)
open Cert.Meet (nrm oR)

/-- The scale of the scores is an eighth. -/
theorem c8_eq : Ideal.ofBits FTy.f32 1040187392#32 = (((8388608 * (2 ^ 26)⁻¹ : ℝ)) : EReal) := by
  unfold Ideal.ofBits
  simp [Ideal.ieee]
theorem c2_eq : ∃ r : ℝ, Ideal.ofBits FTy.f32 1045220557#32 = (r : EReal) := by
  unfold Ideal.ofBits
  simp [Ideal.ieee]
  exact ⟨13421773 * (2 ^ 26)⁻¹, (EReal.coe_mul _ _).symm⟩

section
variable (a0 a1 a2 : FVec Ideal S8x8192x512 .f32) (f2 : Fin 8 → Fin 8192 → Fin 512 → ℝ)

/-- The score of a query against a key, in a head. -/
def sR (b : Fin 8) (g : Fin 8) (t : Fin 8192) (n : ℕ) : EReal :=
  (∑ x : Fin 64, a0 (ix3 b t ⟨g.val * 64 + x.val, by omega⟩) * a1 (ix3 b (key n) ⟨g.val * 64 + x.val, by omega⟩)) * Ideal.ofBits FTy.f32 1040187392#32

theorem SC_sR (b g : Fin 8) (t s : Fin 8192) : SC a0 a1 (ix4 b g t s) = if s.val ≤ t.val then sR a0 a1 b g t s.val else ⊥ := by
  rw [SC_at]
  unfold sR
  rw [key_val]

theorem MX_sR (b g : Fin 8) (t : Fin 8192) : MX (SC a0 a1) (ix3 b g t) = (Finset.range (t.val + 1)).sup (sR a0 a1 b g t) := by
  rw [MX_at, first_eq]
  simp only [SC_sR]
  exact Soft.sup_whole 8192 _ _ t.isLt

theorem EX_wgt (b g : Fin 8) (t s : Fin 8192) : EX (SC a0 a1) (MX (SC a0 a1)) (ix4 b g t s) = ((wgt (sR a0 a1 b g t) t.val s : ℝ) : EReal) := by
  rw [EX_at, MX_sR, SC_sR]
  refine Soft.exp_eq ?_
  split_ifs with h
  · exact Finset.le_sup (f := sR a0 a1 b g t) (Finset.mem_range.mpr (by omega))
  · exact bot_le

theorem PR_wgt (b g : Fin 8) (t s : Fin 8192) : PR (EX (SC a0 a1) (MX (SC a0 a1))) (ix4 b g t s)
    = Ideal.div ((wgt (sR a0 a1 b g t) t.val s : ℝ) : EReal) ((∑ x, wgt (sR a0 a1 b g t) t.val x : ℝ) : EReal) := by
  rw [PR_at]
  simp only [EX_wgt, Soft.coe_sum]

theorem OO_wgt (h2 : ∀ b t d, a2 (ix3 b t d) = ((f2 b t d : ℝ) : EReal)) (L : FVec Ideal S_ .f32) (lam : ℝ) (hL : L ix0 = (lam : EReal))
    (b : Fin 8) (t : Fin 8192) (h : Fin 4) (d : Fin 128) :
    OO a2 (PR (EX (SC a0 a1) (MX (SC a0 a1)))) L (ix4 b t h d)
      = oR (wgt (sR a0 a1 b ⟨h.val * 2, by omega⟩ t) t.val) (wgt (sR a0 a1 b ⟨h.val * 2 + 1, by omega⟩ t) t.val)
          (fun s d => f2 b s ⟨h.val * 128 + d.val, by omega⟩) lam d := by
  rw [OO_at]
  unfold oR
  simp only [PR_wgt, hL, h2]

theorem LAM_real (a3 : FVec Ideal S1x4x64 .f32) (h3 : ∀ j, ∃ r : ℝ, a3 j = (r : EReal)) : ∃ r : ℝ, LAM a3 ix0 = (r : EReal) := by
  choose f hf using h3
  obtain ⟨r, hr⟩ := c2_eq
  rw [LAM_at, hr]
  simp only [hf, ← EReal.coe_mul, Soft.coe_sum, Ideal.exp_coe, ← EReal.coe_sub, ← EReal.coe_add]
  exact ⟨_, rfl⟩

end

theorem OUT_nrm (a4 : FVec Ideal S1x128 .f32) (o) (b : Fin 8) (t : Fin 8192) (h : Fin 4) (k : Fin 128) :
    OUT a4 o (ix3 b t ⟨h.val * 128 + k.val, by omega⟩) = nrm (fun k => o (ix4 b t h k)) (a4 (ix2 0 k)) k := by
  have e1 : (⟨(h.val * 128 + k.val) / 128, by omega⟩ : Fin 4) = h := Fin.ext (by show (h.val * 128 + k.val) / 128 = h.val; omega)
  have e2 : (⟨(h.val * 128 + k.val) % 128, by omega⟩ : Fin 128) = k := Fin.ext (by show (h.val * 128 + k.val) % 128 = k.val; omega)
  rw [OUT_at]
  simp only [e1, e2]
  rfl

end Cert.AttnR

end
-- ==== Proof.AttnV.Eq.lean ====
/-
  What a grid point writes is the reference's output at the same place, of real values.
-/
module

public import proofs.«01_k».proof.Proof.AttnV.Blocks
public import proofs.«01_k».proof.Proof.AttnV.RefVal

@[expose] public section

set_option maxRecDepth 16384

noncomputable section

namespace Cert.AttnE

open Cert.KernelIdeal Cert.KernelIdeal.Gen Cert.AttnI Cert.AttnB
open Cert.AttnV (key sco)
open Cert.AttnR (sR)
open Idealize.ShloMosaic Idealize.ShloMosaic.TcCoe

/-- A sum over 128 lanes of which only the first half counts. -/
theorem sum_lo (f : Fin 128 → EReal) : ∑ k : Fin 128, (if k.val < 64 then f k else 0) = ∑ x : Fin 64, f ⟨x.val, by omega⟩ := by
  refine (Fin.sum_univ_add (a := 64) (b := 64) fun k : Fin (64 + 64) => if k.val < 64 then f k else 0).trans ?_
  refine (congrArg₂ (· + ·) (Finset.sum_congr rfl fun x _ => if_pos x.isLt) (Finset.sum_eq_zero fun x _ => if_neg (by simp))).trans (add_zero _)
/-- And of which only the second half counts. -/
theorem sum_hi (f : Fin 128 → EReal) : ∑ k : Fin 128, (if k.val < 64 then 0 else f k) = ∑ x : Fin 64, f ⟨64 + x.val, by omega⟩ := by
  refine (Fin.sum_univ_add (a := 64) (b := 64) fun k : Fin (64 + 64) => if k.val < 64 then 0 else f k).trans ?_
  refine (congrArg₂ (· + ·) (Finset.sum_eq_zero fun x _ => if_pos x.isLt) (Finset.sum_congr rfl fun x _ => if_neg (by simp))).trans (zero_add _)

def pH (t : Fin grid0.N) : Fin 4 := ⟨(grid0.coords t 1).val, lt1 t⟩

section
variable (a0 a1 : FVec Ideal S8x8192x512 .f32) (t : Fin grid0.N) (X5 : S1x512x128.Idx → Elt Ideal .bf16) (XK : S1x8192x128.Idx → Elt Ideal .bf16)

/-- The scale taken out of a sum of products. -/
theorem scaled (f g : Fin 64 → EReal) : ∑ x, f x * Ideal.ofBits .f32 1040187392#32 * g x = (∑ x, f x * g x) * Ideal.ofBits .f32 1040187392#32 := by
  rw [AttnR.c8_eq, ← Soft.sum_mul _ _ _ (by positivity)]
  exact Finset.sum_congr rfl fun x _ => mul_right_comm _ _ _

theorem sco_lo (h5 : ∀ x k, X5 (ix3 0 x k) = a0 (ix3 (pB t) (pT t x) (pD t k)) * Ideal.ofBits .f32 1040187392#32)
    (hK : ∀ s k, XK (ix3 0 s k) = a1 (ix3 (pB t) s (pD t k))) (x : Fin 512) :
    sco (k0_pay78 X5) XK ⟨x.val, by omega⟩ = sR a0 a1 (pB t) ⟨(pH t).val * 2, by omega⟩ (pT t x) := by
  funext n
  unfold sco sR
  have e : ∀ k : Fin 128, (k0_pay78 X5 (ix2 ⟨x.val, by omega⟩ k) * XK (ix3 0 (key n) k) : EReal)
      = if k.val < 64 then a0 (ix3 (pB t) (pT t x) (pD t k)) * Ideal.ofBits .f32 1040187392#32 * a1 (ix3 (pB t) (key n) (pD t k)) else 0 := fun k => by
    have hx : (⟨x.val % 512, Nat.mod_lt _ (by decide)⟩ : Fin 512) = x := Fin.ext (Nat.mod_eq_of_lt x.isLt)
    rw [AttnV.q_at, hK]
    simp only [x.isLt, true_iff, hx, h5]
    split_ifs
    · rfl
    · exact zero_mul _
  simp only [e]
  rw [sum_lo, scaled]
  congr 1
  refine Finset.sum_congr rfl fun y _ => ?_
  have ed : pD t ⟨y.val, by omega⟩ = ⟨(pH t).val * 2 * 64 + y.val, by omega⟩ := Fin.ext (by show (grid0.coords t 1).val * 128 + y.val = (grid0.coords t 1).val * 2 * 64 + y.val; omega)
  rw [ed]

theorem sco_hi (h5 : ∀ x k, X5 (ix3 0 x k) = a0 (ix3 (pB t) (pT t x) (pD t k)) * Ideal.ofBits .f32 1040187392#32)
    (hK : ∀ s k, XK (ix3 0 s k) = a1 (ix3 (pB t) s (pD t k))) (x : Fin 512) :
    sco (k0_pay78 X5) XK ⟨512 + x.val, by omega⟩ = sR a0 a1 (pB t) ⟨(pH t).val * 2 + 1, by omega⟩ (pT t x) := by
  funext n
  unfold sco sR
  have e : ∀ k : Fin 128, (k0_pay78 X5 (ix2 ⟨512 + x.val, by omega⟩ k) * XK (ix3 0 (key n) k) : EReal)
      = if k.val < 64 then 0 else a0 (ix3 (pB t) (pT t x) (pD t k)) * Ideal.ofBits .f32 1040187392#32 * a1 (ix3 (pB t) (key n) (pD t k)) := fun k => by
    have hx : (⟨(512 + x.val) % 512, Nat.mod_lt _ (by decide)⟩ : Fin 512) = x := Fin.ext (by show (512 + x.val) % 512 = x.val; omega)
    have hn : ¬ (512 + x.val < 512) := by omega
    rw [AttnV.q_at, hK]
    simp only [hn, false_iff, hx, h5]
    split_ifs
    · exact zero_mul _
    · rfl
  simp only [e]
  rw [sum_hi, scaled]
  congr 1
  refine Finset.sum_congr rfl fun y _ => ?_
  have ed : pD t ⟨64 + y.val, by omega⟩ = ⟨((pH t).val * 2 + 1) * 64 + y.val, by omega⟩ :=
    Fin.ext (by show (grid0.coords t 1).val * 128 + (64 + y.val) = ((grid0.coords t 1).val * 2 + 1) * 64 + y.val; omega)
  rw [ed]
end

variable (m : (ℓ : Loc nD τ sig) → Buf (Elt Ideal) ℓ)

theorem point (c : Dev nD) (a0 a1 a2 : FVec Ideal S8x8192x512 .f32) (a3 : FVec Ideal S1x4x64 .f32) (a4 : FVec Ideal S1x128 .f32)
    (e0 : m (c, main_arg0) = a0) (e1 : m (c, main_arg1) = a1) (e2 : m (c, main_arg2) = a2) (e3 : m (c, main_arg3) = a3) (e4 : m (c, main_arg4) = a4)
    (h2 : ∀ j, ∃ r : ℝ, a2 j = (r : EReal)) (h3 : ∀ j, ∃ r : ℝ, a3 j = (r : EReal)) (t : Fin grid0.N) (x : Fin 512) (k : Fin 128) :
    outAt m c t (ix3 0 x k) = AttnR.OUT a4 (AttnR.OO a2 (AttnR.PR (AttnR.EX (AttnR.SC a0 a1) (AttnR.MX (AttnR.SC a0 a1)))) (AttnR.LAM a3)) (ix3 (pB t) (pT t x) (pD t k)) := by
  obtain ⟨lam, hl⟩ := AttnR.LAM_real a3 h3
  choose g2 hg2 using h2
  have ed : pD t k = ⟨(pH t).val * 128 + k.val, by omega⟩ := rfl
  rw [ed, AttnR.OUT_nrm]
  have eo : (fun k => AttnR.OO a2 (AttnR.PR (AttnR.EX (AttnR.SC a0 a1) (AttnR.MX (AttnR.SC a0 a1)))) (AttnR.LAM a3) (ix4 (pB t) (pT t x) (pH t) k)) = _ :=
    funext fun k => AttnR.OO_wgt a0 a1 a2 (fun b t d => g2 (ix3 b t d)) (fun _ _ _ => hg2 _) _ lam hl (pB t) (pT t x) (pH t) k
  rw [eo]
  refine Eq.trans ?_ (Meet.meet _ _ _ lam (fun s => Soft.e_nonneg _ _) (fun s => Soft.e_nonneg _ _) (a4 (ix2 0 k)) k)
  have h5 : ∀ x k, iblk m c 2 t (ix3 0 x k) = a0 (ix3 (pB t) (pT t x) (pD t k)) * Ideal.ofBits .f32 1040187392#32 := fun x k => by rw [b2 m c, e0]
  have hK : ∀ s k, iblk m c 3 t (ix3 0 s k) = a1 (ix3 (pB t) s (pD t k)) := fun s k => by rw [b3 m c, e1]
  unfold outAt
  refine (AttnV.oB_at (grid0.coords t) (iblk m c 0 t) (iblk m c 1 t) (iblk m c 2 t) (iblk m c 3 t) (iblk m c 4 t)
    (fun s d => g2 (ix3 (pB t) s ⟨(pH t).val * 128 + d.val, by omega⟩)) lam (fun s k => ?_) x (pT t x).val (pT t x).isLt rfl (fun k => ?_) k).trans ?_
  · rw [b4 m c, e2, hg2]; rfl
  · rw [AttnV.lam_at, ← hl, AttnR.LAM_at]
    simp only [b0 m c, e3]
  · rw [b1 m c, e4, sco_lo a0 a1 t _ _ h5 hK, sco_hi a0 a1 t _ _ h5 hK]
    rfl

theorem value (c : Dev nD) (a0 a1 a2 : FVec Ideal S8x8192x512 .f32) (a3 : FVec Ideal S1x4x64 .f32) (a4 : FVec Ideal S1x128 .f32)
    (e0 : m (c, main_arg0) = a0) (e1 : m (c, main_arg1) = a1) (e2 : m (c, main_arg2) = a2) (e3 : m (c, main_arg3) = a3) (e4 : m (c, main_arg4) = a4)
    (h2 : ∀ j, ∃ r : ℝ, a2 j = (r : EReal)) (h3 : ∀ j, ∃ r : ℝ, a3 j = (r : EReal)) :
    (dats m 0 c).arrAt 5 (cfgs 0).N
      = AttnR.OUT a4 (AttnR.OO a2 (AttnR.PR (AttnR.EX (AttnR.SC a0 a1) (AttnR.MX (AttnR.SC a0 a1)))) (AttnR.LAM a3)) :=
  arr_out m c _ fun t x k => point m c a0 a1 a2 a3 a4 e0 e1 e2 e3 e4 h2 h3 t x k

end Cert.AttnE

end
-- ==== Proof.AttnV.Real.lean ====
/-
  What the precondition says: every value and every entry of the four vectors is a real number.
-/
module

public import proofs.«01_k».proof.Pre_finite
public import Idealize.ShloMosaic.Lib.ReduceAll
public import Idealize.ShloMosaic.Lib.Pointwise.Index
public import proofs.«01_k».proof.Proof.AttnV.Soft

@[expose] public section

noncomputable section

namespace Cert.AttnP

open Idealize.ShloMosaic
open Cert.Pre_finite

theorem and_one (a b : BitVec 1) (h : IntOp.andi a b = 1#1) : a = 1#1 ∧ b = 1#1 := by
  revert h; unfold IntOp.andi; revert a b; decide

theorem lt_real (x : EReal) (h : Ideal.cmp .olt (max x (-x)) (Ideal.ofBits .f32 0x7F800000#32) = 1#1) : ∃ r : ℝ, x = (r : EReal) := by
  have hi : Ideal.ofBits .f32 0x7F800000#32 = (⊤ : EReal) := by
    unfold Ideal.ofBits
    simp [Ideal.ieee]
  rw [hi] at h
  have hl : max x (-x) < ⊤ := by
    by_contra hn
    simp [Ideal.cmp, hn] at h
  refine Soft.real_of (fun e => ?_) fun e => ?_
  · rw [e] at hl; simp at hl
  · rw [e] at hl; simp at hl

theorem real (hf : Cert.Pre_finite.Facts) (a0 a1 a2 : FVec Ideal S8x8192x512 .f32) (a3 : FVec Ideal S1x4x64 .f32) (a4 : FVec Ideal S1x128 .f32)
    (h : Cert.Pre_finite.fn a0 a1 a2 a3 a4 = fun _ => 1#1) :
    (∀ j, ∃ r : ℝ, a2 j = (r : EReal)) ∧ ∀ j, ∃ r : ℝ, a3 j = (r : EReal) := by
  have h0 := congrFun h ix0
  dsimp only [fn] at h0
  obtain ⟨e2, e3⟩ := and_one _ _ h0
  haveI : Subsingleton S_.Idx := ⟨fun a b => funext fun k => k.elim0⟩
  exact ⟨fun j => lt_real _ (Host.reduce_andi_all _ _ _ _ _ e2 j), fun j => lt_real _ (Host.reduce_andi_all _ _ _ _ _ e3 j)⟩

end Cert.AttnP

end
-- ==== Proof.Proj.Tab.lean ====
/-
  The rotary embedding's tables, element by element.
-/
module

public import proofs.«01_k».proof.Proof.Gen.Kernel2Ideal.Value
public import Idealize.ShloMosaic.Lib.StableHlo.ReadAt
public import Idealize.ShloMosaic.PureOps.Ideal
public import Idealize.ShloMosaic.Lib.Pipeline.ValueKit.Geometry
public import Idealize.ShloMosaic.Lib.Pipeline.ValueKit.Partial

@[expose] public section

set_option maxRecDepth 16384

noncomputable section

namespace Cert.ProjT

open Cert.Kernel2Ideal Cert.Kernel2Ideal.Gen
open Idealize.ShloMosaic Idealize.ShloMosaic.TcCoe Idealize.ShloMosaic.Tactic

variable (m : (ℓ : Loc nD τ sig) → Buf (Elt Ideal) ℓ)

/-- The angle of a position and a frequency, its cosine and its sine. -/
def ang (l : ℕ) (j : Fin 8) : Ideal .f32 :=
  FloatOps.mulf (FloatOps.sitofp FTy.f32 (BitVec.ofNat 32 l))
    (FloatOps.hostPowf (FloatOps.ofBits FTy.f32 1223959552#32)
      (FloatOps.hostDivf (FloatOps.mulf (FloatOps.hostNegf (FloatOps.sitofp FTy.f32 (BitVec.ofNat 32 j.val))) (FloatOps.ofBits FTy.f32 1073741824#32))
        (FloatOps.ofBits FTy.f32 1098907648#32)))

def cosA (l : ℕ) (j : Fin 8) : EReal := FloatOps.hostUnary (F := Ideal) HostUnaryOp.cos (ang l j)
def sinA (l : ℕ) (j : Fin 8) : EReal := FloatOps.hostUnary (F := Ideal) HostUnaryOp.sin (ang l j)

/-- The frequency of a lane. -/
def fr (j : Fin 128) : Fin 8 := ⟨j.val % 8, Nat.mod_lt _ (by decide)⟩

theorem V17 (c : Dev nD) (l : Fin 8192) (j : Fin 8) : V m c main_v17 (ix2 l j) = cosA l j := by
  unfold V
  after_reads_at
  rfl

theorem V18 (c : Dev nD) (l : Fin 8192) (j : Fin 8) : V m c main_v18 (ix2 l j) = sinA l j := by
  unfold V
  after_reads_at
  rfl

theorem V30 (c : Dev nD) (j : Fin 128) : V m c main_v30 (ix2 j 0) = BitVec.ofNat 32 (j.val % 8) := by
  unfold V
  after_reads_at
  revert j
  decide +kernel

theorem V41 (c : Dev nD) (j : Fin 128) : V m c main_v41 (ix2 j 0) = BitVec.ofNat 32 (j.val % 8) := by
  unfold V
  after_reads_at
  revert j
  decide +kernel

theorem V57 (c : Dev nD) (j : Fin 128) : V m c main_v57 (ix2 j 0) = BitVec.ofNat 32 (j.val % 8) := by
  unfold V
  after_reads_at
  revert j
  decide +kernel

theorem V24 (c : Dev nD) (j : Fin 128) : V m c main_v24 (ix2 0 j) = if j.val % 64 < 16 then 1#1 else 0#1 := by
  unfold V
  after_reads_at
  revert j
  decide +kernel

theorem V35 (c : Dev nD) (j : Fin 128) : V m c main_v35 (ix2 0 j) = if j.val % 64 < 8 then 1#1 else 0#1 := by
  unfold V
  after_reads_at
  revert j
  decide +kernel

theorem V51 (c : Dev nD) (j : Fin 128) : V m c main_v51 (ix2 0 j) = if 8 ≤ j.val % 64 ∧ j.val % 64 < 16 then 1#1 else 0#1 := by
  unfold V
  after_reads_at
  revert j
  decide +kernel

theorem take {α : Type} (x : S8192x8.Idx → α) (ix : IVec S128x1 32) (l : Fin 8192) (j : Fin 128) (h : ix (ix2 j 0) = BitVec.ofNat 32 (j.val % 8)) :
    Host.gather gather_S8192x8_S128x1_S8192x128_0_1_n_n_1_1_81921 x ix (ix2 l j) = x (ix2 l (fr j)) := by
  unfold Host.gather
  congr 1
  funext a
  apply Fin.ext
  match a with
  | ⟨0, _⟩ =>
    show 0 + 0 + l.val = l.val
    omega
  | ⟨1, _⟩ =>
    show min (ix _).toInt.toNat 7 + 0 + 0 = j.val % 8
    have e : ∀ i : S128x1.Idx, i = ix2 j 0 → min (ix i).toInt.toNat 7 + 0 + 0 = j.val % 8 := by
      rintro i rfl
      rw [h]
      clear h
      revert j
      decide +kernel
    apply e
    funext b
    match b with
    | ⟨0, _⟩ => rfl
    | ⟨1, _⟩ => exact Fin.ext rfl

theorem V31 (c : Dev nD) : V m c main_v31 = Host.gather gather_S8192x8_S128x1_S8192x128_0_1_n_n_1_1_81921 (V m c main_v17) (V m c main_v30) := by
  unfold V
  after_reads_at

theorem V42 (c : Dev nD) : V m c main_v42 = Host.gather gather_S8192x8_S128x1_S8192x128_0_1_n_n_1_1_81921 (V m c main_v18) (V m c main_v41) := by
  unfold V
  after_reads_at

theorem V58 (c : Dev nD) : V m c main_v58 = Host.gather gather_S8192x8_S128x1_S8192x128_0_1_n_n_1_1_81921 (V m c main_v18) (V m c main_v57) := by
  unfold V
  after_reads_at

theorem V32' (c : Dev nD) : V m c main_v32 = select (broadcastInDim S8192x128 ![0, 1] bcast_S1x128_S8192x128_0_1 (V m c main_v24)) (V m c main_v31)
    (broadcastInDim S8192x128 ![] bcast_S_S8192x128 (id (constant (F := Ideal) S_ .f32 0x3F800000#32))) := by
  unfold V
  after_reads_at

theorem V44' (c : Dev nD) : V m c main_v44 = select (broadcastInDim S8192x128 ![0, 1] bcast_S1x128_S8192x128_0_1 (V m c main_v35)) (Host.negf (F := Ideal) (V m c main_v42))
    (broadcastInDim S8192x128 ![] bcast_S_S8192x128 (id (constant (F := Ideal) S_ .f32 0x00000000#32))) := by
  unfold V
  after_reads_at

theorem V59' (c : Dev nD) : V m c main_v59 = select (broadcastInDim S8192x128 ![0, 1] bcast_S1x128_S8192x128_0_1 (V m c main_v51)) (V m c main_v58)
    (broadcastInDim S8192x128 ![] bcast_S_S8192x128 (id (constant (F := Ideal) S_ .f32 0x00000000#32))) := by
  unfold V
  after_reads_at

theorem one_eq : (FloatOps.ofBits (F := Ideal) .f32 0x3F800000#32 : EReal) = 1 := by
  show Ideal.ofBits .f32 0x3F800000#32 = 1
  unfold Ideal.ofBits
  simp [Ideal.ieee]
  rw [← EReal.coe_mul]
  norm_num

theorem sel {p : Prop} [Decidable p] (a b : EReal) : Scalar.select (if p then 1#1 else 0#1) a b = if p then a else b := by
  unfold Scalar.select
  split <;> simp

theorem zero_eq : (FloatOps.ofBits (F := Ideal) .f32 0x00000000#32 : EReal) = 0 := by
  show Ideal.ofBits .f32 0x00000000#32 = 0
  unfold Ideal.ofBits
  simp [Ideal.ieee]

/-- The three tables by lane. -/
theorem V32 (c : Dev nD) (l : Fin 8192) (j : Fin 128) : V m c main_v32 (ix2 l j) = (if j.val % 64 < 16 then cosA l (fr j) else (1 : EReal)) := by
  rw [V32', V31]
  pointwise
  rw [take _ _ l j (V30 m c j), V17, V24]
  exact (sel _ _).trans (by rw [show (id (constant (F := Ideal) S_ .f32 0x3F800000#32) ix0 : EReal) = 1 from one_eq])

theorem V44 (c : Dev nD) (l : Fin 8192) (j : Fin 128) : V m c main_v44 (ix2 l j) = (if j.val % 64 < 8 then -(sinA l (fr j)) else (0 : EReal)) := by
  rw [V44', V42]
  pointwise
  rw [take _ _ l j (V41 m c j), V18, V35]
  exact (sel _ _).trans (by rw [show (id (constant (F := Ideal) S_ .f32 0x00000000#32) ix0 : EReal) = 0 from zero_eq]; rfl)

theorem V59 (c : Dev nD) (l : Fin 8192) (j : Fin 128) :
    V m c main_v59 (ix2 l j) = (if 8 ≤ j.val % 64 ∧ j.val % 64 < 16 then sinA l (fr j) else (0 : EReal)) := by
  rw [V59', V58]
  pointwise
  rw [take _ _ l j (V57 m c j), V18, V51]
  exact (sel _ _).trans (by rw [show (id (constant (F := Ideal) S_ .f32 0x00000000#32) ix0 : EReal) = 0 from zero_eq])

end Cert.ProjT
-- ==== Proof.Proj.Common.lean ====
/-
  The values of the projections by row and column, which the two programs meet in.
-/
module

public import proofs.«01_k».proof.Proof.Proj.Tab
public import Idealize.ShloMosaic.Lib.Pointwise

@[expose] public section

set_option maxRecDepth 16384

noncomputable section

namespace Cert.ProjT

open Idealize.ShloMosaic Idealize.ShloMosaic.TcCoe

/-- A column of the weights. -/
def col (n : ℕ) : Fin 5120 := ⟨n % 5120, Nat.mod_lt _ (by decide)⟩

theorem col_eq (n : ℕ) (h : n < 5120) : (⟨n, h⟩ : Fin 5120) = col n := Fin.ext (Nat.mod_eq_of_lt h).symm

/-- The batch and the position of a row. -/
def rb (R : Fin 65536) : Fin 8 := ⟨R.val / 8192, by omega⟩
def rl (R : Fin 65536) : Fin 8192 := ⟨R.val % 8192, Nat.mod_lt _ (by decide)⟩

abbrev XT := FVec Ideal ⟨3, ![8, 8192, 1024]⟩ .f32
abbrev WT := FVec Ideal ⟨3, ![1, 1024, 5120]⟩ .f32

/-- A row against a column. -/
def PX (x : Fin 1024 → EReal) (w : WT) (n : ℕ) : EReal :=
  ∑ k : Fin 1024, HMul.hMul (α := EReal) (β := EReal) (γ := EReal) (x k) (w (ix3 0 k (col n)))
def PP (x : XT) (w : WT) (R : Fin 65536) (n : ℕ) : EReal := PX (fun k => x (ix3 (rb R) (rl R) k)) w n

/-- The rotation of 64-lane heads at a position. -/
def rope (P : ℕ → EReal) (l : ℕ) (e : ℕ) : EReal :=
  if h : e % 64 < 8 then P e * cosA l ⟨e % 64, h⟩ - P (e + 8) * sinA l ⟨e % 64, h⟩
  else if h : e % 64 < 16 then P e * cosA l ⟨e % 64 - 8, by omega⟩ + P (e - 8) * sinA l ⟨e % 64 - 8, by omega⟩
  else P e

def atR (o : ℕ) (x : XT) (w : WT) (R : Fin 65536) (e : ℕ) : EReal := rope (fun n => PP x w R (o + n)) (rl R) e

/-- The rotated columns, the rotated and scaled columns, the columns, the gates and the means. -/
def gR (ft : FTy) (o : ℕ) (x : XT) (w : WT) : FVec Ideal ⟨2, ![65536, 512]⟩ ft := fun y => atR o x w (y 0) (y 1).val
def gS (o : ℕ) (x : XT) (w : WT) : FVec Ideal ⟨2, ![65536, 512]⟩ .bf16 := fun y => atR o x w (y 0) (y 1).val * Ideal.ofBits .f32 0x3E000000#32
def gP (ft : FTy) (o : ℕ) (x : XT) (w : WT) : FVec Ideal ⟨2, ![65536, 512]⟩ ft := fun y => PP x w (y 0) (o + (y 1).val)
def gG (o : ℕ) (x : XT) (w : WT) : FVec Ideal ⟨2, ![65536, 1024]⟩ .f32 := fun y => Ideal.logistic (PP x w (y 0) (o + (y 1).val))
/-- A row of a block of 256 rows. -/
def mrow (n : Fin 256) (z : Fin 256) : Fin 65536 := ⟨n.val * 256 + z.val, by omega⟩
def gM (x : XT) (w : WT) : FVec Ideal ⟨3, ![256, 1, 512]⟩ .f32 := fun y =>
  Ideal.div (∑ z : Fin 256, atR 2048 x w (mrow (y 0) z) (y 2).val) (Ideal.ofBits .f32 0x43800000#32)

/-- The rotation as the three tables write it: a lane, the lane 8 after it and the lane 8 before it, within 128 lanes. -/
theorem rope_tab (P : ℕ → EReal) (l : ℕ) (q : ℕ) (j : Fin 128) :
    P (q * 128 + j.val) * (if j.val % 64 < 16 then cosA l (fr j) else (1 : EReal)) + P (q * 128 + (j.val + 8) % 128) * (if j.val % 64 < 8 then -(sinA l (fr j)) else (0 : EReal))
      + P (q * 128 + (j.val + 120) % 128) * (if 8 ≤ j.val % 64 ∧ j.val % 64 < 16 then sinA l (fr j) else (0 : EReal)) = rope P l (q * 128 + j.val) := by
  have hm : (q * 128 + j.val) % 64 = j.val % 64 := by omega
  unfold rope
  by_cases h1 : j.val % 64 < 8
  · have e : fr j = ⟨(q * 128 + j.val) % 64, by omega⟩ := Fin.ext (by show j.val % 8 = (q * 128 + j.val) % 64; omega)
    rw [dif_pos (by omega), if_pos (by omega), if_pos h1, if_neg (by omega), e, show q * 128 + (j.val + 8) % 128 = q * 128 + j.val + 8 from by omega,
      mul_zero, add_zero, mul_neg, ← sub_eq_add_neg]
  · by_cases h2 : j.val % 64 < 16
    · have e : fr j = ⟨(q * 128 + j.val) % 64 - 8, by omega⟩ := Fin.ext (by show j.val % 8 = (q * 128 + j.val) % 64 - 8; omega)
      rw [dif_neg (by omega), dif_pos (by omega), if_pos h2, if_neg h1, if_pos (by omega), e, show q * 128 + (j.val + 120) % 128 = q * 128 + j.val - 8 from by omega,
        mul_zero, add_zero]
    · rw [dif_neg (by omega), dif_neg (by omega), if_neg h2, if_neg h1, if_neg (by omega), mul_zero, mul_zero, add_zero, add_zero, mul_one]

end Cert.ProjT

end
-- ==== Proof.Proj.Pay.lean ====
/-
  The values a grid point computes, read at an index: a block of rows against a block of columns, its rotation, its
  mean.
-/
module

public import proofs.«01_k».proof.Proof.Proj.Common
public import Idealize.ShloMosaic.Lib.Pointwise

@[expose] public section

set_option maxRecDepth 16384

noncomputable section

namespace Cert.ProjT

open Cert.Kernel2Ideal Cert.Kernel2Ideal.Gen
open Idealize.ShloMosaic Idealize.ShloMosaic.TcCoe Idealize.ShloMosaic.Tactic

/-- A block of rows against 512 columns. -/
def MM (X : FVec Ideal S512x1024 .f32) (W : FVec Ideal S1024x512 .bf16) : FVec Ideal S512x512 .f32 :=
  matmul dot_S512x1024_S1024x512_S512x512_1_0_0_1_n_n none (truncf .bf16 (shapeCast S512x1024 X shapeCasts_S512x1024_S512x1024) bitsLt_bf16_f32)
    (shapeCast S1024x512 W shapeCasts_S1024x512_S1024x512) (constant S512x512 .f32 0x00000000#32)

/-- The rotation of 128 lanes of it. -/
def PCE (o : ℕ) (h : S512x512.Slices ![0, o] S512x128) (v : FVec Ideal S512x512 .f32) (t2 t3 t4 : FVec Ideal S512x128 .f32) : FVec Ideal S512x128 .f32 :=
  addf (addf (mulf (extractStridedSlice S512x128 ![0, o] v h) (shapeCast S512x128 t2 shapeCasts_S512x128_S512x128))
    (mulf (dynamicRotate 1 120#32 none (extractStridedSlice S512x128 ![0, o] v h) rotates_S512x128_d1) (shapeCast S512x128 t3 shapeCasts_S512x128_S512x128)))
    (mulf (dynamicRotate 1 8#32 none (extractStridedSlice S512x128 ![0, o] v h) rotates_S512x128_d1) (shapeCast S512x128 t4 shapeCasts_S512x128_S512x128))

theorem MM_at (X W) (r e : Fin 512) : MM X W (ix2 r e) = ∑ k : Fin 1024, HMul.hMul (α := EReal) (β := EReal) (γ := EReal) (X (ix2 r k)) (W (ix2 k e)) := by
  pointwise [MM]

theorem PCE_at (o : ℕ) (h) (ho : o + 128 ≤ 512) (v t2 t3 t4) (r : Fin 512) (j : Fin 128) : PCE o h v t2 t3 t4 (ix2 r j)
    = v (ix2 r ⟨o + j.val, by omega⟩) * t2 (ix2 r j) + v (ix2 r ⟨o + (j.val + 8) % 128, by omega⟩) * t3 (ix2 r j)
      + v (ix2 r ⟨o + (j.val + 120) % 128, by omega⟩) * t4 (ix2 r j) := by
  pointwise [PCE]
  rw [show (⟨o + (j.val + 128 - 120) % 128, by omega⟩ : Fin 512) = ⟨o + (j.val + 8) % 128, by omega⟩ from Fin.ext (by show o + (j.val + 128 - 120) % 128 = o + (j.val + 8) % 128; omega),
    show (⟨o + (j.val + 128 - 8) % 128, by omega⟩ : Fin 512) = ⟨o + (j.val + 120) % 128, by omega⟩ from Fin.ext (by show o + (j.val + 128 - 8) % 128 = o + (j.val + 120) % 128; omega)]

theorem mean_at (v : Vec Ideal S256x512 .f32) (e : Fin 512) : k0_pay44 v (ix3 0 0 e) = (∑ z : Fin 256, v (ix2 z e)) * Ideal.ofBits .f32 0x3B800000#32 := by
  pointwise [k0_pay44]

variable (x0 : Vec Ideal S512x1024 .f32) (x1 : Vec Ideal S1024x5120 .bf16) (x2 x3 x4 : Vec Ideal S512x128 .f32)

/-- A row of the block against a column. -/
def bp (r : Fin 512) (n : ℕ) : EReal := ∑ k : Fin 1024, HMul.hMul (α := EReal) (β := EReal) (γ := EReal) (x0 (ix2 r k)) (x1 (ix2 k (col n)))
def lane (e : ℕ) : Fin 128 := ⟨e % 128, Nat.mod_lt _ (by decide)⟩
/-- The rotated columns of the block. -/
def bR (o : ℕ) (r : Fin 512) (e : ℕ) : EReal :=
  HAdd.hAdd (α := EReal) (β := EReal) (γ := EReal) (bp x0 x1 r (o + (e / 128 * 128 + e % 128)) * (x2 (ix2 r (lane e)) : EReal) + bp x0 x1 r (o + (e / 128 * 128 + (e % 128 + 8) % 128)) * (x3 (ix2 r (lane e)) : EReal))
    (bp x0 x1 r (o + (e / 128 * 128 + (e % 128 + 120) % 128)) * (x4 (ix2 r (lane e)) : EReal))

/-- The block against 512 columns, and its rotated piece, of what the loads hold. -/
theorem MM_bp (X : FVec Ideal S512x1024 .f32) (W : FVec Ideal S1024x512 .bf16) (o : ℕ) (hX : ∀ r k, X (ix2 r k) = x0 (ix2 r k)) (hW : ∀ (k : Fin 1024) (e : Fin 512), W (ix2 k e) = x1 (ix2 k (col (o + e.val)))) (r e : Fin 512) :
    MM X W (ix2 r e) = bp x0 x1 r (o + e.val) := by
  unfold bp
  rw [MM_at]
  exact Finset.sum_congr rfl fun k _ => congrArg₂ (HMul.hMul (α := EReal) (β := EReal) (γ := EReal)) (hX r k) (hW k e)

theorem PCE_bR (v : FVec Ideal S512x512 .f32) (t2 t3 t4 : FVec Ideal S512x128 .f32) (o : ℕ) (hv : ∀ r e : Fin 512, v (ix2 r e) = bp x0 x1 r (o + e.val))
    (h2 : ∀ r j, t2 (ix2 r j) = x2 (ix2 r j)) (h3 : ∀ r j, t3 (ix2 r j) = x3 (ix2 r j)) (h4 : ∀ r j, t4 (ix2 r j) = x4 (ix2 r j)) (oq q : ℕ) (hq : oq = q * 128) (hq4 : q < 4) (h) (r : Fin 512) (j : Fin 128) :
    PCE oq h v t2 t3 t4 (ix2 r j) = bR x0 x1 x2 x3 x4 o r (oq + j.val) := by
  have hl : lane (oq + j.val) = j := Fin.ext (by show (oq + j.val) % 128 = j.val; omega)
  have hd : (oq + j.val) / 128 * 128 = oq := by omega
  have hm : (oq + j.val) % 128 = j.val := by omega
  unfold bR
  rw [PCE_at oq h (by omega), hv, hv, hv, hl, hd, hm]
  exact congrArg₂ (HAdd.hAdd (α := EReal) (β := EReal) (γ := EReal)) (congrArg₂ (HAdd.hAdd (α := EReal) (β := EReal) (γ := EReal))
    (congrArg (bp x0 x1 r (o + (oq + j.val)) * ·) (h2 r j)) (congrArg (bp x0 x1 r (o + (oq + (j.val + 8) % 128)) * ·) (h3 r j))) (congrArg (bp x0 x1 r (o + (oq + (j.val + 120) % 128)) * ·) (h4 r j))

theorem ld_col (M : Memref sig .tc .vmem S1024x5120 .bf16) (hM : M.IsWhole) (o : ℕ) (ho : o + 512 ≤ 5120) (inb) (k : Fin 1024) (e : Fin 512) :
    M.view.readAt (Elt Ideal) (Rect.unit (s := S1024x5120) ![0, o] S1024x512.size inb).toLoadRect (hM.unread x1) (ix2 k e) = x1 (ix2 k (col (o + e.val))) := by
  rw [View.readAt_apply, hM.read_unread]
  congr 1
  funext a
  apply Fin.ext
  match a with
  | ⟨0, _⟩ => show 0 + 1 * k.val = k.val; omega
  | ⟨1, _⟩ => show o + 1 * e.val = (o + e.val) % 5120; omega

theorem ld_all {n0 n1 : ℕ} {ft : EltTy} (x : Vec Ideal ⟨2, ![n0, n1]⟩ ft) (M : Memref sig .tc .vmem ⟨2, ![n0, n1]⟩ ft) (hM : M.IsWhole) (inb) (k : Fin n0) (e : Fin n1) :
    M.view.readAt (Elt Ideal) (Rect.unit (s := ⟨2, ![n0, n1]⟩) ![0, 0] ![n0, n1] inb).toLoadRect (hM.unread x) (ix2 k e) = x (ix2 k e) := by
  rw [View.readAt_apply, hM.read_unread]
  congr 1
  funext a
  apply Fin.ext
  match a with
  | ⟨0, _⟩ => show 0 + 1 * k.val = k.val; omega
  | ⟨1, _⟩ => show 0 + 1 * e.val = e.val; omega

section
variable (arg1 : Memref sig .tc .vmem S512x1024 .f32) (harg1 : arg1.IsWhole) (arg2 : Memref sig .tc .vmem S1024x5120 .bf16) (harg2 : arg2.IsWhole)
  (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)

/-- The block of columns that a point computes from its loads. -/
def MB (o : ℕ) (inb : ∀ a, (![0, o] : Fin 2 → ℕ) a + S1024x512.size a ≤ S1024x5120.size a) : FVec Ideal S512x512 .f32 :=
  MM (arg1.view.readAt (Elt Ideal) (Rect.unit (s := S512x1024) ![0, 0] S512x1024.size inb_S512x1024_S512x1024_0_0).toLoadRect (harg1.unread x0))
    (arg2.view.readAt (Elt Ideal) (Rect.unit (s := S1024x5120) ![0, o] S1024x512.size inb).toLoadRect (harg2.unread x1))

/-- Its rotated piece. -/
def RB (o : ℕ) (inb : ∀ a, (![0, o] : Fin 2 → ℕ) a + S1024x512.size a ≤ S1024x5120.size a) (oq : ℕ) (h : S512x512.Slices ![0, oq] S512x128) : FVec Ideal S512x128 .f32 :=
  PCE oq h (MB x0 x1 arg1 harg1 arg2 harg2 o inb)
    (arg3.view.readAt (Elt Ideal) (Rect.unit (s := S512x128) ![0, 0] S512x128.size inb_S512x128_S512x128_0_0).toLoadRect (harg3.unread x2))
    (arg4.view.readAt (Elt Ideal) (Rect.unit (s := S512x128) ![0, 0] S512x128.size inb_S512x128_S512x128_0_0).toLoadRect (harg4.unread x3))
    (arg5.view.readAt (Elt Ideal) (Rect.unit (s := S512x128) ![0, 0] S512x128.size inb_S512x128_S512x128_0_0).toLoadRect (harg5.unread x4))

theorem MB_at (o : ℕ) (ho : o + 512 ≤ 5120) (inb) (r e : Fin 512) : MB x0 x1 arg1 harg1 arg2 harg2 o inb (ix2 r e) = bp x0 x1 r (o + e.val) :=
  MM_bp x0 x1 _ _ o (ld_all x0 arg1 harg1 inb_S512x1024_S512x1024_0_0) (ld_col x1 arg2 harg2 o ho inb) r e

theorem RB_at (o : ℕ) (ho : o + 512 ≤ 5120) (inb) (oq q : ℕ) (hq : oq = q * 128) (hq4 : q < 4) (h) (r : Fin 512) (j : Fin 128) :
    RB x0 x1 x2 x3 x4 arg1 harg1 arg2 harg2 arg3 harg3 arg4 harg4 arg5 harg5 o inb oq h (ix2 r j) = bR x0 x1 x2 x3 x4 o r (oq + j.val) :=
  PCE_bR x0 x1 x2 x3 x4 _ _ _ _ o (MB_at x0 x1 arg1 harg1 arg2 harg2 o ho inb) (ld_all x2 arg3 harg3 inb_S512x128_S512x128_0_0) (ld_all x3 arg4 harg4 inb_S512x128_S512x128_0_0)
    (ld_all x4 arg5 harg5 inb_S512x128_S512x128_0_0) oq q hq hq4 h r j

end

theorem emb128 {n : ℕ} (o : ℕ) (inb : ∀ a, (![0, o] : Fin 2 → ℕ) a + (![512, n] : Fin 2 → ℕ) a ≤ S512x512.size a) (r : Fin 512) (j : Fin n) (ho : o + n ≤ 512) :
    (Rect.unit (s := S512x512) ![0, o] ![512, n] inb).emb (ix2 r j) = ix2 (n0 := 512) (n1 := 512) r ⟨o + j.val, by omega⟩ := by
  funext a
  apply Fin.ext
  match a with
  | ⟨0, _⟩ => show 0 + 1 * r.val = r.val; omega
  | ⟨1, _⟩ => show o + 1 * j.val = o + j.val; omega

/-- A function of row and column at an element of a piece. -/
theorem fin128 (G : Fin 512 → ℕ → EReal) {n : ℕ} (o : ℕ) (inb : ∀ a, (![0, o] : Fin 2 → ℕ) a + (![512, n] : Fin 2 → ℕ) a ≤ S512x512.size a) (r : Fin 512) (j : Fin n) (ho : o + n ≤ 512) :
    ((fun y => G (y 0) (y 1).val) : S512x512.Idx → EReal) ((Rect.unit (s := S512x512) ![0, o] ![512, n] inb).emb (ix2 r j)) = G r (o + j.val) := by
  rw [emb128 o inb r j ho]
  rfl

theorem emb1024 (o : ℕ) (inb : ∀ a, (![0, o] : Fin 2 → ℕ) a + (![512, 512] : Fin 2 → ℕ) a ≤ S512x1024.size a) (r : Fin 512) (j : Fin 512) (ho : o + 512 ≤ 1024) :
    (Rect.unit (s := S512x1024) ![0, o] ![512, 512] inb).emb (ix2 r j) = ix2 (n0 := 512) (n1 := 1024) r ⟨o + j.val, by omega⟩ := by
  funext a
  apply Fin.ext
  match a with
  | ⟨0, _⟩ => show 0 + 1 * r.val = r.val; omega
  | ⟨1, _⟩ => show o + 1 * j.val = o + j.val; omega

end Cert.ProjT

end
-- ==== Proof.Proj.Pieces.lean ====
/-
  What a grid point leaves in its output windows, read at an index.
-/
module

public import proofs.«01_k».proof.Proof.Proj.Pay

@[expose] public section

set_option maxRecDepth 16384

noncomputable section

namespace Cert.ProjT

open Cert.Kernel2Ideal Cert.Kernel2Ideal.Gen
open Idealize.ShloMosaic Idealize.ShloMosaic.TcCoe Idealize.ShloMosaic.Tactic

variable (c : Dev nD) (i : grid0.Coords) (arg1 : Memref sig .tc .vmem S512x1024 .f32) (harg1 : arg1.IsWhole) (arg2 : Memref sig .tc .vmem S1024x5120 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S2x1x512 .f32) (harg18 : arg18.IsWhole)
  (x0 : Vec Ideal S512x1024 .f32) (x1 : Vec Ideal S1024x5120 .bf16) (x2 : Vec Ideal S512x128 .f32) (x3 : Vec Ideal S512x128 .f32) (x4 : Vec Ideal S512x128 .f32)

theorem p5 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).1, ∀ x, p.2 x = ((fun y => bR x0 x1 x2 x3 x4 512 (y 0) (y 1).val) : S512x512.Idx → EReal) (p.1.emb x) := by
  intro p hp
  unfold kernelRun0_A at hp
  simp only [List.mem_cons, List.mem_nil_iff, or_false] at hp
  rcases hp with hp | hp | hp | hp
  · subst hp
    intro x
    obtain ⟨r, j, rfl⟩ : ∃ (r : Fin 512) (j : Fin 128), x = ix2 r j := ⟨x 0, x 1, eq_ix2 (n0 := 512) (n1 := 128) x⟩
    change RB x0 x1 x2 x3 x4 arg1 harg1 arg2 harg2 arg3 harg3 arg4 harg4 arg5 harg5 512 inb_S1024x5120_S1024x512_0_512 384 slices_S512x512_o0_384_S512x128 (ix2 r j) = _
    exact Eq.trans (RB_at x0 x1 x2 x3 x4 arg1 harg1 arg2 harg2 arg3 harg3 arg4 harg4 arg5 harg5 512 (by omega) inb_S1024x5120_S1024x512_0_512 384 3 rfl (by omega) slices_S512x512_o0_384_S512x128 r j) (fin128 (fun r e => bR x0 x1 x2 x3 x4 512 r e) (n := 128) 384 inb_S512x512_S512x128_0_384 r j (by omega)).symm
  · subst hp
    intro x
    obtain ⟨r, j, rfl⟩ : ∃ (r : Fin 512) (j : Fin 128), x = ix2 r j := ⟨x 0, x 1, eq_ix2 (n0 := 512) (n1 := 128) x⟩
    change RB x0 x1 x2 x3 x4 arg1 harg1 arg2 harg2 arg3 harg3 arg4 harg4 arg5 harg5 512 inb_S1024x5120_S1024x512_0_512 256 slices_S512x512_o0_256_S512x128 (ix2 r j) = _
    exact Eq.trans (RB_at x0 x1 x2 x3 x4 arg1 harg1 arg2 harg2 arg3 harg3 arg4 harg4 arg5 harg5 512 (by omega) inb_S1024x5120_S1024x512_0_512 256 2 rfl (by omega) slices_S512x512_o0_256_S512x128 r j) (fin128 (fun r e => bR x0 x1 x2 x3 x4 512 r e) (n := 128) 256 inb_S512x512_S512x128_0_256 r j (by omega)).symm
  · subst hp
    intro x
    obtain ⟨r, j, rfl⟩ : ∃ (r : Fin 512) (j : Fin 128), x = ix2 r j := ⟨x 0, x 1, eq_ix2 (n0 := 512) (n1 := 128) x⟩
    change RB x0 x1 x2 x3 x4 arg1 harg1 arg2 harg2 arg3 harg3 arg4 harg4 arg5 harg5 512 inb_S1024x5120_S1024x512_0_512 128 slices_S512x512_o0_128_S512x128 (ix2 r j) = _
    exact Eq.trans (RB_at x0 x1 x2 x3 x4 arg1 harg1 arg2 harg2 arg3 harg3 arg4 harg4 arg5 harg5 512 (by omega) inb_S1024x5120_S1024x512_0_512 128 1 rfl (by omega) slices_S512x512_o0_128_S512x128 r j) (fin128 (fun r e => bR x0 x1 x2 x3 x4 512 r e) (n := 128) 128 inb_S512x512_S512x128_0_128 r j (by omega)).symm
  · subst hp
    intro x
    obtain ⟨r, j, rfl⟩ : ∃ (r : Fin 512) (j : Fin 128), x = ix2 r j := ⟨x 0, x 1, eq_ix2 (n0 := 512) (n1 := 128) x⟩
    change RB x0 x1 x2 x3 x4 arg1 harg1 arg2 harg2 arg3 harg3 arg4 harg4 arg5 harg5 512 inb_S1024x5120_S1024x512_0_512 0 slices_S512x512_o0_0_S512x128 (ix2 r j) = _
    exact Eq.trans (RB_at x0 x1 x2 x3 x4 arg1 harg1 arg2 harg2 arg3 harg3 arg4 harg4 arg5 harg5 512 (by omega) inb_S1024x5120_S1024x512_0_512 0 0 rfl (by omega) slices_S512x512_o0_0_S512x128 r j) (fin128 (fun r e => bR x0 x1 x2 x3 x4 512 r e) (n := 128) 0 inb_S512x512_S512x128_0_0 r j (by omega)).symm

theorem o5 (y : S512x512.Idx) : out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bR x0 x1 x2 x3 x4 512 (y 0) (y 1).val) : S512x512.Idx → EReal) y := by
  unfold out0_A_5
  exact View.read_writes_apply_of_pieces (Val := Elt Ideal) _ _ ((fun y => bR x0 x1 x2 x3 x4 512 (y 0) (y 1).val) : S512x512.Idx → EReal) _ (p5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p9 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.1, ∀ x, p.2 x = ((fun y => bR x0 x1 x2 x3 x4 0 (y 0) (y 1).val * Ideal.ofBits .f32 0x3E000000#32) : S512x512.Idx → EReal) (p.1.emb x) := by
  intro p hp
  unfold kernelRun0_A at hp
  simp only [List.mem_cons, List.mem_nil_iff, or_false] at hp
  rcases hp with hp | hp | hp | hp
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 0 inb_S1024x5120_S1024x512_0_0 384 slices_S512x512_o0_384_S512x128) (broadcast S512x128 (Scalar.ofBits (F := Ideal) .f32 0x3E000000#32))) bitsLt_bf16_f32 (ix2 r j) = _
    exact Eq.trans (congrArg (fun z : EReal => z * Ideal.ofBits .f32 0x3E000000#32) (RB_at x0 x1 x2 x3 x4 arg1 harg1 arg2 harg2 arg3 harg3 arg4 harg4 arg5 harg5 0 (by omega) inb_S1024x5120_S1024x512_0_0 384 3 rfl (by omega) slices_S512x512_o0_384_S512x128 r j)) (fin128 (fun r e => bR x0 x1 x2 x3 x4 0 r e * Ideal.ofBits .f32 0x3E000000#32) (n := 128) 384 inb_S512x512_S512x128_0_384 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 0 inb_S1024x5120_S1024x512_0_0 256 slices_S512x512_o0_256_S512x128) (broadcast S512x128 (Scalar.ofBits (F := Ideal) .f32 0x3E000000#32))) bitsLt_bf16_f32 (ix2 r j) = _
    exact Eq.trans (congrArg (fun z : EReal => z * Ideal.ofBits .f32 0x3E000000#32) (RB_at x0 x1 x2 x3 x4 arg1 harg1 arg2 harg2 arg3 harg3 arg4 harg4 arg5 harg5 0 (by omega) inb_S1024x5120_S1024x512_0_0 256 2 rfl (by omega) slices_S512x512_o0_256_S512x128 r j)) (fin128 (fun r e => bR x0 x1 x2 x3 x4 0 r e * Ideal.ofBits .f32 0x3E000000#32) (n := 128) 256 inb_S512x512_S512x128_0_256 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 0 inb_S1024x5120_S1024x512_0_0 128 slices_S512x512_o0_128_S512x128) (broadcast S512x128 (Scalar.ofBits (F := Ideal) .f32 0x3E000000#32))) bitsLt_bf16_f32 (ix2 r j) = _
    exact Eq.trans (congrArg (fun z : EReal => z * Ideal.ofBits .f32 0x3E000000#32) (RB_at x0 x1 x2 x3 x4 arg1 harg1 arg2 harg2 arg3 harg3 arg4 harg4 arg5 harg5 0 (by omega) inb_S1024x5120_S1024x512_0_0 128 1 rfl (by omega) slices_S512x512_o0_128_S512x128 r j)) (fin128 (fun r e => bR x0 x1 x2 x3 x4 0 r e * Ideal.ofBits .f32 0x3E000000#32) (n := 128) 128 inb_S512x512_S512x128_0_128 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 0 inb_S1024x5120_S1024x512_0_0 0 slices_S512x512_o0_0_S512x128) (broadcast S512x128 (Scalar.ofBits (F := Ideal) .f32 0x3E000000#32))) bitsLt_bf16_f32 (ix2 r j) = _
    exact Eq.trans (congrArg (fun z : EReal => z * Ideal.ofBits .f32 0x3E000000#32) (RB_at x0 x1 x2 x3 x4 arg1 harg1 arg2 harg2 arg3 harg3 arg4 harg4 arg5 harg5 0 (by omega) inb_S1024x5120_S1024x512_0_0 0 0 rfl (by omega) slices_S512x512_o0_0_S512x128 r j)) (fin128 (fun r e => bR x0 x1 x2 x3 x4 0 r e * Ideal.ofBits .f32 0x3E000000#32) (n := 128) 0 inb_S512x512_S512x128_0_0 r j (by omega)).symm

theorem o9 (y : S512x512.Idx) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bR x0 x1 x2 x3 x4 0 (y 0) (y 1).val * Ideal.ofBits .f32 0x3E000000#32) : S512x512.Idx → EReal) y := by
  unfold out0_A_9
  exact View.read_writes_apply_of_pieces (Val := Elt Ideal) _ _ ((fun y => bR x0 x1 x2 x3 x4 0 (y 0) (y 1).val * Ideal.ofBits .f32 0x3E000000#32) : S512x512.Idx → EReal) _ (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p10 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.1, ∀ x, p.2 x = ((fun y => bR x0 x1 x2 x3 x4 512 (y 0) (y 1).val) : S512x512.Idx → EReal) (p.1.emb x) := by
  intro p hp
  unfold kernelRun0_A at hp
  simp only [List.mem_cons, List.mem_nil_iff, or_false] at hp
  rcases hp with hp | hp | hp | hp
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 512 inb_S1024x5120_S1024x512_0_512 384 slices_S512x512_o0_384_S512x128) (broadcast S512x128 (Scalar.ofBits (F := Ideal) .f32 0x3F800000#32))) bitsLt_bf16_f32 (ix2 r j) = _
    exact Eq.trans ((congrArg (fun z : EReal => z * FloatOps.ofBits (F := Ideal) .f32 0x3F800000#32) (RB_at x0 x1 x2 x3 x4 arg1 harg1 arg2 harg2 arg3 harg3 arg4 harg4 arg5 harg5 512 (by omega) inb_S1024x5120_S1024x512_0_512 384 3 rfl (by omega) slices_S512x512_o0_384_S512x128 r j)).trans ((congrArg (fun z : EReal => bR x0 x1 x2 x3 x4 512 r (384 + j.val) * z) one_eq).trans (mul_one _))) (fin128 (fun r e => bR x0 x1 x2 x3 x4 512 r e) (n := 128) 384 inb_S512x512_S512x128_0_384 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 512 inb_S1024x5120_S1024x512_0_512 256 slices_S512x512_o0_256_S512x128) (broadcast S512x128 (Scalar.ofBits (F := Ideal) .f32 0x3F800000#32))) bitsLt_bf16_f32 (ix2 r j) = _
    exact Eq.trans ((congrArg (fun z : EReal => z * FloatOps.ofBits (F := Ideal) .f32 0x3F800000#32) (RB_at x0 x1 x2 x3 x4 arg1 harg1 arg2 harg2 arg3 harg3 arg4 harg4 arg5 harg5 512 (by omega) inb_S1024x5120_S1024x512_0_512 256 2 rfl (by omega) slices_S512x512_o0_256_S512x128 r j)).trans ((congrArg (fun z : EReal => bR x0 x1 x2 x3 x4 512 r (256 + j.val) * z) one_eq).trans (mul_one _))) (fin128 (fun r e => bR x0 x1 x2 x3 x4 512 r e) (n := 128) 256 inb_S512x512_S512x128_0_256 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 512 inb_S1024x5120_S1024x512_0_512 128 slices_S512x512_o0_128_S512x128) (broadcast S512x128 (Scalar.ofBits (F := Ideal) .f32 0x3F800000#32))) bitsLt_bf16_f32 (ix2 r j) = _
    exact Eq.trans ((congrArg (fun z : EReal => z * FloatOps.ofBits (F := Ideal) .f32 0x3F800000#32) (RB_at x0 x1 x2 x3 x4 arg1 harg1 arg2 harg2 arg3 harg3 arg4 harg4 arg5 harg5 512 (by omega) inb_S1024x5120_S1024x512_0_512 128 1 rfl (by omega) slices_S512x512_o0_128_S512x128 r j)).trans ((congrArg (fun z : EReal => bR x0 x1 x2 x3 x4 512 r (128 + j.val) * z) one_eq).trans (mul_one _))) (fin128 (fun r e => bR x0 x1 x2 x3 x4 512 r e) (n := 128) 128 inb_S512x512_S512x128_0_128 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 512 inb_S1024x5120_S1024x512_0_512 0 slices_S512x512_o0_0_S512x128) (broadcast S512x128 (Scalar.ofBits (F := Ideal) .f32 0x3F800000#32))) bitsLt_bf16_f32 (ix2 r j) = _
    exact Eq.trans ((congrArg (fun z : EReal => z * FloatOps.ofBits (F := Ideal) .f32 0x3F800000#32) (RB_at x0 x1 x2 x3 x4 arg1 harg1 arg2 harg2 arg3 harg3 arg4 harg4 arg5 harg5 512 (by omega) inb_S1024x5120_S1024x512_0_512 0 0 rfl (by omega) slices_S512x512_o0_0_S512x128 r j)).trans ((congrArg (fun z : EReal => bR x0 x1 x2 x3 x4 512 r (0 + j.val) * z) one_eq).trans (mul_one _))) (fin128 (fun r e => bR x0 x1 x2 x3 x4 512 r e) (n := 128) 0 inb_S512x512_S512x128_0_0 r j (by omega)).symm

theorem o10 (y : S512x512.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bR x0 x1 x2 x3 x4 512 (y 0) (y 1).val) : S512x512.Idx → EReal) y := by
  unfold out0_A_10
  exact View.read_writes_apply_of_pieces (Val := Elt Ideal) _ _ ((fun y => bR x0 x1 x2 x3 x4 512 (y 0) (y 1).val) : S512x512.Idx → EReal) _ (p10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p7 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.1, ∀ x, p.2 x = ((fun y => bR x0 x1 x2 x3 x4 2048 (y 0) (y 1).val) : S512x512.Idx → EReal) (p.1.emb x) := by
  intro p hp
  unfold kernelRun0_A at hp
  unfold kernelRun0_A.sl.H7_4 at hp
  simp only [List.mem_cons, List.mem_nil_iff, or_false] at hp
  rcases hp with hp | hp | hp | hp
  · subst hp
    intro x
    obtain ⟨r, j, rfl⟩ : ∃ (r : Fin 512) (j : Fin 128), x = ix2 r j := ⟨x 0, x 1, eq_ix2 (n0 := 512) (n1 := 128) x⟩
    change RB x0 x1 x2 x3 x4 arg1 harg1 arg2 harg2 arg3 harg3 arg4 harg4 arg5 harg5 2048 inb_S1024x5120_S1024x512_0_2048 384 slices_S512x512_o0_384_S512x128 (ix2 r j) = _
    exact Eq.trans (RB_at x0 x1 x2 x3 x4 arg1 harg1 arg2 harg2 arg3 harg3 arg4 harg4 arg5 harg5 2048 (by omega) inb_S1024x5120_S1024x512_0_2048 384 3 rfl (by omega) slices_S512x512_o0_384_S512x128 r j) (fin128 (fun r e => bR x0 x1 x2 x3 x4 2048 r e) (n := 128) 384 inb_S512x512_S512x128_0_384 r j (by omega)).symm
  · subst hp
    intro x
    obtain ⟨r, j, rfl⟩ : ∃ (r : Fin 512) (j : Fin 128), x = ix2 r j := ⟨x 0, x 1, eq_ix2 (n0 := 512) (n1 := 128) x⟩
    change RB x0 x1 x2 x3 x4 arg1 harg1 arg2 harg2 arg3 harg3 arg4 harg4 arg5 harg5 2048 inb_S1024x5120_S1024x512_0_2048 256 slices_S512x512_o0_256_S512x128 (ix2 r j) = _
    exact Eq.trans (RB_at x0 x1 x2 x3 x4 arg1 harg1 arg2 harg2 arg3 harg3 arg4 harg4 arg5 harg5 2048 (by omega) inb_S1024x5120_S1024x512_0_2048 256 2 rfl (by omega) slices_S512x512_o0_256_S512x128 r j) (fin128 (fun r e => bR x0 x1 x2 x3 x4 2048 r e) (n := 128) 256 inb_S512x512_S512x128_0_256 r j (by omega)).symm
  · subst hp
    intro x
    obtain ⟨r, j, rfl⟩ : ∃ (r : Fin 512) (j : Fin 128), x = ix2 r j := ⟨x 0, x 1, eq_ix2 (n0 := 512) (n1 := 128) x⟩
    change RB x0 x1 x2 x3 x4 arg1 harg1 arg2 harg2 arg3 harg3 arg4 harg4 arg5 harg5 2048 inb_S1024x5120_S1024x512_0_2048 128 slices_S512x512_o0_128_S512x128 (ix2 r j) = _
    exact Eq.trans (RB_at x0 x1 x2 x3 x4 arg1 harg1 arg2 harg2 arg3 harg3 arg4 harg4 arg5 harg5 2048 (by omega) inb_S1024x5120_S1024x512_0_2048 128 1 rfl (by omega) slices_S512x512_o0_128_S512x128 r j) (fin128 (fun r e => bR x0 x1 x2 x3 x4 2048 r e) (n := 128) 128 inb_S512x512_S512x128_0_128 r j (by omega)).symm
  · subst hp
    intro x
    obtain ⟨r, j, rfl⟩ : ∃ (r : Fin 512) (j : Fin 128), x = ix2 r j := ⟨x 0, x 1, eq_ix2 (n0 := 512) (n1 := 128) x⟩
    change RB x0 x1 x2 x3 x4 arg1 harg1 arg2 harg2 arg3 harg3 arg4 harg4 arg5 harg5 2048 inb_S1024x5120_S1024x512_0_2048 0 slices_S512x512_o0_0_S512x128 (ix2 r j) = _
    exact Eq.trans (RB_at x0 x1 x2 x3 x4 arg1 harg1 arg2 harg2 arg3 harg3 arg4 harg4 arg5 harg5 2048 (by omega) inb_S1024x5120_S1024x512_0_2048 0 0 rfl (by omega) slices_S512x512_o0_0_S512x128 r j) (fin128 (fun r e => bR x0 x1 x2 x3 x4 2048 r e) (n := 128) 0 inb_S512x512_S512x128_0_0 r j (by omega)).symm

theorem o7 (y : S512x512.Idx) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bR x0 x1 x2 x3 x4 2048 (y 0) (y 1).val) : S512x512.Idx → EReal) y := by
  unfold out0_A_7
  exact View.read_writes_apply_of_pieces (Val := Elt Ideal) _ _ ((fun y => bR x0 x1 x2 x3 x4 2048 (y 0) (y 1).val) : S512x512.Idx → EReal) _ (p7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p6 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.1, ∀ x, p.2 x = ((fun y => bp x0 x1 (y 0) (1024 + (y 1).val)) : S512x512.Idx → EReal) (p.1.emb x) := by
  intro p hp
  unfold kernelRun0_A at hp
  simp only [List.mem_cons, List.mem_nil_iff, or_false] at hp
  subst hp
  intro x
  obtain ⟨r, j, rfl⟩ : ∃ (r : Fin 512) (j : Fin 512), x = ix2 r j := ⟨x 0, x 1, eq_ix2 (n0 := 512) (n1 := 512) x⟩
  refine Eq.trans (MB_at x0 x1 arg1 harg1 arg2 harg2 1024 (by omega) inb_S1024x5120_S1024x512_0_1024 r j) (Eq.trans ?_ (congrArg ((fun y => bp x0 x1 (y 0) (1024 + (y 1).val)) : S512x512.Idx → EReal) (emb128 (n := 512) 0 inb_S512x512_S512x512_0_0 r j (by omega)).symm))
  show bp x0 x1 r (1024 + j.val) = bp x0 x1 r (1024 + (0 + j.val))
  rw [Nat.zero_add]

theorem o6 (y : S512x512.Idx) : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bp x0 x1 (y 0) (1024 + (y 1).val)) : S512x512.Idx → EReal) y := by
  unfold out0_A_6
  exact View.read_writes_apply_of_pieces (Val := Elt Ideal) _ _ ((fun y => bp x0 x1 (y 0) (1024 + (y 1).val)) : S512x512.Idx → EReal) _ (p6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p8 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.1, ∀ x, p.2 x = ((fun y => bp x0 x1 (y 0) (2560 + (y 1).val)) : S512x512.Idx → EReal) (p.1.emb x) := by
  intro p hp
  unfold kernelRun0_A at hp
  simp only [List.mem_cons, List.mem_nil_iff, or_false] at hp
  subst hp
  intro x
  obtain ⟨r, j, rfl⟩ : ∃ (r : Fin 512) (j : Fin 512), x = ix2 r j := ⟨x 0, x 1, eq_ix2 (n0 := 512) (n1 := 512) x⟩
  refine Eq.trans (MB_at x0 x1 arg1 harg1 arg2 harg2 2560 (by omega) inb_S1024x5120_S1024x512_0_2560 r j) (Eq.trans ?_ (congrArg ((fun y => bp x0 x1 (y 0) (2560 + (y 1).val)) : S512x512.Idx → EReal) (emb128 (n := 512) 0 inb_S512x512_S512x512_0_0 r j (by omega)).symm))
  show bp x0 x1 r (2560 + j.val) = bp x0 x1 r (2560 + (0 + j.val))
  rw [Nat.zero_add]

theorem o8 (y : S512x512.Idx) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bp x0 x1 (y 0) (2560 + (y 1).val)) : S512x512.Idx → EReal) y := by
  unfold out0_A_8
  exact View.read_writes_apply_of_pieces (Val := Elt Ideal) _ _ ((fun y => bp x0 x1 (y 0) (2560 + (y 1).val)) : S512x512.Idx → EReal) _ (p8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p11 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.1, ∀ x, p.2 x = ((fun y => bp x0 x1 (y 0) (1024 + (y 1).val)) : S512x512.Idx → EReal) (p.1.emb x) := by
  intro p hp
  unfold kernelRun0_A at hp
  simp only [List.mem_cons, List.mem_nil_iff, or_false] at hp
  subst hp
  intro x
  obtain ⟨r, j, rfl⟩ : ∃ (r : Fin 512) (j : Fin 512), x = ix2 r j := ⟨x 0, x 1, eq_ix2 (n0 := 512) (n1 := 512) x⟩
  refine Eq.trans (MB_at x0 x1 arg1 harg1 arg2 harg2 1024 (by omega) inb_S1024x5120_S1024x512_0_1024 r j) (Eq.trans ?_ (congrArg ((fun y => bp x0 x1 (y 0) (1024 + (y 1).val)) : S512x512.Idx → EReal) (emb128 (n := 512) 0 inb_S512x512_S512x512_0_0 r j (by omega)).symm))
  show bp x0 x1 r (1024 + j.val) = bp x0 x1 r (1024 + (0 + j.val))
  rw [Nat.zero_add]

theorem o11 (y : S512x512.Idx) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bp x0 x1 (y 0) (1024 + (y 1).val)) : S512x512.Idx → EReal) y := by
  unfold out0_A_11
  exact View.read_writes_apply_of_pieces (Val := Elt Ideal) _ _ ((fun y => bp x0 x1 (y 0) (1024 + (y 1).val)) : S512x512.Idx → EReal) _ (p11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p12 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.1, ∀ x, p.2 x = ((fun y => bR x0 x1 x2 x3 x4 1536 (y 0) (y 1).val * Ideal.ofBits .f32 0x3E000000#32) : S512x512.Idx → EReal) (p.1.emb x) := by
  intro p hp
  unfold kernelRun0_A at hp
  simp only [List.mem_cons, List.mem_nil_iff, or_false] at hp
  rcases hp with hp | hp | hp | hp
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 1536 inb_S1024x5120_S1024x512_0_1536 384 slices_S512x512_o0_384_S512x128) (broadcast S512x128 (Scalar.ofBits (F := Ideal) .f32 0x3E000000#32))) bitsLt_bf16_f32 (ix2 r j) = _
    exact Eq.trans (congrArg (fun z : EReal => z * Ideal.ofBits .f32 0x3E000000#32) (RB_at x0 x1 x2 x3 x4 arg1 harg1 arg2 harg2 arg3 harg3 arg4 harg4 arg5 harg5 1536 (by omega) inb_S1024x5120_S1024x512_0_1536 384 3 rfl (by omega) slices_S512x512_o0_384_S512x128 r j)) (fin128 (fun r e => bR x0 x1 x2 x3 x4 1536 r e * Ideal.ofBits .f32 0x3E000000#32) (n := 128) 384 inb_S512x512_S512x128_0_384 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 1536 inb_S1024x5120_S1024x512_0_1536 256 slices_S512x512_o0_256_S512x128) (broadcast S512x128 (Scalar.ofBits (F := Ideal) .f32 0x3E000000#32))) bitsLt_bf16_f32 (ix2 r j) = _
    exact Eq.trans (congrArg (fun z : EReal => z * Ideal.ofBits .f32 0x3E000000#32) (RB_at x0 x1 x2 x3 x4 arg1 harg1 arg2 harg2 arg3 harg3 arg4 harg4 arg5 harg5 1536 (by omega) inb_S1024x5120_S1024x512_0_1536 256 2 rfl (by omega) slices_S512x512_o0_256_S512x128 r j)) (fin128 (fun r e => bR x0 x1 x2 x3 x4 1536 r e * Ideal.ofBits .f32 0x3E000000#32) (n := 128) 256 inb_S512x512_S512x128_0_256 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 1536 inb_S1024x5120_S1024x512_0_1536 128 slices_S512x512_o0_128_S512x128) (broadcast S512x128 (Scalar.ofBits (F := Ideal) .f32 0x3E000000#32))) bitsLt_bf16_f32 (ix2 r j) = _
    exact Eq.trans (congrArg (fun z : EReal => z * Ideal.ofBits .f32 0x3E000000#32) (RB_at x0 x1 x2 x3 x4 arg1 harg1 arg2 harg2 arg3 harg3 arg4 harg4 arg5 harg5 1536 (by omega) inb_S1024x5120_S1024x512_0_1536 128 1 rfl (by omega) slices_S512x512_o0_128_S512x128 r j)) (fin128 (fun r e => bR x0 x1 x2 x3 x4 1536 r e * Ideal.ofBits .f32 0x3E000000#32) (n := 128) 128 inb_S512x512_S512x128_0_128 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 1536 inb_S1024x5120_S1024x512_0_1536 0 slices_S512x512_o0_0_S512x128) (broadcast S512x128 (Scalar.ofBits (F := Ideal) .f32 0x3E000000#32))) bitsLt_bf16_f32 (ix2 r j) = _
    exact Eq.trans (congrArg (fun z : EReal => z * Ideal.ofBits .f32 0x3E000000#32) (RB_at x0 x1 x2 x3 x4 arg1 harg1 arg2 harg2 arg3 harg3 arg4 harg4 arg5 harg5 1536 (by omega) inb_S1024x5120_S1024x512_0_1536 0 0 rfl (by omega) slices_S512x512_o0_0_S512x128 r j)) (fin128 (fun r e => bR x0 x1 x2 x3 x4 1536 r e * Ideal.ofBits .f32 0x3E000000#32) (n := 128) 0 inb_S512x512_S512x128_0_0 r j (by omega)).symm

theorem o12 (y : S512x512.Idx) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bR x0 x1 x2 x3 x4 1536 (y 0) (y 1).val * Ideal.ofBits .f32 0x3E000000#32) : S512x512.Idx → EReal) y := by
  unfold out0_A_12
  exact View.read_writes_apply_of_pieces (Val := Elt Ideal) _ _ ((fun y => bR x0 x1 x2 x3 x4 1536 (y 0) (y 1).val * Ideal.ofBits .f32 0x3E000000#32) : S512x512.Idx → EReal) _ (p12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p13 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.1, ∀ x, p.2 x = ((fun y => bR x0 x1 x2 x3 x4 2048 (y 0) (y 1).val) : S512x512.Idx → EReal) (p.1.emb x) := by
  intro p hp
  unfold kernelRun0_A at hp
  simp only [List.mem_cons, List.mem_nil_iff, or_false] at hp
  rcases hp with hp | hp | hp | hp
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 2048 inb_S1024x5120_S1024x512_0_2048 384 slices_S512x512_o0_384_S512x128) (broadcast S512x128 (Scalar.ofBits (F := Ideal) .f32 0x3F800000#32))) bitsLt_bf16_f32 (ix2 r j) = _
    exact Eq.trans ((congrArg (fun z : EReal => z * FloatOps.ofBits (F := Ideal) .f32 0x3F800000#32) (RB_at x0 x1 x2 x3 x4 arg1 harg1 arg2 harg2 arg3 harg3 arg4 harg4 arg5 harg5 2048 (by omega) inb_S1024x5120_S1024x512_0_2048 384 3 rfl (by omega) slices_S512x512_o0_384_S512x128 r j)).trans ((congrArg (fun z : EReal => bR x0 x1 x2 x3 x4 2048 r (384 + j.val) * z) one_eq).trans (mul_one _))) (fin128 (fun r e => bR x0 x1 x2 x3 x4 2048 r e) (n := 128) 384 inb_S512x512_S512x128_0_384 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 2048 inb_S1024x5120_S1024x512_0_2048 256 slices_S512x512_o0_256_S512x128) (broadcast S512x128 (Scalar.ofBits (F := Ideal) .f32 0x3F800000#32))) bitsLt_bf16_f32 (ix2 r j) = _
    exact Eq.trans ((congrArg (fun z : EReal => z * FloatOps.ofBits (F := Ideal) .f32 0x3F800000#32) (RB_at x0 x1 x2 x3 x4 arg1 harg1 arg2 harg2 arg3 harg3 arg4 harg4 arg5 harg5 2048 (by omega) inb_S1024x5120_S1024x512_0_2048 256 2 rfl (by omega) slices_S512x512_o0_256_S512x128 r j)).trans ((congrArg (fun z : EReal => bR x0 x1 x2 x3 x4 2048 r (256 + j.val) * z) one_eq).trans (mul_one _))) (fin128 (fun r e => bR x0 x1 x2 x3 x4 2048 r e) (n := 128) 256 inb_S512x512_S512x128_0_256 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 2048 inb_S1024x5120_S1024x512_0_2048 128 slices_S512x512_o0_128_S512x128) (broadcast S512x128 (Scalar.ofBits (F := Ideal) .f32 0x3F800000#32))) bitsLt_bf16_f32 (ix2 r j) = _
    exact Eq.trans ((congrArg (fun z : EReal => z * FloatOps.ofBits (F := Ideal) .f32 0x3F800000#32) (RB_at x0 x1 x2 x3 x4 arg1 harg1 arg2 harg2 arg3 harg3 arg4 harg4 arg5 harg5 2048 (by omega) inb_S1024x5120_S1024x512_0_2048 128 1 rfl (by omega) slices_S512x512_o0_128_S512x128 r j)).trans ((congrArg (fun z : EReal => bR x0 x1 x2 x3 x4 2048 r (128 + j.val) * z) one_eq).trans (mul_one _))) (fin128 (fun r e => bR x0 x1 x2 x3 x4 2048 r e) (n := 128) 128 inb_S512x512_S512x128_0_128 r j (by omega)).symm
  · subst hp
    intro x
    obtain ⟨r, j, rfl⟩ : ∃ (r : Fin 512) (j : Fin 128), x = ix2 r j := ⟨x 0, x 1, eq_ix2 (n0 := 512) (n1 := 128) x⟩
    change truncf (F := Ideal) .bf16 (mulf (RB x0 x1 x2 x3 x4 arg1 harg1 arg2 harg2 arg3 harg3 arg4 harg4 arg5 harg5 2048 inb_S1024x5120_S1024x512_0_2048 0 slices_S512x512_o0_0_S512x128) (broadcast S512x128 (Scalar.ofBits (F := Ideal) .f32 0x3F800000#32))) bitsLt_bf16_f32 (ix2 r j) = _
    exact Eq.trans ((congrArg (fun z : EReal => z * FloatOps.ofBits (F := Ideal) .f32 0x3F800000#32) (RB_at x0 x1 x2 x3 x4 arg1 harg1 arg2 harg2 arg3 harg3 arg4 harg4 arg5 harg5 2048 (by omega) inb_S1024x5120_S1024x512_0_2048 0 0 rfl (by omega) slices_S512x512_o0_0_S512x128 r j)).trans ((congrArg (fun z : EReal => bR x0 x1 x2 x3 x4 2048 r (0 + j.val) * z) one_eq).trans (mul_one _))) (fin128 (fun r e => bR x0 x1 x2 x3 x4 2048 r e) (n := 128) 0 inb_S512x512_S512x128_0_0 r j (by omega)).symm

theorem o13 (y : S512x512.Idx) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bR x0 x1 x2 x3 x4 2048 (y 0) (y 1).val) : S512x512.Idx → EReal) y := by
  unfold out0_A_13
  exact View.read_writes_apply_of_pieces (Val := Elt Ideal) _ _ ((fun y => bR x0 x1 x2 x3 x4 2048 (y 0) (y 1).val) : S512x512.Idx → EReal) _ (p13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p14 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.1, ∀ x, p.2 x = ((fun y => bp x0 x1 (y 0) (2560 + (y 1).val)) : S512x512.Idx → EReal) (p.1.emb x) := by
  intro p hp
  unfold kernelRun0_A at hp
  simp only [List.mem_cons, List.mem_nil_iff, or_false] at hp
  subst hp
  intro x
  obtain ⟨r, j, rfl⟩ : ∃ (r : Fin 512) (j : Fin 512), x = ix2 r j := ⟨x 0, x 1, eq_ix2 (n0 := 512) (n1 := 512) x⟩
  refine Eq.trans (MB_at x0 x1 arg1 harg1 arg2 harg2 2560 (by omega) inb_S1024x5120_S1024x512_0_2560 r j) (Eq.trans ?_ (congrArg ((fun y => bp x0 x1 (y 0) (2560 + (y 1).val)) : S512x512.Idx → EReal) (emb128 (n := 512) 0 inb_S512x512_S512x512_0_0 r j (by omega)).symm))
  show bp x0 x1 r (2560 + j.val) = bp x0 x1 r (2560 + (0 + j.val))
  rw [Nat.zero_add]

theorem o14 (y : S512x512.Idx) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => bp x0 x1 (y 0) (2560 + (y 1).val)) : S512x512.Idx → EReal) y := by
  unfold out0_A_14
  exact View.read_writes_apply_of_pieces (Val := Elt Ideal) _ _ ((fun y => bp x0 x1 (y 0) (2560 + (y 1).val)) : S512x512.Idx → EReal) _ (p14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p15 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.2.1, ∀ x, p.2 x = ((fun y => Ideal.logistic (bp x0 x1 (y 0) (3072 + (y 1).val))) : S512x1024.Idx → EReal) (p.1.emb x) := by
  intro p hp
  unfold kernelRun0_A at hp
  simp only [List.mem_cons, List.mem_nil_iff, or_false] at hp
  rcases hp with rfl | rfl
  · intro x
    obtain ⟨r, j, rfl⟩ : ∃ (r : Fin 512) (j : Fin 512), x = ix2 r j := ⟨x 0, x 1, eq_ix2 (n0 := 512) (n1 := 512) x⟩
    refine Eq.trans (congrArg Ideal.logistic (MB_at x0 x1 arg1 harg1 arg2 harg2 3584 (by omega) inb_S1024x5120_S1024x512_0_3584 r j)) (Eq.trans ?_ (congrArg ((fun y => Ideal.logistic (bp x0 x1 (y 0) (3072 + (y 1).val))) : S512x1024.Idx → EReal) (emb1024 512 inb_S512x1024_S512x512_0_512 r j (by omega)).symm))
    show Ideal.logistic (bp x0 x1 r (3584 + j.val)) = Ideal.logistic (bp x0 x1 r (3072 + (512 + j.val)))
    rw [show 3072 + (512 + j.val) = 3584 + j.val from by omega]
  · intro x
    obtain ⟨r, j, rfl⟩ : ∃ (r : Fin 512) (j : Fin 512), x = ix2 r j := ⟨x 0, x 1, eq_ix2 (n0 := 512) (n1 := 512) x⟩
    refine Eq.trans (congrArg Ideal.logistic (MB_at x0 x1 arg1 harg1 arg2 harg2 3072 (by omega) inb_S1024x5120_S1024x512_0_3072 r j)) (Eq.trans ?_ (congrArg ((fun y => Ideal.logistic (bp x0 x1 (y 0) (3072 + (y 1).val))) : S512x1024.Idx → EReal) (emb1024 0 inb_S512x1024_S512x512_0_0 r j (by omega)).symm))
    show Ideal.logistic (bp x0 x1 r (3072 + j.val)) = Ideal.logistic (bp x0 x1 r (3072 + (0 + j.val)))
    rw [show 3072 + (0 + j.val) = 3072 + j.val from by omega]

theorem o15 (y : S512x1024.Idx) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => Ideal.logistic (bp x0 x1 (y 0) (3072 + (y 1).val))) : S512x1024.Idx → EReal) y := by
  unfold out0_A_15
  exact View.read_writes_apply_of_pieces (Val := Elt Ideal) _ _ ((fun y => Ideal.logistic (bp x0 x1 (y 0) (3072 + (y 1).val))) : S512x1024.Idx → EReal) _ (p15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

theorem p16 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.2.2.1, ∀ x, p.2 x = ((fun y => Ideal.logistic (bp x0 x1 (y 0) (4096 + (y 1).val))) : S512x1024.Idx → EReal) (p.1.emb x) := by
  intro p hp
  unfold kernelRun0_A at hp
  simp only [List.mem_cons, List.mem_nil_iff, or_false] at hp
  rcases hp with rfl | rfl
  · intro x
    obtain ⟨r, j, rfl⟩ : ∃ (r : Fin 512) (j : Fin 512), x = ix2 r j := ⟨x 0, x 1, eq_ix2 (n0 := 512) (n1 := 512) x⟩
    refine Eq.trans (congrArg Ideal.logistic (MB_at x0 x1 arg1 harg1 arg2 harg2 4608 (by omega) inb_S1024x5120_S1024x512_0_4608 r j)) (Eq.trans ?_ (congrArg ((fun y => Ideal.logistic (bp x0 x1 (y 0) (4096 + (y 1).val))) : S512x1024.Idx → EReal) (emb1024 512 inb_S512x1024_S512x512_0_512 r j (by omega)).symm))
    show Ideal.logistic (bp x0 x1 r (4608 + j.val)) = Ideal.logistic (bp x0 x1 r (4096 + (512 + j.val)))
    rw [show 4096 + (512 + j.val) = 4608 + j.val from by omega]
  · intro x
    obtain ⟨r, j, rfl⟩ : ∃ (r : Fin 512) (j : Fin 512), x = ix2 r j := ⟨x 0, x 1, eq_ix2 (n0 := 512) (n1 := 512) x⟩
    refine Eq.trans (congrArg Ideal.logistic (MB_at x0 x1 arg1 harg1 arg2 harg2 4096 (by omega) inb_S1024x5120_S1024x512_0_4096 r j)) (Eq.trans ?_ (congrArg ((fun y => Ideal.logistic (bp x0 x1 (y 0) (4096 + (y 1).val))) : S512x1024.Idx → EReal) (emb1024 0 inb_S512x1024_S512x512_0_0 r j (by omega)).symm))
    show Ideal.logistic (bp x0 x1 r (4096 + j.val)) = Ideal.logistic (bp x0 x1 r (4096 + (0 + j.val)))
    rw [show 4096 + (0 + j.val) = 4096 + j.val from by omega]

theorem o16 (y : S512x1024.Idx) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => Ideal.logistic (bp x0 x1 (y 0) (4096 + (y 1).val))) : S512x1024.Idx → EReal) y := by
  unfold out0_A_16
  exact View.read_writes_apply_of_pieces (Val := Elt Ideal) _ _ ((fun y => Ideal.logistic (bp x0 x1 (y 0) (4096 + (y 1).val))) : S512x1024.Idx → EReal) _ (p16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

/-- A row of the first or the second half of the block. -/
def brow (n : Fin 2) (z : Fin 256) : Fin 512 := ⟨n.val * 256 + z.val, by omega⟩

theorem embM (n : Fin 2) (inb : ∀ a, (![n.val, 0, 0] : Fin 3 → ℕ) a + (![1, 1, 512] : Fin 3 → ℕ) a ≤ S2x1x512.size a) (e : Fin 512) :
    (Rect.unit (s := S2x1x512) ![n.val, 0, 0] ![1, 1, 512] inb).emb (ix3 0 0 e) = ix3 (n0 := 2) (n1 := 1) (n2 := 512) n 0 e := by
  funext a
  apply Fin.ext
  match a with
  | ⟨0, _⟩ => show n.val + 1 * 0 = n.val; omega
  | ⟨1, _⟩ => rfl
  | ⟨2, _⟩ => show 0 + 1 * e.val = e.val; omega

theorem p17 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.2.2.2.1, ∀ x, p.2 x = ((fun y => (∑ z : Fin 256, bR x0 x1 x2 x3 x4 2048 (brow (y 0) z) (y 2).val) * Ideal.ofBits .f32 0x3B800000#32) : S2x1x512.Idx → EReal) (p.1.emb x) := by
  have L : ∀ y, arg8.view.read (Elt Ideal) (arg8.view.writes (Elt Ideal) arg8.view.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.1) y = ((fun y => bR x0 x1 x2 x3 x4 2048 (y 0) (y 1).val) : S512x512.Idx → EReal) y := fun y =>
    View.read_writes_apply_of_pieces (Val := Elt Ideal) _ _ ((fun y => bR x0 x1 x2 x3 x4 2048 (y 0) (y 1).val) : S512x512.Idx → EReal) _ (p7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)
  intro p hp
  unfold kernelRun0_A at hp
  simp only [List.mem_cons, List.mem_nil_iff, or_false] at hp
  rcases hp with rfl | rfl
  · intro x
    obtain ⟨e, rfl⟩ : ∃ (e : Fin 512), x = ix3 0 0 e := ⟨x 2, (eq_ix3 (n0 := 1) (n1 := 1) (n2 := 512) x).trans
      (congrArg₂ (fun a b : Fin 1 => ix3 a b (x 2)) (Subsingleton.elim (α := Fin 1) (x 0) 0) (Subsingleton.elim (α := Fin 1) (x 1) 0))⟩
    refine Eq.trans (mean_at _ e) (Eq.trans ?_ (congrArg ((fun y => (∑ z : Fin 256, bR x0 x1 x2 x3 x4 2048 (brow (y 0) z) (y 2).val) * Ideal.ofBits .f32 0x3B800000#32) : S2x1x512.Idx → EReal) (embM 1 inb_S2x1x512_S1x1x512_1_0_0 e).symm))
    show _ = (∑ z : Fin 256, bR x0 x1 x2 x3 x4 2048 (brow 1 z) e.val) * Ideal.ofBits .f32 0x3B800000#32
    refine congrArg (fun s : EReal => s * Ideal.ofBits .f32 0x3B800000#32) (Finset.sum_congr rfl fun z _ => ?_)
    refine Eq.trans (L ((Rect.unit (s := S512x512) ![256, 0] S256x512.size inb_S512x512_S256x512_256_0).toLoadRect.idx (ix2 z e))) ?_
    rw [show (Rect.unit (s := S512x512) ![256, 0] S256x512.size inb_S512x512_S256x512_256_0).toLoadRect.idx (ix2 z e) = ix2 (n0 := 512) (n1 := 512) (brow 1 z) e from by
      funext a
      apply Fin.ext
      match a with
      | ⟨0, _⟩ => show 256 + 1 * z.val = 1 * 256 + z.val; omega
      | ⟨1, _⟩ => show 0 + 1 * e.val = e.val; omega]
    rfl
  · intro x
    obtain ⟨e, rfl⟩ : ∃ (e : Fin 512), x = ix3 0 0 e := ⟨x 2, (eq_ix3 (n0 := 1) (n1 := 1) (n2 := 512) x).trans
      (congrArg₂ (fun a b : Fin 1 => ix3 a b (x 2)) (Subsingleton.elim (α := Fin 1) (x 0) 0) (Subsingleton.elim (α := Fin 1) (x 1) 0))⟩
    refine Eq.trans (mean_at _ e) (Eq.trans ?_ (congrArg ((fun y => (∑ z : Fin 256, bR x0 x1 x2 x3 x4 2048 (brow (y 0) z) (y 2).val) * Ideal.ofBits .f32 0x3B800000#32) : S2x1x512.Idx → EReal) (embM 0 inb_S2x1x512_S1x1x512_0_0_0 e).symm))
    show _ = (∑ z : Fin 256, bR x0 x1 x2 x3 x4 2048 (brow 0 z) e.val) * Ideal.ofBits .f32 0x3B800000#32
    refine congrArg (fun s : EReal => s * Ideal.ofBits .f32 0x3B800000#32) (Finset.sum_congr rfl fun z _ => ?_)
    refine Eq.trans (L ((Rect.unit (s := S512x512) ![0, 0] S256x512.size inb_S512x512_S256x512_0_0).toLoadRect.idx (ix2 z e))) ?_
    rw [show (Rect.unit (s := S512x512) ![0, 0] S256x512.size inb_S512x512_S256x512_0_0).toLoadRect.idx (ix2 z e) = ix2 (n0 := 512) (n1 := 512) (brow 0 z) e from by
      funext a
      apply Fin.ext
      match a with
      | ⟨0, _⟩ => show 0 + 1 * z.val = 0 * 256 + z.val; omega
      | ⟨1, _⟩ => show 0 + 1 * e.val = e.val; omega]
    rfl

theorem o17 (y : S2x1x512.Idx) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = ((fun y => (∑ z : Fin 256, bR x0 x1 x2 x3 x4 2048 (brow (y 0) z) (y 2).val) * Ideal.ofBits .f32 0x3B800000#32) : S2x1x512.Idx → EReal) y := by
  unfold out0_A_17
  exact View.read_writes_apply_of_pieces (Val := Elt Ideal) _ _ ((fun y => (∑ z : Fin 256, bR x0 x1 x2 x3 x4 2048 (brow (y 0) z) (y 2).val) * Ideal.ofBits .f32 0x3B800000#32) : S2x1x512.Idx → EReal) _ (p17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)

end Cert.ProjT

end
-- ==== Proof.Proj.Arr.lean ====
/-
  The input windows of a grid point by row and column, and the output arrays after the run.
-/
module

public import proofs.«01_k».proof.Proof.Proj.Pieces

@[expose] public section

set_option maxRecDepth 16384

noncomputable section

namespace Cert.ProjT

open Cert.Kernel2Ideal Cert.Kernel2Ideal.Gen
open Idealize.ShloMosaic Idealize.ShloMosaic.TcCoe Idealize.ShloMosaic.Tactic

variable (m : (ℓ : Loc nD τ sig) → Buf (Elt Ideal) ℓ)

/-- The blocks that a grid point takes. -/
theorem idx : ∀ t, win0_0.index t = ![t.val, 0] ∧ win0_1.index t = ![0, 0]
    ∧ win0_2.index t = ![t.val % 16, 0] ∧ win0_3.index t = ![t.val % 16, 0] ∧ win0_4.index t = ![t.val % 16, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0, 0] := by decide +kernel

theorem ltN (t : Fin grid0.N) : t.val < 128 := t.isLt

/-- The row of the arrays, and the row of the tables, of a row of a grid point's block. -/
def pR (t : Fin grid0.N) (r : Fin 512) : Fin 65536 := ⟨t.val * 512 + r.val, by have := ltN t; omega⟩
def pL (t : Fin grid0.N) (r : Fin 512) : Fin 8192 := ⟨t.val % 16 * 512 + r.val, by omega⟩

theorem rl_pR (t : Fin grid0.N) (r : Fin 512) : rl (pR t r) = pL t r := Fin.ext (by
  show (t.val * 512 + r.val) % 8192 = t.val % 16 * 512 + r.val
  omega)

theorem V60 (c : Dev nD) (R : Fin 65536) (k : Fin 1024) : V m c main_v60 (ix2 R k) = m (c, main_arg0) (ix3 (rb R) (rl R) k) := by
  unfold V
  after_reads_at
  rfl

theorem V1 (c : Dev nD) (k : Fin 1024) (e : Fin 5120) : V m c main_v1 (ix2 k e) = m (c, main_arg1) (ix3 0 k e) := by
  unfold V
  after_reads_at

theorem b0 (c : Dev nD) (t : Fin grid0.N) (r : Fin 512) (k : Fin 1024) : iblk m c 0 t (ix2 r k) = m (c, main_arg0) (ix3 (rb (pR t r)) (rl (pR t r)) k) := by
  rw [← V60 m c]
  unfold pR
  blk_ext [iblk, idx t]

theorem b1 (c : Dev nD) (t : Fin grid0.N) (k : Fin 1024) (e : Fin 5120) : iblk m c 1 t (ix2 k e) = m (c, main_arg1) (ix3 0 k e) := by
  rw [← V1 m c]
  blk_ext [iblk, idx t]

theorem b2 (c : Dev nD) (t : Fin grid0.N) (r : Fin 512) (j : Fin 128) : iblk m c 2 t (ix2 r j) = (if j.val % 64 < 16 then cosA (pL t r) (fr j) else (1 : EReal)) := by
  rw [← V32 m c]
  unfold pL
  blk_ext [iblk, idx t]

theorem b3 (c : Dev nD) (t : Fin grid0.N) (r : Fin 512) (j : Fin 128) : iblk m c 3 t (ix2 r j) = (if j.val % 64 < 8 then -(sinA (pL t r) (fr j)) else (0 : EReal)) := by
  rw [← V44 m c]
  unfold pL
  blk_ext [iblk, idx t]

theorem b4 (c : Dev nD) (t : Fin grid0.N) (r : Fin 512) (j : Fin 128) : iblk m c 4 t (ix2 r j) = (if 8 ≤ j.val % 64 ∧ j.val % 64 < 16 then sinA (pL t r) (fr j) else (0 : EReal)) := by
  rw [← V59 m c]
  unfold pL
  blk_ext [iblk, idx t]

theorem bp_eq (c : Dev nD) (t : Fin grid0.N) (r : Fin 512) (n : ℕ) : bp (iblk m c 0 t) (iblk m c 1 t) r n = PP (m (c, main_arg0)) (m (c, main_arg1)) (pR t r) n := by
  unfold bp PP PX
  refine Finset.sum_congr rfl fun k _ => ?_
  exact congrArg₂ (HMul.hMul (α := EReal) (β := EReal) (γ := EReal)) (b0 m c t r k) (b1 m c t k (col n))

theorem bR_eq (c : Dev nD) (t : Fin grid0.N) (o : ℕ) (r : Fin 512) (e : ℕ) :
    bR (iblk m c 0 t) (iblk m c 1 t) (iblk m c 2 t) (iblk m c 3 t) (iblk m c 4 t) o r e = atR o (m (c, main_arg0)) (m (c, main_arg1)) (pR t r) e := by
  unfold bR atR
  rw [bp_eq, bp_eq, bp_eq]
  have h := rope_tab (fun n => PP (m (c, main_arg0)) (m (c, main_arg1)) (pR t r) (o + n)) (rl (pR t r)) (e / 128) (lane e)
  rw [show e / 128 * 128 + (lane e).val = e from Nat.div_add_mod' e 128] at h
  refine Eq.trans ?_ h
  rw [rl_pR]
  have e0 : e / 128 * 128 + e % 128 = e := Nat.div_add_mod' e 128
  exact congrArg₂ (HAdd.hAdd (α := EReal) (β := EReal) (γ := EReal)) (congrArg₂ (HAdd.hAdd (α := EReal) (β := EReal) (γ := EReal))
    (congrArg₂ (HMul.hMul (α := EReal) (β := EReal) (γ := EReal)) (by rw [e0]) (b2 m c t r (lane e)))
    (congrArg₂ (HMul.hMul (α := EReal) (β := EReal) (γ := EReal)) rfl (b3 m c t r (lane e))))
    (congrArg₂ (HMul.hMul (α := EReal) (β := EReal) (γ := EReal)) rfl (b4 m c t r (lane e)))

theorem emb5 (t : Fin grid0.N) (r : Fin 512) (k : Fin 512) : ((cfg0.win 5).blk t).view.emb (ix2 r k) = ix2 (pR t r) k := by
  unfold pR
  blk_ext [idx t]

theorem out5 (c : Dev nD) (t : Fin grid0.N) : (outsAt0 m c t).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr5 (c : Dev nD) : (dats m 0 c).arrAt 5 cfg0.N = gR .f32 512 (m (c, main_arg0)) (m (c, main_arg1)) := by
  refine (dats m 0 c).arrAt_eq_of_covers 5 _ (by decide +kernel) fun t hf y => ?_
  blk_simp
  rw [after0_5]
  have e : ∀ y : S512x512.Idx, (outsAt0 m c t).1 y = (gR .f32 512 (m (c, main_arg0)) (m (c, main_arg1))) ((win0_5.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gR .f32 512 (m (c, main_arg0)) (m (c, main_arg1))) (emb5 t r k).symm)
    refine (congrFun (out5 m c t) (ix2 r k)).trans ?_
    refine (o5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact bR_eq m c t _ r k.val
  exact e y

theorem emb6 (t : Fin grid0.N) (r : Fin 512) (k : Fin 512) : ((cfg0.win 6).blk t).view.emb (ix2 r k) = ix2 (pR t r) k := by
  unfold pR
  blk_ext [idx t]

theorem out6 (c : Dev nD) (t : Fin grid0.N) : (outsAt0 m c t).2.1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr6 (c : Dev nD) : (dats m 0 c).arrAt 6 cfg0.N = gP .f32 1024 (m (c, main_arg0)) (m (c, main_arg1)) := by
  refine (dats m 0 c).arrAt_eq_of_covers 6 _ (by decide +kernel) fun t hf y => ?_
  blk_simp
  rw [after0_6]
  have e : ∀ y : S512x512.Idx, (outsAt0 m c t).2.1 y = (gP .f32 1024 (m (c, main_arg0)) (m (c, main_arg1))) ((win0_6.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gP .f32 1024 (m (c, main_arg0)) (m (c, main_arg1))) (emb6 t r k).symm)
    refine (congrFun (out6 m c t) (ix2 r k)).trans ?_
    refine (o6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact bp_eq m c t r _
  exact e y

theorem emb7 (t : Fin grid0.N) (r : Fin 512) (k : Fin 512) : ((cfg0.win 7).blk t).view.emb (ix2 r k) = ix2 (pR t r) k := by
  unfold pR
  blk_ext [idx t]

theorem out7 (c : Dev nD) (t : Fin grid0.N) : (outsAt0 m c t).2.2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr7 (c : Dev nD) : (dats m 0 c).arrAt 7 cfg0.N = gR .f32 2048 (m (c, main_arg0)) (m (c, main_arg1)) := by
  refine (dats m 0 c).arrAt_eq_of_covers 7 _ (by decide +kernel) fun t hf y => ?_
  blk_simp
  rw [after0_7]
  have e : ∀ y : S512x512.Idx, (outsAt0 m c t).2.2.1 y = (gR .f32 2048 (m (c, main_arg0)) (m (c, main_arg1))) ((win0_7.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gR .f32 2048 (m (c, main_arg0)) (m (c, main_arg1))) (emb7 t r k).symm)
    refine (congrFun (out7 m c t) (ix2 r k)).trans ?_
    refine (o7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact bR_eq m c t _ r k.val
  exact e y

theorem emb8 (t : Fin grid0.N) (r : Fin 512) (k : Fin 512) : ((cfg0.win 8).blk t).view.emb (ix2 r k) = ix2 (pR t r) k := by
  unfold pR
  blk_ext [idx t]

theorem out8 (c : Dev nD) (t : Fin grid0.N) : (outsAt0 m c t).2.2.2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr8 (c : Dev nD) : (dats m 0 c).arrAt 8 cfg0.N = gP .f32 2560 (m (c, main_arg0)) (m (c, main_arg1)) := by
  refine (dats m 0 c).arrAt_eq_of_covers 8 _ (by decide +kernel) fun t hf y => ?_
  blk_simp
  rw [after0_8]
  have e : ∀ y : S512x512.Idx, (outsAt0 m c t).2.2.2.1 y = (gP .f32 2560 (m (c, main_arg0)) (m (c, main_arg1))) ((win0_8.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gP .f32 2560 (m (c, main_arg0)) (m (c, main_arg1))) (emb8 t r k).symm)
    refine (congrFun (out8 m c t) (ix2 r k)).trans ?_
    refine (o8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact bp_eq m c t r _
  exact e y

theorem emb9 (t : Fin grid0.N) (r : Fin 512) (k : Fin 512) : ((cfg0.win 9).blk t).view.emb (ix2 r k) = ix2 (pR t r) k := by
  unfold pR
  blk_ext [idx t]

theorem out9 (c : Dev nD) (t : Fin grid0.N) : (outsAt0 m c t).2.2.2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr9 (c : Dev nD) : (dats m 0 c).arrAt 9 cfg0.N = gS 0 (m (c, main_arg0)) (m (c, main_arg1)) := by
  refine (dats m 0 c).arrAt_eq_of_covers 9 _ (by decide +kernel) fun t hf y => ?_
  blk_simp
  rw [after0_9]
  have e : ∀ y : S512x512.Idx, (outsAt0 m c t).2.2.2.2.1 y = (gS 0 (m (c, main_arg0)) (m (c, main_arg1))) ((win0_9.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gS 0 (m (c, main_arg0)) (m (c, main_arg1))) (emb9 t r k).symm)
    refine (congrFun (out9 m c t) (ix2 r k)).trans ?_
    refine (o9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact congrArg (fun z : EReal => z * Ideal.ofBits .f32 0x3E000000#32) (bR_eq m c t _ r k.val)
  exact e y

theorem emb10 (t : Fin grid0.N) (r : Fin 512) (k : Fin 512) : ((cfg0.win 10).blk t).view.emb (ix2 r k) = ix2 (pR t r) k := by
  unfold pR
  blk_ext [idx t]

theorem out10 (c : Dev nD) (t : Fin grid0.N) : (outsAt0 m c t).2.2.2.2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr10 (c : Dev nD) : (dats m 0 c).arrAt 10 cfg0.N = gR .bf16 512 (m (c, main_arg0)) (m (c, main_arg1)) := by
  refine (dats m 0 c).arrAt_eq_of_covers 10 _ (by decide +kernel) fun t hf y => ?_
  blk_simp
  rw [after0_10]
  have e : ∀ y : S512x512.Idx, (outsAt0 m c t).2.2.2.2.2.1 y = (gR .bf16 512 (m (c, main_arg0)) (m (c, main_arg1))) ((win0_10.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gR .bf16 512 (m (c, main_arg0)) (m (c, main_arg1))) (emb10 t r k).symm)
    refine (congrFun (out10 m c t) (ix2 r k)).trans ?_
    refine (o10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact bR_eq m c t _ r k.val
  exact e y

theorem emb11 (t : Fin grid0.N) (r : Fin 512) (k : Fin 512) : ((cfg0.win 11).blk t).view.emb (ix2 r k) = ix2 (pR t r) k := by
  unfold pR
  blk_ext [idx t]

theorem out11 (c : Dev nD) (t : Fin grid0.N) : (outsAt0 m c t).2.2.2.2.2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr11 (c : Dev nD) : (dats m 0 c).arrAt 11 cfg0.N = gP .bf16 1024 (m (c, main_arg0)) (m (c, main_arg1)) := by
  refine (dats m 0 c).arrAt_eq_of_covers 11 _ (by decide +kernel) fun t hf y => ?_
  blk_simp
  rw [after0_11]
  have e : ∀ y : S512x512.Idx, (outsAt0 m c t).2.2.2.2.2.2.1 y = (gP .bf16 1024 (m (c, main_arg0)) (m (c, main_arg1))) ((win0_11.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gP .bf16 1024 (m (c, main_arg0)) (m (c, main_arg1))) (emb11 t r k).symm)
    refine (congrFun (out11 m c t) (ix2 r k)).trans ?_
    refine (o11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact bp_eq m c t r _
  exact e y

theorem emb12 (t : Fin grid0.N) (r : Fin 512) (k : Fin 512) : ((cfg0.win 12).blk t).view.emb (ix2 r k) = ix2 (pR t r) k := by
  unfold pR
  blk_ext [idx t]

theorem out12 (c : Dev nD) (t : Fin grid0.N) : (outsAt0 m c t).2.2.2.2.2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr12 (c : Dev nD) : (dats m 0 c).arrAt 12 cfg0.N = gS 1536 (m (c, main_arg0)) (m (c, main_arg1)) := by
  refine (dats m 0 c).arrAt_eq_of_covers 12 _ (by decide +kernel) fun t hf y => ?_
  blk_simp
  rw [after0_12]
  have e : ∀ y : S512x512.Idx, (outsAt0 m c t).2.2.2.2.2.2.2.1 y = (gS 1536 (m (c, main_arg0)) (m (c, main_arg1))) ((win0_12.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gS 1536 (m (c, main_arg0)) (m (c, main_arg1))) (emb12 t r k).symm)
    refine (congrFun (out12 m c t) (ix2 r k)).trans ?_
    refine (o12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact congrArg (fun z : EReal => z * Ideal.ofBits .f32 0x3E000000#32) (bR_eq m c t _ r k.val)
  exact e y

theorem emb13 (t : Fin grid0.N) (r : Fin 512) (k : Fin 512) : ((cfg0.win 13).blk t).view.emb (ix2 r k) = ix2 (pR t r) k := by
  unfold pR
  blk_ext [idx t]

theorem out13 (c : Dev nD) (t : Fin grid0.N) : (outsAt0 m c t).2.2.2.2.2.2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr13 (c : Dev nD) : (dats m 0 c).arrAt 13 cfg0.N = gR .bf16 2048 (m (c, main_arg0)) (m (c, main_arg1)) := by
  refine (dats m 0 c).arrAt_eq_of_covers 13 _ (by decide +kernel) fun t hf y => ?_
  blk_simp
  rw [after0_13]
  have e : ∀ y : S512x512.Idx, (outsAt0 m c t).2.2.2.2.2.2.2.2.1 y = (gR .bf16 2048 (m (c, main_arg0)) (m (c, main_arg1))) ((win0_13.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gR .bf16 2048 (m (c, main_arg0)) (m (c, main_arg1))) (emb13 t r k).symm)
    refine (congrFun (out13 m c t) (ix2 r k)).trans ?_
    refine (o13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact bR_eq m c t _ r k.val
  exact e y

theorem emb14 (t : Fin grid0.N) (r : Fin 512) (k : Fin 512) : ((cfg0.win 14).blk t).view.emb (ix2 r k) = ix2 (pR t r) k := by
  unfold pR
  blk_ext [idx t]

theorem out14 (c : Dev nD) (t : Fin grid0.N) : (outsAt0 m c t).2.2.2.2.2.2.2.2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr14 (c : Dev nD) : (dats m 0 c).arrAt 14 cfg0.N = gP .bf16 2560 (m (c, main_arg0)) (m (c, main_arg1)) := by
  refine (dats m 0 c).arrAt_eq_of_covers 14 _ (by decide +kernel) fun t hf y => ?_
  blk_simp
  rw [after0_14]
  have e : ∀ y : S512x512.Idx, (outsAt0 m c t).2.2.2.2.2.2.2.2.2.1 y = (gP .bf16 2560 (m (c, main_arg0)) (m (c, main_arg1))) ((win0_14.blk t).view.emb y) := fun y => by
    obtain ⟨r, k, rfl⟩ : ∃ (r : Fin 512) (k : Fin 512), y = ix2 r k := ⟨y 0, y 1, eq_ix2 (n0 := 512) (n1 := 512) y⟩
    refine Eq.trans ?_ (congrArg (gP .bf16 2560 (m (c, main_arg0)) (m (c, main_arg1))) (emb14 t r k).symm)
    refine (congrFun (out14 m c t) (ix2 r k)).trans ?_
    refine (o14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact bp_eq m c t r _
  exact e y

theorem emb15 (t : Fin grid0.N) (r : Fin 512) (k : Fin 1024) : ((cfg0.win 15).blk t).view.emb (ix2 r k) = ix2 (pR t r) k := by
  unfold pR
  blk_ext [idx t]

theorem out15 (c : Dev nD) (t : Fin grid0.N) : (outsAt0 m c t).2.2.2.2.2.2.2.2.2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr15 (c : Dev nD) : (dats m 0 c).arrAt 15 cfg0.N = gG 3072 (m (c, main_arg0)) (m (c, main_arg1)) := by
  refine (dats m 0 c).arrAt_eq_of_covers 15 _ (by decide +kernel) fun t hf y => ?_
  blk_simp
  rw [after0_15]
  have e : ∀ y : S512x1024.Idx, (outsAt0 m c t).2.2.2.2.2.2.2.2.2.2.1 y = (gG 3072 (m (c, main_arg0)) (m (c, main_arg1))) ((win0_15.blk t).view.emb y) := fun y => by
    obtain ⟨r, k, rfl⟩ : ∃ (r : Fin 512) (k : Fin 1024), y = ix2 r k := ⟨y 0, y 1, eq_ix2 (n0 := 512) (n1 := 1024) y⟩
    refine Eq.trans ?_ (congrArg (gG 3072 (m (c, main_arg0)) (m (c, main_arg1))) (emb15 t r k).symm)
    refine (congrFun (out15 m c t) (ix2 r k)).trans ?_
    refine (o15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact congrArg Ideal.logistic (bp_eq m c t r _)
  exact e y

theorem emb16 (t : Fin grid0.N) (r : Fin 512) (k : Fin 1024) : ((cfg0.win 16).blk t).view.emb (ix2 r k) = ix2 (pR t r) k := by
  unfold pR
  blk_ext [idx t]

theorem out16 (c : Dev nD) (t : Fin grid0.N) : (outsAt0 m c t).2.2.2.2.2.2.2.2.2.2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr16 (c : Dev nD) : (dats m 0 c).arrAt 16 cfg0.N = gG 4096 (m (c, main_arg0)) (m (c, main_arg1)) := by
  refine (dats m 0 c).arrAt_eq_of_covers 16 _ (by decide +kernel) fun t hf y => ?_
  blk_simp
  rw [after0_16]
  have e : ∀ y : S512x1024.Idx, (outsAt0 m c t).2.2.2.2.2.2.2.2.2.2.2.1 y = (gG 4096 (m (c, main_arg0)) (m (c, main_arg1))) ((win0_16.blk t).view.emb y) := fun y => by
    obtain ⟨r, k, rfl⟩ : ∃ (r : Fin 512) (k : Fin 1024), y = ix2 r k := ⟨y 0, y 1, eq_ix2 (n0 := 512) (n1 := 1024) y⟩
    refine Eq.trans ?_ (congrArg (gG 4096 (m (c, main_arg0)) (m (c, main_arg1))) (emb16 t r k).symm)
    refine (congrFun (out16 m c t) (ix2 r k)).trans ?_
    refine (o16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix2 r k)).trans ?_
    exact congrArg Ideal.logistic (bp_eq m c t r _)
  exact e y

/-- A block of 256 rows. -/
def pM (t : Fin grid0.N) (n : Fin 2) : Fin 256 := ⟨t.val * 2 + n.val, by have := ltN t; omega⟩

theorem emb17 (t : Fin grid0.N) (n : Fin 2) (k : Fin 512) : ((cfg0.win 17).blk t).view.emb (ix3 n 0 k) = ix3 (pM t n) 0 k := by
  unfold pM
  blk_ext [idx t]

theorem div256 (x : EReal) : x * Ideal.ofBits .f32 0x3B800000#32 = Ideal.div x (Ideal.ofBits .f32 0x43800000#32) := by
  have a : Ideal.ofBits .f32 0x3B800000#32 = (((1 : ℝ) / 256 : ℝ) : EReal) := by
    unfold Ideal.ofBits
    simp [Ideal.ieee]
    rw [← EReal.coe_mul]
    norm_num
  have b : Ideal.ofBits .f32 0x43800000#32 = ((256 : ℝ) : EReal) := by
    unfold Ideal.ofBits
    simp [Ideal.ieee]
    rw [← EReal.coe_mul]
    norm_num
  rw [a, b]
  unfold Ideal.div
  rw [if_neg (by norm_num)]
  refine congrArg (fun z : EReal => x * z) ?_
  rw [← EReal.coe_inv]
  norm_num

theorem out17 (c : Dev nD) (t : Fin grid0.N) : (outsAt0 m c t).2.2.2.2.2.2.2.2.2.2.2.2 = out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) := by
  simp only [outsAt0]

theorem arr17 (c : Dev nD) : (dats m 0 c).arrAt 17 cfg0.N = gM (m (c, main_arg0)) (m (c, main_arg1)) := by
  refine (dats m 0 c).arrAt_eq_of_covers 17 _ (by decide +kernel) fun t hf y => ?_
  blk_simp
  rw [after0_17]
  have e : ∀ y : S2x1x512.Idx, (outsAt0 m c t).2.2.2.2.2.2.2.2.2.2.2.2 y = (gM (m (c, main_arg0)) (m (c, main_arg1))) ((win0_17.blk t).view.emb y) := fun y => by
    obtain ⟨n, k, rfl⟩ : ∃ (n : Fin 2) (k : Fin 512), y = ix3 n 0 k := ⟨y 0, y 2,
      (eq_ix3 (n0 := 2) (n1 := 1) (n2 := 512) y).trans (congrArg (fun a : Fin 1 => ix3 (y 0) a (y 2)) (Subsingleton.elim (α := Fin 1) (y 1) 0))⟩
    refine Eq.trans ?_ (congrArg (gM (m (c, main_arg0)) (m (c, main_arg1))) (emb17 t n k).symm)
    refine (congrFun (out17 m c t) (ix3 n 0 k)).trans ?_
    refine (o17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (ix3 n 0 k)).trans ?_
    refine Eq.trans (div256 _) ?_
    refine congrArg (fun s => Ideal.div s (Ideal.ofBits .f32 0x43800000#32)) (Finset.sum_congr rfl fun z _ => ?_)
    refine (bR_eq m c t 2048 (brow n z) k.val).trans ?_
    show atR 2048 _ _ (pR t (brow n z)) k.val = atR 2048 _ _ (mrow (pM t n) z) k.val
    rw [show pR t (brow n z) = mrow (pM t n) z from Fin.ext (by
      show t.val * 512 + (n.val * 256 + z.val) = (t.val * 2 + n.val) * 256 + z.val
      omega)]
  exact e y

end Cert.ProjT

end
-- ==== Proof.Proj.RefAt.lean ====
/-
  The reference's results, each read at an index: the projections, the rotation of a head's first sixteen lanes, the
  gates and the means.
-/
module

public import proofs.«01_k».proof.Proof.Gen.Reference2Ideal.Run
public import proofs.«01_k».proof.Proof.Proj.Common
public import Idealize.ShloMosaic.Lib.Pointwise

@[expose] public section

set_option maxRecDepth 16384

noncomputable section

namespace Cert.ProjR

open Cert.Reference2Ideal Cert.Reference2Ideal.Gen Cert.Reference2Ideal.Value
open Idealize.ShloMosaic Idealize.ShloMosaic.TcCoe
open Cert.ProjT (ang cosA sinA)

/-- The rows against the weights. -/
def PJ (x : FVec Ideal S8x8192x1024 .f32) (w : FVec Ideal S1x1024x5120 .f32) : FVec Ideal S8x8192x5120 .f32 :=
  Host.dotGeneral dot_S8x8192x1024_S1024x5120_S8x8192x5120_2_0_01_1_n_n none x (shapeCast _ w shapeCasts_S1x1024x5120_S1024x5120)
/-- The angles, their cosines and their sines. -/
def ANG : FVec Ideal S8192x8 .f32 :=
  mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))
def CS : FVec Ideal S8192x1x8 .f32 := broadcastInDim S8192x1x8 ![0, 2] bcast_S8192x8_S8192x1x8_0_2 (Host.cos ANG)
def SN : FVec Ideal S8192x1x8 .f32 := broadcastInDim S8192x1x8 ![0, 2] bcast_S8192x8_S8192x1x8_0_2 (Host.sin ANG)
/-- The rotation of the heads. -/
def RP (v : FVec Ideal S8x8192x8x64 .f32) : FVec Ideal S8x8192x8x64 .f32 :=
  (concatenate S8x8192x8x64 3 [⟨S8x8192x8x8, ((subf (mulf (extractStridedSlice S8x8192x8x8 ![0, 0, 0, 0] v slices_S8x8192x8x64_S8x8192x8x8_0_0_0_0) (broadcastInDim S8x8192x8x8 ![0, 1, 2, 3] bcast_S1x8192x1x8_S8x8192x8x8_0_1_2_3 (broadcastInDim S1x8192x1x8 ![1, 2, 3] bcast_S8192x1x8_S1x8192x1x8_1_2_3 CS))) (mulf (extractStridedSlice S8x8192x8x8 ![0, 0, 0, 8] v slices_S8x8192x8x64_S8x8192x8x8_0_0_0_8) (broadcastInDim S8x8192x8x8 ![0, 1, 2, 3] bcast_S1x8192x1x8_S8x8192x8x8_0_1_2_3 (broadcastInDim S1x8192x1x8 ![1, 2, 3] bcast_S8192x1x8_S1x8192x1x8_1_2_3 SN)))) : (⟨S8x8192x8x8, .f32⟩ : BufTy).Contents (Elt Ideal))⟩, ⟨S8x8192x8x8, ((addf (mulf (extractStridedSlice S8x8192x8x8 ![0, 0, 0, 8] v slices_S8x8192x8x64_S8x8192x8x8_0_0_0_8) (broadcastInDim S8x8192x8x8 ![0, 1, 2, 3] bcast_S1x8192x1x8_S8x8192x8x8_0_1_2_3 (broadcastInDim S1x8192x1x8 ![1, 2, 3] bcast_S8192x1x8_S1x8192x1x8_1_2_3 CS))) (mulf (extractStridedSlice S8x8192x8x8 ![0, 0, 0, 0] v slices_S8x8192x8x64_S8x8192x8x8_0_0_0_0) (broadcastInDim S8x8192x8x8 ![0, 1, 2, 3] bcast_S1x8192x1x8_S8x8192x8x8_0_1_2_3 (broadcastInDim S1x8192x1x8 ![1, 2, 3] bcast_S8192x1x8_S1x8192x1x8_1_2_3 SN)))) : (⟨S8x8192x8x8, .f32⟩ : BufTy).Contents (Elt Ideal))⟩, ⟨S8x8192x8x48, ((extractStridedSlice S8x8192x8x48 ![0, 0, 0, 16] v slices_S8x8192x8x64_S8x8192x8x48_0_0_0_16) : (⟨S8x8192x8x48, .f32⟩ : BufTy).Contents (Elt Ideal))⟩] concatenates_S8x8192x8x8_S8x8192x8x8_S8x8192x8x48_S8x8192x8x64_d3 : (⟨S8x8192x8x64, .f32⟩ : BufTy).Contents (Elt Ideal))

/-- The heads of 512 columns of the projections. -/
def HD (o : ℕ) (h : S8x8192x5120.Slices ![0, 0, o] S8x8192x512) (p : FVec Ideal S8x8192x5120 .f32) : FVec Ideal S8x8192x8x64 .f32 :=
  shapeCast _ (extractStridedSlice S8x8192x512 ![0, 0, o] p h) shapeCasts_S8x8192x512_S8x8192x8x64

theorem PJ_at (x w) (b : Fin 8) (l : Fin 8192) (e : Fin 5120) : PJ x w (ix3 b l e) = ∑ k : Fin 1024, x (ix3 b l k) * w (ix3 0 k e) := by
  pointwise [PJ]

theorem CS_at (l : Fin 8192) (j : Fin 8) : CS (ix3 l 0 j) = cosA l j := by
  pointwise [CS, ANG]
  rfl

theorem SN_at (l : Fin 8192) (j : Fin 8) : SN (ix3 l 0 j) = sinA l j := by
  pointwise [SN, ANG]
  rfl

theorem HD_at (o : ℕ) (h) (p) (b : Fin 8) (l : Fin 8192) (g : Fin 8) (d : Fin 64) (ho : o + 512 ≤ 5120) : HD o h p (ix4 b l g d) = p (ix3 b l ⟨o + (g.val * 64 + d.val), by omega⟩) := by
  pointwise [HD]

theorem RP_at (v) (b : Fin 8) (l : Fin 8192) (g : Fin 8) (d : Fin 64) : RP v (ix4 b l g d) =
    if h : d.val < 8 then v (ix4 b l g d) * cosA l ⟨d.val, h⟩ - v (ix4 b l g ⟨8 + d.val, by omega⟩) * sinA l ⟨d.val, h⟩
    else if h : d.val < 16 then v (ix4 b l g d) * cosA l ⟨d.val - 8, by omega⟩ + v (ix4 b l g ⟨d.val - 8, by omega⟩) * sinA l ⟨d.val - 8, by omega⟩
    else v (ix4 b l g d) := by
  pointwise [RP]
  by_cases h1 : d.val < 8
  · rw [dif_pos h1, dif_pos h1, CS_at, SN_at]
  · rw [dif_neg h1, dif_neg h1]
    by_cases h2 : d.val < 16
    · rw [dif_pos (show d.val - 8 < 8 by omega), dif_pos h2, CS_at, SN_at]
      rw [show (⟨8 + (d.val - 8), by omega⟩ : Fin 64) = d from Fin.ext (by show 8 + (d.val - 8) = d.val; omega)]
    · rw [dif_neg (show ¬ d.val - 8 < 8 by omega), dif_neg h2]
      rw [show (⟨16 + (d.val - 8 - 8), by omega⟩ : Fin 64) = d from Fin.ext (by show 16 + (d.val - 8 - 8) = d.val; omega)]

theorem r86 (V0) : res_main_v86 (F := Ideal) V0 = RP (HD 512 slices_S8x8192x5120_S8x8192x512_0_0_512 (PJ (V0 (Proc.devRef .tc main_arg0)) (V0 (Proc.devRef .tc main_arg1)))) := by
  rfl
theorem r162 (V0) : res_main_v162 (F := Ideal) V0 = RP (HD 2048 slices_S8x8192x5120_S8x8192x512_0_0_2048 (PJ (V0 (Proc.devRef .tc main_arg0)) (V0 (Proc.devRef .tc main_arg1)))) := by
  rfl
theorem r5 (V0) : res_main_v5 (F := Ideal) V0 = extractStridedSlice S8x8192x512 ![0, 0, 1024] (PJ (V0 (Proc.devRef .tc main_arg0)) (V0 (Proc.devRef .tc main_arg1))) slices_S8x8192x5120_S8x8192x512_0_0_1024 := by
  rfl
theorem r8 (V0) : res_main_v8 (F := Ideal) V0 = extractStridedSlice S8x8192x512 ![0, 0, 2560] (PJ (V0 (Proc.devRef .tc main_arg0)) (V0 (Proc.devRef .tc main_arg1))) slices_S8x8192x5120_S8x8192x512_0_0_2560 := by
  rfl

open Cert.ProjT in
/-- The rotated heads by row and column. -/
theorem RH_at (o : ℕ) (h) (x w) (ho : o + 512 ≤ 5120) (b : Fin 8) (l : Fin 8192) (g : Fin 8) (d : Fin 64) (R : Fin 65536) (hb : b = rb R) (hl : l = rl R) :
    RP (HD o h (PJ x w)) (ix4 b l g d) = atR o x w R (g.val * 64 + d.val) := by
  have P : ∀ d' : Fin 64, HD o h (PJ x w) (ix4 b l g d') = PP x w R (o + (g.val * 64 + d'.val)) := by
    intro d'
    rw [HD_at o h _ b l g d' ho, PJ_at, hb, hl, col_eq]
    rfl
  have hm : (g.val * 64 + d.val) % 64 = d.val := by omega
  rw [RP_at]
  unfold atR rope
  simp only [P, hm]
  subst hl
  by_cases h1 : d.val < 8
  · rw [dif_pos h1, dif_pos h1, show o + (g.val * 64 + (8 + d.val)) = o + (g.val * 64 + d.val + 8) from by omega]
  · rw [dif_neg h1, dif_neg h1]
    by_cases h2 : d.val < 16
    · rw [dif_pos h2, dif_pos h2, show o + (g.val * 64 + (d.val - 8)) = o + (g.val * 64 + d.val - 8) from by omega]
    · rw [dif_neg h2, dif_neg h2]

open Cert.ProjT in
theorem rows_at (o : ℕ) (h) (x w) (ho : o + 512 ≤ 5120) :
    (shapeCast S65536x512 (RP (HD o h (PJ x w))) shapeCasts_S8x8192x8x64_S65536x512 : FVec Ideal S65536x512 .f32) = gR .f32 o x w := by
  funext y
  obtain ⟨R, E, rfl⟩ : ∃ (R : Fin 65536) (E : Fin 512), y = ix2 R E := ⟨y 0, y 1, eq_ix2 (n0 := 65536) (n1 := 512) y⟩
  pointwise
  refine (RH_at o h x w ho _ _ _ _ R rfl rfl).trans ?_
  show atR o x w R (E.val / 64 * 64 + E.val % 64) = atR o x w R E.val
  rw [show E.val / 64 * 64 + E.val % 64 = E.val from by omega]

open Cert.ProjT in
theorem scaled_at (o : ℕ) (h) (x w) (ho : o + 512 ≤ 5120) :
    (truncf .bf16 (shapeCast S65536x512 (mulf (RP (HD o h (PJ x w))) (broadcastInDim S8x8192x8x64 ![] bcast_S_S8x8192x8x64 (constant S_ .f32 0x3E000000#32))) shapeCasts_S8x8192x8x64_S65536x512) bitsLt_bf16_f32 : FVec Ideal S65536x512 .bf16) = gS o x w := by
  funext y
  obtain ⟨R, E, rfl⟩ : ∃ (R : Fin 65536) (E : Fin 512), y = ix2 R E := ⟨y 0, y 1, eq_ix2 (n0 := 65536) (n1 := 512) y⟩
  pointwise
  refine congrArg (fun z : EReal => z * Ideal.ofBits .f32 0x3E000000#32) ?_
  refine (RH_at o h x w ho _ _ _ _ R rfl rfl).trans ?_
  show atR o x w R (E.val / 64 * 64 + E.val % 64) = atR o x w R E.val
  rw [show E.val / 64 * 64 + E.val % 64 = E.val from by omega]

open Cert.ProjT in
theorem cols_at (o : ℕ) (h) (x w) (ho : o + 512 ≤ 5120) :
    (shapeCast S65536x512 (extractStridedSlice S8x8192x512 ![0, 0, o] (PJ x w) h) shapeCasts_S8x8192x512_S65536x512 : FVec Ideal S65536x512 .f32) = gP .f32 o x w := by
  funext y
  obtain ⟨R, E, rfl⟩ : ∃ (R : Fin 65536) (E : Fin 512), y = ix2 R E := ⟨y 0, y 1, eq_ix2 (n0 := 65536) (n1 := 512) y⟩
  pointwise
  rw [PJ_at]
  show _ = PP x w R (o + E.val)
  unfold PP PX
  rw [← col_eq (o + E.val) (by omega)]
  rfl

open Cert.ProjT in
theorem gates_at (o : ℕ) (h) (x w) (ho : o + 1024 ≤ 5120) :
    (Host.divf (broadcastInDim S65536x1024 ![] bcast_S_S65536x1024 (constant S_ .f32 0x3F800000#32)) (addf (broadcastInDim S65536x1024 ![] bcast_S_S65536x1024 (constant S_ .f32 0x3F800000#32)) (Host.exp (Host.negf (shapeCast _ (extractStridedSlice S8x8192x1024 ![0, 0, o] (PJ x w) h) shapeCasts_S8x8192x1024_S65536x1024)))) : FVec Ideal S65536x1024 .f32) = gG o x w := by
  funext y
  obtain ⟨R, E, rfl⟩ : ∃ (R : Fin 65536) (E : Fin 1024), y = ix2 R E := ⟨y 0, y 1, eq_ix2 (n0 := 65536) (n1 := 1024) y⟩
  pointwise
  rw [PJ_at]
  show _ = Ideal.logistic (PP x w R (o + E.val))
  unfold PP PX Ideal.logistic
  rw [← col_eq (o + E.val) (by omega)]
  rfl

open Cert.ProjT in
theorem means_at (h) (x w) :
    (Host.divf (Host.reduceAdd (shapeCast _ (RP (HD 2048 h (PJ x w))) shapeCasts_S8x8192x8x64_S256x256x1x512) (constant S_ .f32 0x00000000#32) reducesTo_S256x256x1x512_S256x1x512_d1 h_S_) (broadcastInDim S256x1x512 ![] bcast_S_S256x1x512 (constant S_ .f32 0x43800000#32)) : FVec Ideal S256x1x512 .f32) = gM x w := by
  funext y
  obtain ⟨R, E, rfl⟩ : ∃ (R : Fin 256) (E : Fin 512), y = ix3 R 0 E := ⟨y 0, y 2,
    (eq_ix3 (n0 := 256) (n1 := 1) (n2 := 512) y).trans (congrArg (fun a : Fin 1 => ix3 (y 0) a (y 2)) (Subsingleton.elim (α := Fin 1) (y 1) 0))⟩
  pointwise
  show _ = Ideal.div (∑ z : Fin 256, atR 2048 x w (mrow R z) E.val) _
  congr 1
  refine Finset.sum_congr rfl fun z _ => ?_
  refine (RH_at 2048 h x w (by omega) _ _ _ _ (mrow R z) (Fin.ext ?_) (Fin.ext ?_)).trans ?_
  · show R.val / 32 = (R.val * 256 + z.val) / 8192
    omega
  · show R.val % 32 * 256 + z.val = (R.val * 256 + z.val) % 8192
    omega
  · show atR 2048 x w _ (E.val / 64 * 64 + E.val % 64) = _
    rw [show E.val / 64 * 64 + E.val % 64 = E.val from by omega]

end Cert.ProjR

end
-- ==== Proof.Proj.Run.lean ====
/-
  The projections' results after the run of the kernel and after the run of the reference.
-/
module

public import proofs.«01_k».proof.Proof.Proj.Arr
public import proofs.«01_k».proof.Proof.Proj.RefAt
public import proofs.«01_k».proof.Proof.Gen.Kernel2Ideal.Value

@[expose] public section

set_option maxRecDepth 16384

noncomputable section

namespace Cert.ProjT

open Idealize.ShloMosaic Idealize.ShloMosaic.TcCoe Idealize.SL.Sem

theorem kernel_run (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ fun r => ∀ c : Dev Cert.Kernel2Ideal.nD,
      r.2.mem ((c.tc : Thread Cert.Kernel2Ideal.nD Cert.Kernel2Ideal.τ).loc Cert.Kernel2Ideal.main_v61_0) = gR .f32 512 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_1) = gP .f32 1024 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_2) = gR .f32 2048 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_3) = gP .f32 2560 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_4) = gS 0 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_5) = gR .bf16 512 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_6) = gP .bf16 1024 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_7) = gS 1536 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_8) = gR .bf16 2048 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_9) = gP .bf16 2560 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_10) = gG 3072 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_11) = gG 4096 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v61_12) = gM (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1) :=
  (θ_run _ _ _).mono (fun r h c => ⟨(h c).1.trans (arr5 m c), (h c).2.1.trans (arr6 m c), (h c).2.2.1.trans (arr7 m c), (h c).2.2.2.1.trans (arr8 m c), (h c).2.2.2.2.1.trans (arr9 m c), (h c).2.2.2.2.2.1.trans (arr10 m c), (h c).2.2.2.2.2.2.1.trans (arr11 m c), (h c).2.2.2.2.2.2.2.1.trans (arr12 m c), (h c).2.2.2.2.2.2.2.2.1.trans (arr13 m c), (h c).2.2.2.2.2.2.2.2.2.1.trans (arr14 m c), (h c).2.2.2.2.2.2.2.2.2.2.1.trans (arr15 m c), (h c).2.2.2.2.2.2.2.2.2.2.2.1.trans (arr16 m c), (h c).2.2.2.2.2.2.2.2.2.2.2.2.1.trans (arr17 m c), (h c).2.2.2.2.2.2.2.2.2.2.2.2.2⟩) (Cert.Kernel2Ideal.Value.run_blocks m g)

theorem reference_run (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ fun r => ∀ c : Dev Cert.Reference2Ideal.nD,
      r.2.mem ((c.tc : Thread Cert.Reference2Ideal.nD Cert.Reference2Ideal.τ).loc Cert.Reference2Ideal.main_v167) = gR .f32 512 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v168) = gP .f32 1024 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v169) = gR .f32 2048 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v170) = gP .f32 2560 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v172) = gS 0 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v174) = gR .bf16 512 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v176) = gP .bf16 1024 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v178) = gS 1536 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v180) = gR .bf16 2048 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v182) = gP .bf16 2560 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v189) = gG 3072 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v196) = gG 4096 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v166) = gM (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1) := by
  refine (θ_run _ _ _).mono (fun r h c => ?_) (Cert.Reference2Ideal.Value.run m g)
  obtain ⟨h0, h1, h2, h3, h4, h5, h6, h7, h8, h9, h10, h11, h12, ha⟩ := h c
  refine ⟨?_, ?_, ?_, ?_, ?_, ?_, ?_, ?_, ?_, ?_, ?_, ?_, ?_, ha⟩
  · refine h0.trans ?_
    exact Cert.ProjR.rows_at 512 Cert.Reference2Ideal.Gen.slices_S8x8192x5120_S8x8192x512_0_0_512 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h1.trans ?_
    exact Cert.ProjR.cols_at 1024 Cert.Reference2Ideal.Gen.slices_S8x8192x5120_S8x8192x512_0_0_1024 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h2.trans ?_
    exact Cert.ProjR.rows_at 2048 Cert.Reference2Ideal.Gen.slices_S8x8192x5120_S8x8192x512_0_0_2048 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h3.trans ?_
    exact Cert.ProjR.cols_at 2560 Cert.Reference2Ideal.Gen.slices_S8x8192x5120_S8x8192x512_0_0_2560 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h4.trans ?_
    exact Cert.ProjR.scaled_at 0 Cert.Reference2Ideal.Gen.slices_S8x8192x5120_S8x8192x512_0_0_0 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h5.trans ?_
    exact Cert.ProjR.rows_at 512 Cert.Reference2Ideal.Gen.slices_S8x8192x5120_S8x8192x512_0_0_512 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h6.trans ?_
    exact Cert.ProjR.cols_at 1024 Cert.Reference2Ideal.Gen.slices_S8x8192x5120_S8x8192x512_0_0_1024 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h7.trans ?_
    exact Cert.ProjR.scaled_at 1536 Cert.Reference2Ideal.Gen.slices_S8x8192x5120_S8x8192x512_0_0_1536 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h8.trans ?_
    exact Cert.ProjR.rows_at 2048 Cert.Reference2Ideal.Gen.slices_S8x8192x5120_S8x8192x512_0_0_2048 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h9.trans ?_
    exact Cert.ProjR.cols_at 2560 Cert.Reference2Ideal.Gen.slices_S8x8192x5120_S8x8192x512_0_0_2560 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h10.trans ?_
    exact Cert.ProjR.gates_at 3072 Cert.Reference2Ideal.Gen.slices_S8x8192x5120_S8x8192x1024_0_0_3072 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h11.trans ?_
    exact Cert.ProjR.gates_at 4096 Cert.Reference2Ideal.Gen.slices_S8x8192x5120_S8x8192x1024_0_0_4096 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (by omega)
  · refine h12.trans ?_
    exact Cert.ProjR.means_at Cert.Reference2Ideal.Gen.slices_S8x8192x5120_S8x8192x512_0_0_2048 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))

end Cert.ProjT

end
-- ==== Proof.ProjS.Common.lean ====
/-
  The samples' projections by row and column: 128 samples of four positions each, after 8192 positions before them.
-/
module

public import proofs.«01_k».proof.Proof.Proj.Common

@[expose] public section

set_option maxRecDepth 16384

noncomputable section

namespace Cert.ProjS

open Cert.ProjT
open Idealize.ShloMosaic Idealize.ShloMosaic.TcCoe

/-- The sample and the step of a row, and its position. -/
def sb (R : Fin 512) : Fin 128 := ⟨R.val / 4, by omega⟩
def sl (R : Fin 512) : Fin 4 := ⟨R.val % 4, Nat.mod_lt _ (by decide)⟩
def pos (l : Fin 4) : ℕ := 8192 + l.val

abbrev XS := FVec Ideal ⟨3, ![128, 4, 1024]⟩ .f32

/-- A row against a column. -/
def PS (x : XS) (w : WT) (R : Fin 512) (n : ℕ) : EReal := PX (fun k => x (ix3 (sb R) (sl R) k)) w n
def atS (o : ℕ) (x : XS) (w : WT) (R : Fin 512) (e : ℕ) : EReal := rope (fun n => PS x w R (o + n)) (pos (sl R)) e

/-- The rotated columns, the rotated and scaled columns, the columns and the gates. -/
def hR (ft : FTy) (o : ℕ) (x : XS) (w : WT) : FVec Ideal ⟨2, ![512, 512]⟩ ft := fun y => atS o x w (y 0) (y 1).val
def hS (o : ℕ) (x : XS) (w : WT) : FVec Ideal ⟨2, ![512, 512]⟩ .bf16 := fun y => atS o x w (y 0) (y 1).val * Ideal.ofBits .f32 0x3E000000#32
def hP (ft : FTy) (o : ℕ) (x : XS) (w : WT) : FVec Ideal ⟨2, ![512, 512]⟩ ft := fun y => PS x w (y 0) (o + (y 1).val)
def hG (o : ℕ) (x : XS) (w : WT) : FVec Ideal ⟨2, ![512, 1024]⟩ .f32 := fun y => Ideal.logistic (PS x w (y 0) (o + (y 1).val))

end Cert.ProjS

end
-- ==== Proof.ProjS.Tab.lean ====
/-
  The rotary embedding's tables of the samples, element by element.
-/
module

public import proofs.«01_k».proof.Proof.ProjS.Common
public import proofs.«01_k».proof.Proof.Gen.Kernel3Ideal.Value
public import Idealize.ShloMosaic.Lib.StableHlo.ReadAt

@[expose] public section

set_option maxRecDepth 16384

noncomputable section

namespace Cert.ProjS

open Cert.Kernel3Ideal Cert.Kernel3Ideal.Gen
open Cert.ProjT (ang cosA sinA fr sel one_eq zero_eq)
open Idealize.ShloMosaic Idealize.ShloMosaic.TcCoe Idealize.ShloMosaic.Tactic

variable (m : (ℓ : Loc nD τ sig) → Buf (Elt Ideal) ℓ)

/-- The position of a row: the remainder of its number by four, after 8192. -/
theorem V5 (c : Dev nD) (R : Fin 512) : V m c main_v5 (ix1 R) = BitVec.ofNat 32 (pos (sl R)) := by
  unfold V
  after_reads_at
  revert R
  decide +kernel

/-- The angles of the positions. -/
def ANG (p : IVec S512 32) : FVec Ideal S512x8 .f32 :=
  mulf (broadcastInDim S512x8 ![0, 1] bcast_S512x1_S512x8_0_1 (broadcastInDim S512x1 ![0] bcast_S512_S512x1_0 (sitofp .f32 p))) (broadcastInDim S512x8 ![0, 1] bcast_S1x8_S512x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

theorem ANG_at (p : IVec S512 32) (R : Fin 512) (n : ℕ) (h : p (ix1 R) = BitVec.ofNat 32 n) (j : Fin 8) : ANG p (ix2 R j) = ang n j := by
  pointwise [ANG]
  rw [h]
  rfl

theorem V20' (c : Dev nD) : V m c main_v20 = Host.cos (ANG (V m c main_v5)) := by
  unfold V ANG
  after_reads_at

theorem V21' (c : Dev nD) : V m c main_v21 = Host.sin (ANG (V m c main_v5)) := by
  unfold V ANG
  after_reads_at

theorem V20 (c : Dev nD) (R : Fin 512) (j : Fin 8) : V m c main_v20 (ix2 R j) = cosA (pos (sl R)) j := by
  rw [V20']
  exact congrArg (FloatOps.hostUnary (F := Ideal) HostUnaryOp.cos) (ANG_at _ R _ (V5 m c R) j)

theorem V21 (c : Dev nD) (R : Fin 512) (j : Fin 8) : V m c main_v21 (ix2 R j) = sinA (pos (sl R)) j := by
  rw [V21']
  exact congrArg (FloatOps.hostUnary (F := Ideal) HostUnaryOp.sin) (ANG_at _ R _ (V5 m c R) j)

theorem V33 (c : Dev nD) (j : Fin 128) : V m c main_v33 (ix2 j 0) = BitVec.ofNat 32 (j.val % 8) := by
  unfold V
  after_reads_at
  revert j
  decide +kernel

theorem V44 (c : Dev nD) (j : Fin 128) : V m c main_v44 (ix2 j 0) = BitVec.ofNat 32 (j.val % 8) := by
  unfold V
  after_reads_at
  revert j
  decide +kernel

theorem V60 (c : Dev nD) (j : Fin 128) : V m c main_v60 (ix2 j 0) = BitVec.ofNat 32 (j.val % 8) := by
  unfold V
  after_reads_at
  revert j
  decide +kernel

theorem V27 (c : Dev nD) (j : Fin 128) : V m c main_v27 (ix2 0 j) = if j.val % 64 < 16 then 1#1 else 0#1 := by
  unfold V
  after_reads_at
  revert j
  decide +kernel

theorem V38 (c : Dev nD) (j : Fin 128) : V m c main_v38 (ix2 0 j) = if j.val % 64 < 8 then 1#1 else 0#1 := by
  unfold V
  after_reads_at
  revert j
  decide +kernel

theorem V54 (c : Dev nD) (j : Fin 128) : V m c main_v54 (ix2 0 j) = if 8 ≤ j.val % 64 ∧ j.val % 64 < 16 then 1#1 else 0#1 := by
  unfold V
  after_reads_at
  revert j
  decide +kernel

theorem take {α : Type} (x : S512x8.Idx → α) (ix : IVec S128x1 32) (l : Fin 512) (j : Fin 128) (h : ix (ix2 j 0) = BitVec.ofNat 32 (j.val % 8)) :
    Host.gather gather_S512x8_S128x1_S512x128_0_1_n_n_1_1_5121 x ix (ix2 l j) = x (ix2 l (fr j)) := by
  unfold Host.gather
  congr 1
  funext a
  apply Fin.ext
  match a with
  | ⟨0, _⟩ =>
    show 0 + 0 + l.val = l.val
    omega
  | ⟨1, _⟩ =>
    show min (ix _).toInt.toNat 7 + 0 + 0 = j.val % 8
    have e : ∀ i : S128x1.Idx, i = ix2 j 0 → min (ix i).toInt.toNat 7 + 0 + 0 = j.val % 8 := by
      rintro i rfl
      rw [h]
      clear h
      revert j
      decide +kernel
    apply e
    funext b
    match b with
    | ⟨0, _⟩ => rfl
    | ⟨1, _⟩ => exact Fin.ext rfl

theorem V34 (c : Dev nD) : V m c main_v34 = Host.gather gather_S512x8_S128x1_S512x128_0_1_n_n_1_1_5121 (V m c main_v20) (V m c main_v33) := by
  unfold V
  after_reads_at

theorem V45 (c : Dev nD) : V m c main_v45 = Host.gather gather_S512x8_S128x1_S512x128_0_1_n_n_1_1_5121 (V m c main_v21) (V m c main_v44) := by
  unfold V
  after_reads_at

theorem V61 (c : Dev nD) : V m c main_v61 = Host.gather gather_S512x8_S128x1_S512x128_0_1_n_n_1_1_5121 (V m c main_v21) (V m c main_v60) := by
  unfold V
  after_reads_at

theorem V35' (c : Dev nD) : V m c main_v35 = select (broadcastInDim S512x128 ![0, 1] bcast_S1x128_S512x128_0_1 (V m c main_v27)) (V m c main_v34)
    (broadcastInDim S512x128 ![] bcast_S_S512x128 (id (constant (F := Ideal) S_ .f32 0x3F800000#32))) := by
  unfold V
  after_reads_at

theorem V47' (c : Dev nD) : V m c main_v47 = select (broadcastInDim S512x128 ![0, 1] bcast_S1x128_S512x128_0_1 (V m c main_v38)) (Host.negf (F := Ideal) (V m c main_v45))
    (broadcastInDim S512x128 ![] bcast_S_S512x128 (id (constant (F := Ideal) S_ .f32 0x00000000#32))) := by
  unfold V
  after_reads_at

theorem V62' (c : Dev nD) : V m c main_v62 = select (broadcastInDim S512x128 ![0, 1] bcast_S1x128_S512x128_0_1 (V m c main_v54)) (V m c main_v61)
    (broadcastInDim S512x128 ![] bcast_S_S512x128 (id (constant (F := Ideal) S_ .f32 0x00000000#32))) := by
  unfold V
  after_reads_at

/-- The three tables by lane. -/
theorem V35 (c : Dev nD) (l : Fin 512) (j : Fin 128) : V m c main_v35 (ix2 l j) = (if j.val % 64 < 16 then cosA (pos (sl l)) (fr j) else (1 : EReal)) := by
  rw [V35', V34]
  pointwise
  rw [take _ _ l j (V33 m c j), V20, V27]
  exact (sel _ _).trans (by rw [show (id (constant (F := Ideal) S_ .f32 0x3F800000#32) ix0 : EReal) = 1 from one_eq])

theorem V47 (c : Dev nD) (l : Fin 512) (j : Fin 128) : V m c main_v47 (ix2 l j) = (if j.val % 64 < 8 then -(sinA (pos (sl l)) (fr j)) else (0 : EReal)) := by
  rw [V47', V45]
  pointwise
  rw [take _ _ l j (V44 m c j), V21, V38]
  exact (sel _ _).trans (by rw [show (id (constant (F := Ideal) S_ .f32 0x00000000#32) ix0 : EReal) = 0 from zero_eq])

theorem V62 (c : Dev nD) (l : Fin 512) (j : Fin 128) :
    V m c main_v62 (ix2 l j) = (if 8 ≤ j.val % 64 ∧ j.val % 64 < 16 then sinA (pos (sl l)) (fr j) else (0 : EReal)) := by
  rw [V62', V61]
  pointwise
  rw [take _ _ l j (V60 m c j), V21, V54]
  exact (sel _ _).trans (by rw [show (id (constant (F := Ideal) S_ .f32 0x00000000#32) ix0 : EReal) = 0 from zero_eq])

end Cert.ProjS

end
-- ==== Proof.ProjS.Out.lean ====
/-
  What the grid point leaves in its output windows, read at an index.
-/
module

public import proofs.«01_k».proof.Proof.Proj.Pay
public import proofs.«01_k».proof.Proof.Gen.Kernel3Ideal.Frame

@[expose] public section

set_option maxRecDepth 16384

noncomputable section

namespace Cert.ProjS

open Cert.Kernel3Ideal Cert.Kernel3Ideal.Gen
open Cert.ProjT (col MM PCE bp bR MM_bp PCE_bR emb128 emb1024)
open Idealize.ShloMosaic Idealize.ShloMosaic.TcCoe Idealize.ShloMosaic.Tactic

variable (x0 : Vec Ideal S512x1024 .f32) (x1 : Vec Ideal S1024x5120 .bf16) (x2 x3 x4 : Vec Ideal S512x128 .f32)

/-- A load of the whole of a buffer. -/
theorem ld_all {n0 n1 : ℕ} {e : EltTy} (x : Vec Ideal ⟨2, ![n0, n1]⟩ e) (inb) (k : Fin n0) (j : Fin n1) :
    View.ld x (Rect.unit (s := ⟨2, ![n0, n1]⟩) ![0, 0] ![n0, n1] inb) (ix2 k j) = x (ix2 k j) := by
  show x _ = x _
  congr 1
  funext a
  apply Fin.ext
  match a with
  | ⟨0, _⟩ => show 0 + 1 * k.val = k.val; omega
  | ⟨1, _⟩ => show 0 + 1 * j.val = j.val; omega

abbrev colInb (o : ℕ) : Prop := ∀ a, (![0, o] : Fin 2 → ℕ) a + S1024x512.size a ≤ S1024x5120.size a

theorem ld_col (o : ℕ) (ho : o + 512 ≤ 5120) (inb : colInb o) (k : Fin 1024) (e : Fin 512) :
    View.ld x1 (Rect.unit (s := S1024x5120) ![0, o] S1024x512.size inb) (ix2 k e) = x1 (ix2 k (col (o + e.val))) := by
  show x1 _ = x1 _
  congr 1
  funext a
  apply Fin.ext
  match a with
  | ⟨0, _⟩ => show 0 + 1 * k.val = k.val; omega
  | ⟨1, _⟩ => show o + 1 * e.val = (o + e.val) % 5120; omega

/-- 512 columns of the rows against the weights, and a rotated piece of them. -/
def MC (o : ℕ) (inb : colInb o) : FVec Ideal S512x512 .f32 := MM (View.ld x0 r0_0) (View.ld x1 (Rect.unit (s := S1024x5120) ![0, o] S1024x512.size inb))
def RC (o : ℕ) (inb : colInb o) (oq : ℕ) (h : S512x512.Slices ![0, oq] S512x128) : FVec Ideal S512x128 .f32 :=
  PCE oq h (MC x0 x1 o inb) (View.ld x2 r0_1) (View.ld x3 r0_1) (View.ld x4 r0_1)

theorem MC_at (o : ℕ) (ho : o + 512 ≤ 5120) (inb : colInb o) (r e : Fin 512) : MC x0 x1 o inb (ix2 r e) = bp x0 x1 r (o + e.val) :=
  MM_bp x0 x1 _ _ o (ld_all x0 inb_S512x1024_S512x1024_0_0) (ld_col x1 o ho inb) r e

theorem RC_at (o : ℕ) (ho : o + 512 ≤ 5120) (inb : colInb o) (q : ℕ) (hq4 : q < 4) (h) (r : Fin 512) (j : Fin 128) :
    RC x0 x1 x2 x3 x4 o inb (q * 128) h (ix2 r j) = bR x0 x1 x2 x3 x4 o r (q * 128 + j.val) :=
  PCE_bR x0 x1 x2 x3 x4 _ _ _ _ o (MC_at x0 x1 o ho inb) (ld_all x2 inb_S512x128_S512x128_0_0) (ld_all x3 inb_S512x128_S512x128_0_0)
    (ld_all x4 inb_S512x128_S512x128_0_0) (q * 128) q rfl hq4 h r j

/-- Four pieces of 128 lanes, two of 512 and one of 512, each of a function of the row and the column. -/
theorem four {e : EltTy} (G : Fin 512 → ℕ → Elt Ideal e) (p : (q : ℕ) → S512x512.Slices ![0, q * 128] S512x128 → Vec Ideal S512x128 e)
    (h : ∀ q (_ : q < 4) s (r : Fin 512) (j : Fin 128), p q s (ix2 r j) = G r (q * 128 + j.val)) (y : S512x512.Idx) :
    View.canon (Val := Elt Ideal) [⟨r0_6, p 3 slices_S512x512_o0_384_S512x128⟩, ⟨r0_5, p 2 slices_S512x512_o0_256_S512x128⟩,
      ⟨r0_4, p 1 slices_S512x512_o0_128_S512x128⟩, ⟨r0_3, p 0 slices_S512x512_o0_0_S512x128⟩] y = G (y 0) (y 1).val := by
  have g : ∀ (q : ℕ) (hq : q < 4) (s) (inb) (x : S512x128.Idx), p q s x = G ((Rect.unit (s := S512x512) ![0, q * 128] S512x128.size inb).emb x 0) ((Rect.unit (s := S512x512) ![0, q * 128] S512x128.size inb).emb x 1).val := by
    intro q hq s inb x
    obtain ⟨r, j, rfl⟩ : ∃ (r : Fin 512) (j : Fin 128), x = ix2 r j := ⟨x 0, x 1, eq_ix2 (n0 := 512) (n1 := 128) x⟩
    have e := emb128 (n := 128) (q * 128) inb r j (by omega)
    exact (h q hq s r j).trans (congrArg (fun z : S512x512.Idx => G (z 0) (z 1).val) e.symm)
  refine View.canon_apply_of_pieces (Val := Elt Ideal) (fun y => G (y 0) (y 1).val) _ ?_ y ?_
  swap
  · exact View.cover_of_tiled [⟨r0_6, p 3 slices_S512x512_o0_384_S512x128⟩, ⟨r0_5, p 2 slices_S512x512_o0_256_S512x128⟩,
      ⟨r0_4, p 1 slices_S512x512_o0_128_S512x128⟩, ⟨r0_3, p 0 slices_S512x512_o0_0_S512x128⟩] S512x128.size (by rfl) y
  intro pc hp
  simp only [List.mem_cons, List.mem_nil_iff, or_false] at hp
  rcases hp with hp | hp | hp | hp
  · subst hp; exact g 3 (by omega) _ inb_S512x512_S512x128_0_384
  · subst hp; exact g 2 (by omega) _ inb_S512x512_S512x128_0_256
  · subst hp; exact g 1 (by omega) _ inb_S512x512_S512x128_0_128
  · subst hp; exact g 0 (by omega) _ inb_S512x512_S512x128_0_0

theorem two (G : Fin 512 → ℕ → EReal) (p0 p1 : FVec Ideal S512x512 .f32) (h0 : ∀ r j : Fin 512, p0 (ix2 r j) = G r (0 + j.val)) (h1 : ∀ r j : Fin 512, p1 (ix2 r j) = G r (512 + j.val)) (y : S512x1024.Idx) :
    View.canon (Val := Elt Ideal) (e := .f32) [⟨r0_16, p1⟩, ⟨r0_14, p0⟩] y = G (y 0) (y 1).val := by
  have g : ∀ (p : FVec Ideal S512x512 .f32) (o : ℕ) (ho : o + 512 ≤ 1024) (_ : ∀ r j : Fin 512, p (ix2 r j) = G r (o + j.val)) (inb) (x : S512x512.Idx),
      p x = G ((Rect.unit (s := S512x1024) ![0, o] S512x512.size inb).emb x 0) ((Rect.unit (s := S512x1024) ![0, o] S512x512.size inb).emb x 1).val := by
    intro p o ho h inb x
    obtain ⟨r, j, rfl⟩ : ∃ (r j : Fin 512), x = ix2 r j := ⟨x 0, x 1, eq_ix2 (n0 := 512) (n1 := 512) x⟩
    exact (h r j).trans (congrArg (fun z : S512x1024.Idx => G (z 0) (z 1).val) (emb1024 o inb r j ho).symm)
  refine View.canon_apply_of_pieces (Val := Elt Ideal) (e := .f32) (fun y => G (y 0) (y 1).val) _ ?_ y (cover0_15 p1 p0 y)
  intro pc hp
  simp only [List.mem_cons, List.mem_nil_iff, or_false] at hp
  rcases hp with hp | hp
  · subst hp; exact g p1 512 (by omega) h1 inb_S512x1024_S512x512_0_512
  · subst hp; exact g p0 0 (by omega) h0 inb_S512x1024_S512x512_0_0

theorem one {e : EltTy} (G : Fin 512 → ℕ → Elt Ideal e) (p : Vec Ideal S512x512 e) (h : ∀ r j : Fin 512, p (ix2 r j) = G r j.val) (y : S512x512.Idx) :
    View.canon (Val := Elt Ideal) [⟨r0_9, p⟩] y = G (y 0) (y 1).val := by
  obtain ⟨r, j, rfl⟩ : ∃ (r j : Fin 512), y = ix2 r j := ⟨y 0, y 1, eq_ix2 (n0 := 512) (n1 := 512) y⟩
  rw [View.canon_cons_unit_lit _ _ _ (by decide)]
  exact h r j

/-- The rotated columns, and scaled. -/
theorem rot4 (o : ℕ) (ho : o + 512 ≤ 5120) (inb : colInb o) (y : S512x512.Idx) :
    View.canon (Val := Elt Ideal) (e := .f32) [⟨r0_6, RC x0 x1 x2 x3 x4 o inb 384 slices_S512x512_o0_384_S512x128⟩, ⟨r0_5, RC x0 x1 x2 x3 x4 o inb 256 slices_S512x512_o0_256_S512x128⟩,
      ⟨r0_4, RC x0 x1 x2 x3 x4 o inb 128 slices_S512x512_o0_128_S512x128⟩, ⟨r0_3, RC x0 x1 x2 x3 x4 o inb 0 slices_S512x512_o0_0_S512x128⟩] y = bR x0 x1 x2 x3 x4 o (y 0) (y 1).val :=
  four (e := .f32) (fun r n => bR x0 x1 x2 x3 x4 o r n) (fun q s => RC x0 x1 x2 x3 x4 o inb (q * 128) s) (fun q hq s r j => RC_at x0 x1 x2 x3 x4 o ho inb q hq s r j) y

/-- A piece scaled by a constant, in the narrower format. -/
def SC (b : BitVec 32) (v : FVec Ideal S512x128 .f32) : FVec Ideal S512x128 .bf16 := truncf .bf16 (mulf v (broadcast S512x128 (Scalar.ofBits (F := Ideal) .f32 b))) bitsLt_bf16_f32

theorem scal4 (b : BitVec 32) (o : ℕ) (ho : o + 512 ≤ 5120) (inb : colInb o) (y : S512x512.Idx) :
    View.canon (Val := Elt Ideal) (e := .bf16) [⟨r0_6, SC b (RC x0 x1 x2 x3 x4 o inb 384 slices_S512x512_o0_384_S512x128)⟩, ⟨r0_5, SC b (RC x0 x1 x2 x3 x4 o inb 256 slices_S512x512_o0_256_S512x128)⟩, ⟨r0_4, SC b (RC x0 x1 x2 x3 x4 o inb 128 slices_S512x512_o0_128_S512x128)⟩, ⟨r0_3, SC b (RC x0 x1 x2 x3 x4 o inb 0 slices_S512x512_o0_0_S512x128)⟩] y
      = bR x0 x1 x2 x3 x4 o (y 0) (y 1).val * Ideal.ofBits .f32 b :=
  four (e := .bf16) (fun r n => (bR x0 x1 x2 x3 x4 o r n * Ideal.ofBits .f32 b : EReal)) (fun q s => SC b (RC x0 x1 x2 x3 x4 o inb (q * 128) s))
    (fun q hq s r j => congrArg (fun z : EReal => z * Ideal.ofBits .f32 b) (RC_at x0 x1 x2 x3 x4 o ho inb q hq s r j)) y

theorem cast4 (b : BitVec 32) (hb : Ideal.ofBits .f32 b = 1) (o : ℕ) (ho : o + 512 ≤ 5120) (inb : colInb o) (y : S512x512.Idx) :
    View.canon (Val := Elt Ideal) (e := .bf16) [⟨r0_6, SC b (RC x0 x1 x2 x3 x4 o inb 384 slices_S512x512_o0_384_S512x128)⟩, ⟨r0_5, SC b (RC x0 x1 x2 x3 x4 o inb 256 slices_S512x512_o0_256_S512x128)⟩, ⟨r0_4, SC b (RC x0 x1 x2 x3 x4 o inb 128 slices_S512x512_o0_128_S512x128)⟩, ⟨r0_3, SC b (RC x0 x1 x2 x3 x4 o inb 0 slices_S512x512_o0_0_S512x128)⟩] y
      = bR x0 x1 x2 x3 x4 o (y 0) (y 1).val :=
  (scal4 x0 x1 x2 x3 x4 b o ho inb y).trans (by rw [hb, mul_one])

/-- The gates of 1024 columns. -/
theorem gate2 (o o' : ℕ) (ho : o + 512 ≤ 5120) (ho' : o' + 512 ≤ 5120) (e : o' = o + 512) (inb : colInb o) (inb' : colInb o') (y : S512x1024.Idx) :
    View.canon (Val := Elt Ideal) (e := .f32) [⟨r0_16, logistic (MC x0 x1 o' inb')⟩, ⟨r0_14, logistic (MC x0 x1 o inb)⟩] y = Ideal.logistic (bp x0 x1 (y 0) (o + (y 1).val)) :=
  two (fun r n => Ideal.logistic (bp x0 x1 r (o + n))) _ _
    (fun r j => congrArg Ideal.logistic ((MC_at x0 x1 o ho inb r j).trans (by rw [Nat.zero_add])))
    (fun r j => congrArg Ideal.logistic ((MC_at x0 x1 o' ho' inb' r j).trans (by rw [e, Nat.add_assoc]))) y

theorem o5 (y) : out0_5 (F := Ideal) x0 x1 x2 x3 x4 y = bR x0 x1 x2 x3 x4 512 (y 0) (y 1).val :=
  rot4 x0 x1 x2 x3 x4 512 (by omega) inb_S1024x5120_S1024x512_0_512 y
theorem o6 (y) : out0_6 (F := Ideal) x0 x1 x2 x3 x4 y = bp x0 x1 (y 0) (1024 + (y 1).val) :=
  one (e := .f32) (fun r n => bp x0 x1 r (1024 + n)) (MC x0 x1 1024 inb_S1024x5120_S1024x512_0_1024) (MC_at x0 x1 1024 (by omega) _) y
theorem o7 (y) : out0_7 (F := Ideal) x0 x1 x2 x3 x4 y = bR x0 x1 x2 x3 x4 2048 (y 0) (y 1).val :=
  rot4 x0 x1 x2 x3 x4 2048 (by omega) inb_S1024x5120_S1024x512_0_2048 y
theorem o8 (y) : out0_8 (F := Ideal) x0 x1 x2 x3 x4 y = bp x0 x1 (y 0) (2560 + (y 1).val) :=
  one (e := .f32) (fun r n => bp x0 x1 r (2560 + n)) (MC x0 x1 2560 inb_S1024x5120_S1024x512_0_2560) (MC_at x0 x1 2560 (by omega) _) y
theorem o9 (y) : out0_9 (F := Ideal) x0 x1 x2 x3 x4 y = bR x0 x1 x2 x3 x4 0 (y 0) (y 1).val * Ideal.ofBits .f32 0x3E000000#32 :=
  scal4 x0 x1 x2 x3 x4 0x3E000000#32 0 (by omega) inb_S1024x5120_S1024x512_0_0 y
theorem o10 (y) : out0_10 (F := Ideal) x0 x1 x2 x3 x4 y = bR x0 x1 x2 x3 x4 512 (y 0) (y 1).val :=
  cast4 x0 x1 x2 x3 x4 0x3F800000#32 Cert.ProjT.one_eq 512 (by omega) inb_S1024x5120_S1024x512_0_512 y
theorem o11 (y) : out0_11 (F := Ideal) x0 x1 x2 x3 x4 y = bp x0 x1 (y 0) (1024 + (y 1).val) :=
  one (e := .bf16) (fun r n => bp x0 x1 r (1024 + n)) (truncf .bf16 (MC x0 x1 1024 inb_S1024x5120_S1024x512_0_1024) bitsLt_bf16_f32) (MC_at x0 x1 1024 (by omega) _) y
theorem o12 (y) : out0_12 (F := Ideal) x0 x1 x2 x3 x4 y = bR x0 x1 x2 x3 x4 1536 (y 0) (y 1).val * Ideal.ofBits .f32 0x3E000000#32 :=
  scal4 x0 x1 x2 x3 x4 0x3E000000#32 1536 (by omega) inb_S1024x5120_S1024x512_0_1536 y
theorem o13 (y) : out0_13 (F := Ideal) x0 x1 x2 x3 x4 y = bR x0 x1 x2 x3 x4 2048 (y 0) (y 1).val :=
  cast4 x0 x1 x2 x3 x4 0x3F800000#32 Cert.ProjT.one_eq 2048 (by omega) inb_S1024x5120_S1024x512_0_2048 y
theorem o14 (y) : out0_14 (F := Ideal) x0 x1 x2 x3 x4 y = bp x0 x1 (y 0) (2560 + (y 1).val) :=
  one (e := .bf16) (fun r n => bp x0 x1 r (2560 + n)) (truncf .bf16 (MC x0 x1 2560 inb_S1024x5120_S1024x512_0_2560) bitsLt_bf16_f32) (MC_at x0 x1 2560 (by omega) _) y
theorem o15 (y) : out0_15 (F := Ideal) x0 x1 x2 x3 x4 y = Ideal.logistic (bp x0 x1 (y 0) (3072 + (y 1).val)) :=
  gate2 x0 x1 3072 3584 (by omega) (by omega) rfl inb_S1024x5120_S1024x512_0_3072 inb_S1024x5120_S1024x512_0_3584 y
theorem o16 (y) : out0_16 (F := Ideal) x0 x1 x2 x3 x4 y = Ideal.logistic (bp x0 x1 (y 0) (4096 + (y 1).val)) :=
  gate2 x0 x1 4096 4608 (by omega) (by omega) rfl inb_S1024x5120_S1024x512_0_4096 inb_S1024x5120_S1024x512_0_4608 y

end Cert.ProjS

end
-- ==== Proof.ProjS.Arr.lean ====
/-
  The input windows of the grid point by row and column, and the output arrays after the run.
-/
module

public import proofs.«01_k».proof.Proof.ProjS.Tab
public import proofs.«01_k».proof.Proof.ProjS.Out

@[expose] public section

set_option maxRecDepth 16384

noncomputable section

namespace Cert.ProjS

open Cert.Kernel3Ideal Cert.Kernel3Ideal.Gen
open Cert.ProjT (col bp bR lane rope_tab cosA sinA fr PX)
open Idealize.ShloMosaic Idealize.ShloMosaic.TcCoe Idealize.ShloMosaic.Tactic

variable (m : (ℓ : Loc nD τ sig) → Buf (Elt Ideal) ℓ)

/-- The blocks that the grid point takes. -/
theorem idx : ∀ t, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] := by decide +kernel

theorem V63 (c : Dev nD) (R : Fin 512) (k : Fin 1024) : V m c main_v63 (ix2 R k) = m (c, main_arg0) (ix3 (sb R) (sl R) k) := by
  unfold V
  after_reads_at
  rfl

theorem V1 (c : Dev nD) (k : Fin 1024) (e : Fin 5120) : V m c main_v1 (ix2 k e) = m (c, main_arg1) (ix3 0 k e) := by
  unfold V
  after_reads_at

theorem b0 (c : Dev nD) (t : Fin grid0.N) (r : Fin 512) (k : Fin 1024) : iblk m c 0 t (ix2 r k) = m (c, main_arg0) (ix3 (sb r) (sl r) k) := by
  rw [← V63 m c]
  blk_ext [iblk, idx t]

theorem b1 (c : Dev nD) (t : Fin grid0.N) (k : Fin 1024) (e : Fin 5120) : iblk m c 1 t (ix2 k e) = m (c, main_arg1) (ix3 0 k e) := by
  rw [← V1 m c]
  blk_ext [iblk, idx t]

theorem b2 (c : Dev nD) (t : Fin grid0.N) (r : Fin 512) (j : Fin 128) : iblk m c 2 t (ix2 r j) = (if j.val % 64 < 16 then cosA (pos (sl r)) (fr j) else (1 : EReal)) := by
  rw [← V35 m c]
  blk_ext [iblk, idx t]

theorem b3 (c : Dev nD) (t : Fin grid0.N) (r : Fin 512) (j : Fin 128) : iblk m c 3 t (ix2 r j) = (if j.val % 64 < 8 then -(sinA (pos (sl r)) (fr j)) else (0 : EReal)) := by
  rw [← V47 m c]
  blk_ext [iblk, idx t]

theorem b4 (c : Dev nD) (t : Fin grid0.N) (r : Fin 512) (j : Fin 128) : iblk m c 4 t (ix2 r j) = (if 8 ≤ j.val % 64 ∧ j.val % 64 < 16 then sinA (pos (sl r)) (fr j) else (0 : EReal)) := by
  rw [← V62 m c]
  blk_ext [iblk, idx t]

theorem bp_eq (c : Dev nD) (t : Fin grid0.N) (r : Fin 512) (n : ℕ) : bp (iblk m c 0 t) (iblk m c 1 t) r n = PS (m (c, main_arg0)) (m (c, main_arg1)) r n := by
  unfold bp PS PX
  refine Finset.sum_congr rfl fun k _ => ?_
  exact congrArg₂ (HMul.hMul (α := EReal) (β := EReal) (γ := EReal)) (b0 m c t r k) (b1 m c t k (col n))

theorem bR_eq (c : Dev nD) (t : Fin grid0.N) (o : ℕ) (r : Fin 512) (e : ℕ) :
    bR (iblk m c 0 t) (iblk m c 1 t) (iblk m c 2 t) (iblk m c 3 t) (iblk m c 4 t) o r e = atS o (m (c, main_arg0)) (m (c, main_arg1)) r e := by
  unfold bR atS
  rw [bp_eq, bp_eq, bp_eq]
  have h := rope_tab (fun n => PS (m (c, main_arg0)) (m (c, main_arg1)) r (o + n)) (pos (sl r)) (e / 128) (lane e)
  rw [show e / 128 * 128 + (lane e).val = e from Nat.div_add_mod' e 128] at h
  refine Eq.trans ?_ h
  have e0 : e / 128 * 128 + e % 128 = e := Nat.div_add_mod' e 128
  exact congrArg₂ (HAdd.hAdd (α := EReal) (β := EReal) (γ := EReal)) (congrArg₂ (HAdd.hAdd (α := EReal) (β := EReal) (γ := EReal))
    (congrArg₂ (HMul.hMul (α := EReal) (β := EReal) (γ := EReal)) (by rw [e0]) (b2 m c t r (lane e)))
    (congrArg₂ (HMul.hMul (α := EReal) (β := EReal) (γ := EReal)) rfl (b3 m c t r (lane e))))
    (congrArg₂ (HMul.hMul (α := EReal) (β := EReal) (γ := EReal)) rfl (b4 m c t r (lane e)))

theorem arr5 (c : Dev nD) : (dats m 0 c).arrAt 5 cfg0.N = hR .f32 512 (m (c, main_arg0)) (m (c, main_arg1)) := by
  refine (dats m 0 c).arrAt_eq_of_covers 5 _ (by decide +kernel) fun t hf y => ?_
  blk_simp
  rw [after0_5]
  obtain ⟨r, k, rfl⟩ : ∃ (r : Fin 512) (k : Fin 512), y = ix2 r k := ⟨y 0, y 1, eq_ix2 (n0 := 512) (n1 := 512) y⟩
  have e : ((cfg0.win 5).blk t).view.emb (ix2 r k) = ix2 r k := by blk_ext [idx t]
  refine Eq.trans ?_ (congrArg (hR .f32 512 (m (c, main_arg0)) (m (c, main_arg1))) e.symm)
  refine (o5 (iblk m c 0 t) (iblk m c 1 t) (iblk m c 2 t) (iblk m c 3 t) (iblk m c 4 t) (ix2 r k)).trans ?_
  exact bR_eq m c t _ r k.val

theorem arr6 (c : Dev nD) : (dats m 0 c).arrAt 6 cfg0.N = hP .f32 1024 (m (c, main_arg0)) (m (c, main_arg1)) := by
  refine (dats m 0 c).arrAt_eq_of_covers 6 _ (by decide +kernel) fun t hf y => ?_
  blk_simp
  rw [after0_6]
  obtain ⟨r, k, rfl⟩ : ∃ (r : Fin 512) (k : Fin 512), y = ix2 r k := ⟨y 0, y 1, eq_ix2 (n0 := 512) (n1 := 512) y⟩
  have e : ((cfg0.win 6).blk t).view.emb (ix2 r k) = ix2 r k := by blk_ext [idx t]
  refine Eq.trans ?_ (congrArg (hP .f32 1024 (m (c, main_arg0)) (m (c, main_arg1))) e.symm)
  refine (o6 (iblk m c 0 t) (iblk m c 1 t) (iblk m c 2 t) (iblk m c 3 t) (iblk m c 4 t) (ix2 r k)).trans ?_
  exact bp_eq m c t r _

theorem arr7 (c : Dev nD) : (dats m 0 c).arrAt 7 cfg0.N = hR .f32 2048 (m (c, main_arg0)) (m (c, main_arg1)) := by
  refine (dats m 0 c).arrAt_eq_of_covers 7 _ (by decide +kernel) fun t hf y => ?_
  blk_simp
  rw [after0_7]
  obtain ⟨r, k, rfl⟩ : ∃ (r : Fin 512) (k : Fin 512), y = ix2 r k := ⟨y 0, y 1, eq_ix2 (n0 := 512) (n1 := 512) y⟩
  have e : ((cfg0.win 7).blk t).view.emb (ix2 r k) = ix2 r k := by blk_ext [idx t]
  refine Eq.trans ?_ (congrArg (hR .f32 2048 (m (c, main_arg0)) (m (c, main_arg1))) e.symm)
  refine (o7 (iblk m c 0 t) (iblk m c 1 t) (iblk m c 2 t) (iblk m c 3 t) (iblk m c 4 t) (ix2 r k)).trans ?_
  exact bR_eq m c t _ r k.val

theorem arr8 (c : Dev nD) : (dats m 0 c).arrAt 8 cfg0.N = hP .f32 2560 (m (c, main_arg0)) (m (c, main_arg1)) := by
  refine (dats m 0 c).arrAt_eq_of_covers 8 _ (by decide +kernel) fun t hf y => ?_
  blk_simp
  rw [after0_8]
  obtain ⟨r, k, rfl⟩ : ∃ (r : Fin 512) (k : Fin 512), y = ix2 r k := ⟨y 0, y 1, eq_ix2 (n0 := 512) (n1 := 512) y⟩
  have e : ((cfg0.win 8).blk t).view.emb (ix2 r k) = ix2 r k := by blk_ext [idx t]
  refine Eq.trans ?_ (congrArg (hP .f32 2560 (m (c, main_arg0)) (m (c, main_arg1))) e.symm)
  refine (o8 (iblk m c 0 t) (iblk m c 1 t) (iblk m c 2 t) (iblk m c 3 t) (iblk m c 4 t) (ix2 r k)).trans ?_
  exact bp_eq m c t r _

theorem arr9 (c : Dev nD) : (dats m 0 c).arrAt 9 cfg0.N = hS 0 (m (c, main_arg0)) (m (c, main_arg1)) := by
  refine (dats m 0 c).arrAt_eq_of_covers 9 _ (by decide +kernel) fun t hf y => ?_
  blk_simp
  rw [after0_9]
  obtain ⟨r, k, rfl⟩ : ∃ (r : Fin 512) (k : Fin 512), y = ix2 r k := ⟨y 0, y 1, eq_ix2 (n0 := 512) (n1 := 512) y⟩
  have e : ((cfg0.win 9).blk t).view.emb (ix2 r k) = ix2 r k := by blk_ext [idx t]
  refine Eq.trans ?_ (congrArg (hS 0 (m (c, main_arg0)) (m (c, main_arg1))) e.symm)
  refine (o9 (iblk m c 0 t) (iblk m c 1 t) (iblk m c 2 t) (iblk m c 3 t) (iblk m c 4 t) (ix2 r k)).trans ?_
  exact congrArg (fun z : EReal => z * Ideal.ofBits .f32 0x3E000000#32) (bR_eq m c t _ r k.val)

theorem arr10 (c : Dev nD) : (dats m 0 c).arrAt 10 cfg0.N = hR .bf16 512 (m (c, main_arg0)) (m (c, main_arg1)) := by
  refine (dats m 0 c).arrAt_eq_of_covers 10 _ (by decide +kernel) fun t hf y => ?_
  blk_simp
  rw [after0_10]
  obtain ⟨r, k, rfl⟩ : ∃ (r : Fin 512) (k : Fin 512), y = ix2 r k := ⟨y 0, y 1, eq_ix2 (n0 := 512) (n1 := 512) y⟩
  have e : ((cfg0.win 10).blk t).view.emb (ix2 r k) = ix2 r k := by blk_ext [idx t]
  refine Eq.trans ?_ (congrArg (hR .bf16 512 (m (c, main_arg0)) (m (c, main_arg1))) e.symm)
  refine (o10 (iblk m c 0 t) (iblk m c 1 t) (iblk m c 2 t) (iblk m c 3 t) (iblk m c 4 t) (ix2 r k)).trans ?_
  exact bR_eq m c t _ r k.val

theorem arr11 (c : Dev nD) : (dats m 0 c).arrAt 11 cfg0.N = hP .bf16 1024 (m (c, main_arg0)) (m (c, main_arg1)) := by
  refine (dats m 0 c).arrAt_eq_of_covers 11 _ (by decide +kernel) fun t hf y => ?_
  blk_simp
  rw [after0_11]
  obtain ⟨r, k, rfl⟩ : ∃ (r : Fin 512) (k : Fin 512), y = ix2 r k := ⟨y 0, y 1, eq_ix2 (n0 := 512) (n1 := 512) y⟩
  have e : ((cfg0.win 11).blk t).view.emb (ix2 r k) = ix2 r k := by blk_ext [idx t]
  refine Eq.trans ?_ (congrArg (hP .bf16 1024 (m (c, main_arg0)) (m (c, main_arg1))) e.symm)
  refine (o11 (iblk m c 0 t) (iblk m c 1 t) (iblk m c 2 t) (iblk m c 3 t) (iblk m c 4 t) (ix2 r k)).trans ?_
  exact bp_eq m c t r _

theorem arr12 (c : Dev nD) : (dats m 0 c).arrAt 12 cfg0.N = hS 1536 (m (c, main_arg0)) (m (c, main_arg1)) := by
  refine (dats m 0 c).arrAt_eq_of_covers 12 _ (by decide +kernel) fun t hf y => ?_
  blk_simp
  rw [after0_12]
  obtain ⟨r, k, rfl⟩ : ∃ (r : Fin 512) (k : Fin 512), y = ix2 r k := ⟨y 0, y 1, eq_ix2 (n0 := 512) (n1 := 512) y⟩
  have e : ((cfg0.win 12).blk t).view.emb (ix2 r k) = ix2 r k := by blk_ext [idx t]
  refine Eq.trans ?_ (congrArg (hS 1536 (m (c, main_arg0)) (m (c, main_arg1))) e.symm)
  refine (o12 (iblk m c 0 t) (iblk m c 1 t) (iblk m c 2 t) (iblk m c 3 t) (iblk m c 4 t) (ix2 r k)).trans ?_
  exact congrArg (fun z : EReal => z * Ideal.ofBits .f32 0x3E000000#32) (bR_eq m c t _ r k.val)

theorem arr13 (c : Dev nD) : (dats m 0 c).arrAt 13 cfg0.N = hR .bf16 2048 (m (c, main_arg0)) (m (c, main_arg1)) := by
  refine (dats m 0 c).arrAt_eq_of_covers 13 _ (by decide +kernel) fun t hf y => ?_
  blk_simp
  rw [after0_13]
  obtain ⟨r, k, rfl⟩ : ∃ (r : Fin 512) (k : Fin 512), y = ix2 r k := ⟨y 0, y 1, eq_ix2 (n0 := 512) (n1 := 512) y⟩
  have e : ((cfg0.win 13).blk t).view.emb (ix2 r k) = ix2 r k := by blk_ext [idx t]
  refine Eq.trans ?_ (congrArg (hR .bf16 2048 (m (c, main_arg0)) (m (c, main_arg1))) e.symm)
  refine (o13 (iblk m c 0 t) (iblk m c 1 t) (iblk m c 2 t) (iblk m c 3 t) (iblk m c 4 t) (ix2 r k)).trans ?_
  exact bR_eq m c t _ r k.val

theorem arr14 (c : Dev nD) : (dats m 0 c).arrAt 14 cfg0.N = hP .bf16 2560 (m (c, main_arg0)) (m (c, main_arg1)) := by
  refine (dats m 0 c).arrAt_eq_of_covers 14 _ (by decide +kernel) fun t hf y => ?_
  blk_simp
  rw [after0_14]
  obtain ⟨r, k, rfl⟩ : ∃ (r : Fin 512) (k : Fin 512), y = ix2 r k := ⟨y 0, y 1, eq_ix2 (n0 := 512) (n1 := 512) y⟩
  have e : ((cfg0.win 14).blk t).view.emb (ix2 r k) = ix2 r k := by blk_ext [idx t]
  refine Eq.trans ?_ (congrArg (hP .bf16 2560 (m (c, main_arg0)) (m (c, main_arg1))) e.symm)
  refine (o14 (iblk m c 0 t) (iblk m c 1 t) (iblk m c 2 t) (iblk m c 3 t) (iblk m c 4 t) (ix2 r k)).trans ?_
  exact bp_eq m c t r _

theorem arr15 (c : Dev nD) : (dats m 0 c).arrAt 15 cfg0.N = hG 3072 (m (c, main_arg0)) (m (c, main_arg1)) := by
  refine (dats m 0 c).arrAt_eq_of_covers 15 _ (by decide +kernel) fun t hf y => ?_
  blk_simp
  rw [after0_15]
  obtain ⟨r, k, rfl⟩ : ∃ (r : Fin 512) (k : Fin 1024), y = ix2 r k := ⟨y 0, y 1, eq_ix2 (n0 := 512) (n1 := 1024) y⟩
  have e : ((cfg0.win 15).blk t).view.emb (ix2 r k) = ix2 r k := by blk_ext [idx t]
  refine Eq.trans ?_ (congrArg (hG 3072 (m (c, main_arg0)) (m (c, main_arg1))) e.symm)
  refine (o15 (iblk m c 0 t) (iblk m c 1 t) (iblk m c 2 t) (iblk m c 3 t) (iblk m c 4 t) (ix2 r k)).trans ?_
  exact congrArg Ideal.logistic (bp_eq m c t r (3072 + k.val))

theorem arr16 (c : Dev nD) : (dats m 0 c).arrAt 16 cfg0.N = hG 4096 (m (c, main_arg0)) (m (c, main_arg1)) := by
  refine (dats m 0 c).arrAt_eq_of_covers 16 _ (by decide +kernel) fun t hf y => ?_
  blk_simp
  rw [after0_16]
  obtain ⟨r, k, rfl⟩ : ∃ (r : Fin 512) (k : Fin 1024), y = ix2 r k := ⟨y 0, y 1, eq_ix2 (n0 := 512) (n1 := 1024) y⟩
  have e : ((cfg0.win 16).blk t).view.emb (ix2 r k) = ix2 r k := by blk_ext [idx t]
  refine Eq.trans ?_ (congrArg (hG 4096 (m (c, main_arg0)) (m (c, main_arg1))) e.symm)
  refine (o16 (iblk m c 0 t) (iblk m c 1 t) (iblk m c 2 t) (iblk m c 3 t) (iblk m c 4 t) (ix2 r k)).trans ?_
  exact congrArg Ideal.logistic (bp_eq m c t r (4096 + k.val))

end Cert.ProjS

end
-- ==== Proof.ProjS.RefAt.lean ====
/-
  The samples' results of the reference, each read at an index: the projections, the rotation of a head's first sixteen lanes and the
  gates.
-/
module

public import proofs.«01_k».proof.Proof.Gen.Reference3Ideal.Run
public import proofs.«01_k».proof.Proof.ProjS.Common
public import Idealize.ShloMosaic.Lib.Pointwise

@[expose] public section

set_option maxRecDepth 16384

noncomputable section

namespace Cert.ProjQ

open Cert.Reference3Ideal Cert.Reference3Ideal.Gen Cert.Reference3Ideal.Value
open Idealize.ShloMosaic Idealize.ShloMosaic.TcCoe
open Cert.ProjT (ang cosA sinA col col_eq rope PX)
open Cert.ProjS

/-- The rows against the weights. -/
def PJ (x : FVec Ideal S128x4x1024 .f32) (w : FVec Ideal S1x1024x5120 .f32) : FVec Ideal S128x4x5120 .f32 :=
  Host.dotGeneral dot_S128x4x1024_S1024x5120_S128x4x5120_2_0_01_1_n_n none x (shapeCast _ w shapeCasts_S1x1024x5120_S1024x5120)
/-- The positions, the angles, their cosines and their sines. -/
def POS : IVec S4 32 := addi (broadcastInDim S4 ![] bcast_S_S4 (constantI S_ 32 8192#32)) (iotaInDim S4 32 0)
def ANG : FVec Ideal S4x8 .f32 :=
  mulf (broadcastInDim S4x8 ![0, 1] bcast_S4x1_S4x8_0_1 (broadcastInDim S4x1 ![0] bcast_S4_S4x1_0 (sitofp .f32 (POS)))) (broadcastInDim S4x8 ![0, 1] bcast_S1x8_S4x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))
def CS : FVec Ideal S4x1x8 .f32 := broadcastInDim S4x1x8 ![0, 2] bcast_S4x8_S4x1x8_0_2 (Host.cos ANG)
def SN : FVec Ideal S4x1x8 .f32 := broadcastInDim S4x1x8 ![0, 2] bcast_S4x8_S4x1x8_0_2 (Host.sin ANG)
/-- The rotation of the heads. -/
def RP (v : FVec Ideal S128x4x8x64 .f32) : FVec Ideal S128x4x8x64 .f32 :=
  (concatenate S128x4x8x64 3 [⟨S128x4x8x8, ((subf (mulf (extractStridedSlice S128x4x8x8 ![0, 0, 0, 0] v slices_S128x4x8x64_S128x4x8x8_0_0_0_0) (broadcastInDim S128x4x8x8 ![0, 1, 2, 3] bcast_S1x4x1x8_S128x4x8x8_0_1_2_3 (broadcastInDim S1x4x1x8 ![1, 2, 3] bcast_S4x1x8_S1x4x1x8_1_2_3 CS))) (mulf (extractStridedSlice S128x4x8x8 ![0, 0, 0, 8] v slices_S128x4x8x64_S128x4x8x8_0_0_0_8) (broadcastInDim S128x4x8x8 ![0, 1, 2, 3] bcast_S1x4x1x8_S128x4x8x8_0_1_2_3 (broadcastInDim S1x4x1x8 ![1, 2, 3] bcast_S4x1x8_S1x4x1x8_1_2_3 SN)))) : (⟨S128x4x8x8, .f32⟩ : BufTy).Contents (Elt Ideal))⟩, ⟨S128x4x8x8, ((addf (mulf (extractStridedSlice S128x4x8x8 ![0, 0, 0, 8] v slices_S128x4x8x64_S128x4x8x8_0_0_0_8) (broadcastInDim S128x4x8x8 ![0, 1, 2, 3] bcast_S1x4x1x8_S128x4x8x8_0_1_2_3 (broadcastInDim S1x4x1x8 ![1, 2, 3] bcast_S4x1x8_S1x4x1x8_1_2_3 CS))) (mulf (extractStridedSlice S128x4x8x8 ![0, 0, 0, 0] v slices_S128x4x8x64_S128x4x8x8_0_0_0_0) (broadcastInDim S128x4x8x8 ![0, 1, 2, 3] bcast_S1x4x1x8_S128x4x8x8_0_1_2_3 (broadcastInDim S1x4x1x8 ![1, 2, 3] bcast_S4x1x8_S1x4x1x8_1_2_3 SN)))) : (⟨S128x4x8x8, .f32⟩ : BufTy).Contents (Elt Ideal))⟩, ⟨S128x4x8x48, ((extractStridedSlice S128x4x8x48 ![0, 0, 0, 16] v slices_S128x4x8x64_S128x4x8x48_0_0_0_16) : (⟨S128x4x8x48, .f32⟩ : BufTy).Contents (Elt Ideal))⟩] concatenates_S128x4x8x8_S128x4x8x8_S128x4x8x48_S128x4x8x64_d3 : (⟨S128x4x8x64, .f32⟩ : BufTy).Contents (Elt Ideal))

/-- The heads of 512 columns of the projections. -/
def HD (o : ℕ) (h : S128x4x5120.Slices ![0, 0, o] S128x4x512) (p : FVec Ideal S128x4x5120 .f32) : FVec Ideal S128x4x8x64 .f32 :=
  shapeCast _ (extractStridedSlice S128x4x512 ![0, 0, o] p h) shapeCasts_S128x4x512_S128x4x8x64

theorem PJ_at (x w) (b : Fin 128) (l : Fin 4) (e : Fin 5120) : PJ x w (ix3 b l e) = ∑ k : Fin 1024, x (ix3 b l k) * w (ix3 0 k e) := by
  pointwise [PJ]

theorem POS_at (l : Fin 4) : POS (ix1 l) = BitVec.ofNat 32 (pos l) := by
  revert l
  decide +kernel

theorem ANG_at (l : Fin 4) (j : Fin 8) : ANG (ix2 l j) = ang (pos l) j := by
  pointwise [ANG]
  rw [POS_at]
  rfl

theorem CS_at (l : Fin 4) (j : Fin 8) : CS (ix3 l 0 j) = cosA (pos l) j := by
  pointwise [CS]
  rw [ANG_at]
  rfl

theorem SN_at (l : Fin 4) (j : Fin 8) : SN (ix3 l 0 j) = sinA (pos l) j := by
  pointwise [SN]
  rw [ANG_at]
  rfl

theorem HD_at (o : ℕ) (h) (p) (b : Fin 128) (l : Fin 4) (g : Fin 8) (d : Fin 64) (ho : o + 512 ≤ 5120) : HD o h p (ix4 b l g d) = p (ix3 b l ⟨o + (g.val * 64 + d.val), by omega⟩) := by
  pointwise [HD]

theorem RP_at (v) (b : Fin 128) (l : Fin 4) (g : Fin 8) (d : Fin 64) : RP v (ix4 b l g d) =
    if h : d.val < 8 then v (ix4 b l g d) * cosA (pos l) ⟨d.val, h⟩ - v (ix4 b l g ⟨8 + d.val, by omega⟩) * sinA (pos l) ⟨d.val, h⟩
    else if h : d.val < 16 then v (ix4 b l g d) * cosA (pos l) ⟨d.val - 8, by omega⟩ + v (ix4 b l g ⟨d.val - 8, by omega⟩) * sinA (pos l) ⟨d.val - 8, by omega⟩
    else v (ix4 b l g d) := by
  pointwise [RP]
  by_cases h1 : d.val < 8
  · rw [dif_pos h1, dif_pos h1, CS_at, SN_at]
  · rw [dif_neg h1, dif_neg h1]
    by_cases h2 : d.val < 16
    · rw [dif_pos (show d.val - 8 < 8 by omega), dif_pos h2, CS_at, SN_at]
      rw [show (⟨8 + (d.val - 8), by omega⟩ : Fin 64) = d from Fin.ext (by show 8 + (d.val - 8) = d.val; omega)]
    · rw [dif_neg (show ¬ d.val - 8 < 8 by omega), dif_neg h2]
      rw [show (⟨16 + (d.val - 8 - 8), by omega⟩ : Fin 64) = d from Fin.ext (by show 16 + (d.val - 8 - 8) = d.val; omega)]

/-- The rotated heads by row and column. -/
theorem RH_at (o : ℕ) (h) (x w) (ho : o + 512 ≤ 5120) (b : Fin 128) (l : Fin 4) (g : Fin 8) (d : Fin 64) (R : Fin 512) (hb : b = sb R) (hl : l = sl R) :
    RP (HD o h (PJ x w)) (ix4 b l g d) = atS o x w R (g.val * 64 + d.val) := by
  have P : ∀ d' : Fin 64, HD o h (PJ x w) (ix4 b l g d') = PS x w R (o + (g.val * 64 + d'.val)) := by
    intro d'
    rw [HD_at o h _ b l g d' ho, PJ_at, hb, hl, col_eq]
    rfl
  have hm : (g.val * 64 + d.val) % 64 = d.val := by omega
  rw [RP_at]
  unfold atS rope
  simp only [P, hm]
  subst hl
  by_cases h1 : d.val < 8
  · rw [dif_pos h1, dif_pos h1, show o + (g.val * 64 + (8 + d.val)) = o + (g.val * 64 + d.val + 8) from by omega]
  · rw [dif_neg h1, dif_neg h1]
    by_cases h2 : d.val < 16
    · rw [dif_pos h2, dif_pos h2, show o + (g.val * 64 + (d.val - 8)) = o + (g.val * 64 + d.val - 8) from by omega]
    · rw [dif_neg h2, dif_neg h2]

theorem rows_at (o : ℕ) (h) (x w) (ho : o + 512 ≤ 5120) :
    (shapeCast S512x512 (RP (HD o h (PJ x w))) shapeCasts_S128x4x8x64_S512x512 : FVec Ideal S512x512 .f32) = hR .f32 o x w := by
  funext y
  obtain ⟨R, E, rfl⟩ : ∃ (R : Fin 512) (E : Fin 512), y = ix2 R E := ⟨y 0, y 1, eq_ix2 (n0 := 512) (n1 := 512) y⟩
  pointwise
  refine (RH_at o h x w ho _ _ _ _ R rfl rfl).trans ?_
  show atS o x w R (E.val / 64 * 64 + E.val % 64) = atS o x w R E.val
  rw [show E.val / 64 * 64 + E.val % 64 = E.val from by omega]

theorem scaled_at (o : ℕ) (h) (x w) (ho : o + 512 ≤ 5120) :
    (truncf .bf16 (shapeCast S512x512 (mulf (RP (HD o h (PJ x w))) (broadcastInDim S128x4x8x64 ![] bcast_S_S128x4x8x64 (constant S_ .f32 0x3E000000#32))) shapeCasts_S128x4x8x64_S512x512) bitsLt_bf16_f32 : FVec Ideal S512x512 .bf16) = hS o x w := by
  funext y
  obtain ⟨R, E, rfl⟩ : ∃ (R : Fin 512) (E : Fin 512), y = ix2 R E := ⟨y 0, y 1, eq_ix2 (n0 := 512) (n1 := 512) y⟩
  pointwise
  refine congrArg (fun z : EReal => z * Ideal.ofBits .f32 0x3E000000#32) ?_
  refine (RH_at o h x w ho _ _ _ _ R rfl rfl).trans ?_
  show atS o x w R (E.val / 64 * 64 + E.val % 64) = atS o x w R E.val
  rw [show E.val / 64 * 64 + E.val % 64 = E.val from by omega]

theorem cols_at (o : ℕ) (h) (x w) (ho : o + 512 ≤ 5120) :
    (shapeCast S512x512 (extractStridedSlice S128x4x512 ![0, 0, o] (PJ x w) h) shapeCasts_S128x4x512_S512x512 : FVec Ideal S512x512 .f32) = hP .f32 o x w := by
  funext y
  obtain ⟨R, E, rfl⟩ : ∃ (R : Fin 512) (E : Fin 512), y = ix2 R E := ⟨y 0, y 1, eq_ix2 (n0 := 512) (n1 := 512) y⟩
  pointwise
  rw [PJ_at]
  show _ = PS x w R (o + E.val)
  unfold PS PX
  rw [← col_eq (o + E.val) (by omega)]
  rfl

theorem gates_at (o : ℕ) (h) (x w) (ho : o + 1024 ≤ 5120) :
    (Host.divf (broadcastInDim S512x1024 ![] bcast_S_S512x1024 (constant S_ .f32 0x3F800000#32)) (addf (broadcastInDim S512x1024 ![] bcast_S_S512x1024 (constant S_ .f32 0x3F800000#32)) (Host.exp (Host.negf (shapeCast _ (extractStridedSlice S128x4x1024 ![0, 0, o] (PJ x w) h) shapeCasts_S128x4x1024_S512x1024)))) : FVec Ideal S512x1024 .f32) = hG o x w := by
  funext y
  obtain ⟨R, E, rfl⟩ : ∃ (R : Fin 512) (E : Fin 1024), y = ix2 R E := ⟨y 0, y 1, eq_ix2 (n0 := 512) (n1 := 1024) y⟩
  pointwise
  rw [PJ_at]
  show _ = Ideal.logistic (PS x w R (o + E.val))
  unfold PS PX Ideal.logistic
  rw [← col_eq (o + E.val) (by omega)]
  rfl

end Cert.ProjQ

end
-- ==== Proof.ProjS.Run.lean ====
/-
  The samples' projections after the run of the kernel and after the run of the reference.
-/
module

public import proofs.«01_k».proof.Proof.ProjS.Arr
public import proofs.«01_k».proof.Proof.ProjS.RefAt
public import proofs.«01_k».proof.Proof.Gen.Kernel3Ideal.Value

@[expose] public section

set_option maxRecDepth 16384

noncomputable section

namespace Cert.ProjS

open Idealize.ShloMosaic Idealize.ShloMosaic.TcCoe Idealize.SL.Sem

theorem kernel_run (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ fun r => ∀ c : Dev Cert.Kernel3Ideal.nD,
      r.2.mem ((c.tc : Thread Cert.Kernel3Ideal.nD Cert.Kernel3Ideal.τ).loc Cert.Kernel3Ideal.main_v64_0) = hR .f32 512 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_1) = hP .f32 1024 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_2) = hR .f32 2048 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_3) = hP .f32 2560 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_4) = hS 0 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_5) = hR .bf16 512 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_6) = hP .bf16 1024 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_7) = hS 1536 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_8) = hR .bf16 2048 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_9) = hP .bf16 2560 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_10) = hG 3072 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_v64_11) = hG 4096 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1) := by
  refine (θ_run _ _ _).mono (fun r h c => ?_) (Cert.Kernel3Ideal.Value.run_blocks m g)
  obtain ⟨h0, h1, h2, h3, h4, h5, h6, h7, h8, h9, h10, h11, ha⟩ := h c
  exact ⟨h0.trans (arr5 m c), h1.trans (arr6 m c), h2.trans (arr7 m c), h3.trans (arr8 m c), h4.trans (arr9 m c), h5.trans (arr10 m c), h6.trans (arr11 m c), h7.trans (arr12 m c), h8.trans (arr13 m c), h9.trans (arr14 m c), h10.trans (arr15 m c), h11.trans (arr16 m c), ha⟩

theorem reference_run (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ fun r => ∀ c : Dev Cert.Reference3Ideal.nD,
      r.2.mem ((c.tc : Thread Cert.Reference3Ideal.nD Cert.Reference3Ideal.τ).loc Cert.Reference3Ideal.main_v165) = hR .f32 512 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v166) = hP .f32 1024 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v167) = hR .f32 2048 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v168) = hP .f32 2560 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v170) = hS 0 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v172) = hR .bf16 512 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v174) = hP .bf16 1024 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v176) = hS 1536 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v178) = hR .bf16 2048 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v180) = hP .bf16 2560 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v187) = hG 3072 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_v194) = hG 4096 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1) := by
  refine (θ_run _ _ _).mono (fun r h c => ?_) (Cert.Reference3Ideal.Value.run m g)
  obtain ⟨h0, h1, h2, h3, h4, h5, h6, h7, h8, h9, h10, h11, ha⟩ := h c
  refine ⟨?_, ?_, ?_, ?_, ?_, ?_, ?_, ?_, ?_, ?_, ?_, ?_, ha⟩
  · refine h0.trans ?_
    exact Cert.ProjQ.rows_at 512 Cert.Reference3Ideal.Gen.slices_S128x4x5120_S128x4x512_0_0_512 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h1.trans ?_
    exact Cert.ProjQ.cols_at 1024 Cert.Reference3Ideal.Gen.slices_S128x4x5120_S128x4x512_0_0_1024 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h2.trans ?_
    exact Cert.ProjQ.rows_at 2048 Cert.Reference3Ideal.Gen.slices_S128x4x5120_S128x4x512_0_0_2048 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h3.trans ?_
    exact Cert.ProjQ.cols_at 2560 Cert.Reference3Ideal.Gen.slices_S128x4x5120_S128x4x512_0_0_2560 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h4.trans ?_
    exact Cert.ProjQ.scaled_at 0 Cert.Reference3Ideal.Gen.slices_S128x4x5120_S128x4x512_0_0_0 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h5.trans ?_
    exact Cert.ProjQ.rows_at 512 Cert.Reference3Ideal.Gen.slices_S128x4x5120_S128x4x512_0_0_512 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h6.trans ?_
    exact Cert.ProjQ.cols_at 1024 Cert.Reference3Ideal.Gen.slices_S128x4x5120_S128x4x512_0_0_1024 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h7.trans ?_
    exact Cert.ProjQ.scaled_at 1536 Cert.Reference3Ideal.Gen.slices_S128x4x5120_S128x4x512_0_0_1536 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h8.trans ?_
    exact Cert.ProjQ.rows_at 2048 Cert.Reference3Ideal.Gen.slices_S128x4x5120_S128x4x512_0_0_2048 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h9.trans ?_
    exact Cert.ProjQ.cols_at 2560 Cert.Reference3Ideal.Gen.slices_S128x4x5120_S128x4x512_0_0_2560 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h10.trans ?_
    exact Cert.ProjQ.gates_at 3072 Cert.Reference3Ideal.Gen.slices_S128x4x5120_S128x4x1024_0_0_3072 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)
  · refine h11.trans ?_
    exact Cert.ProjQ.gates_at 4096 Cert.Reference3Ideal.Gen.slices_S128x4x5120_S128x4x1024_0_0_4096 (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (by omega)

end Cert.ProjS

end
-- ==== Proof.Merge.Common.lean ====
/-
  The merge of the two attentions and the layer norm, of one row, which the two programs meet in.
-/
module

public import proofs.«01_k».proof.Proof.Proj.Common

@[expose] public section

noncomputable section

namespace Cert.Merge

open Cert.ProjT (rb rl)
open Idealize.ShloMosaic Idealize.ShloMosaic.TcCoe

/-- The residual and the mixed attentions of a row. -/
def zed (x : Fin 1024 → EReal) (oa ob : Fin 512 → EReal) (ga gb : Fin 1024 → EReal) (wa wb : Fin 512 → Fin 1024 → EReal)
    (wo : Fin 1024 → Fin 1024 → EReal) (e : Fin 1024) : EReal :=
  Ideal.ofBits .f32 0x3F9837F0#32 * x e + ∑ k : Fin 1024, (ga k * ∑ i : Fin 512, oa i * wa i k + gb k * ∑ i : Fin 512, ob i * wb i k) * wo k e

/-- The mean of a row, and the layer norm of a row. -/
def mean (z : Fin 1024 → EReal) : EReal := Ideal.div (∑ e : Fin 1024, z e) (Ideal.ofBits .f32 0x44800000#32)
def nrm (z g b : Fin 1024 → EReal) (e : Fin 1024) : EReal :=
  (z e - mean z) * Ideal.rsqrt (mean (fun k => (z k - mean z) * (z k - mean z)) + Ideal.ofBits .f32 0x3727C5AC#32) * g e + b e

abbrev X3 := FVec Ideal ⟨3, ![8, 8192, 1024]⟩ .f32
abbrev O3 := FVec Ideal ⟨3, ![8, 8192, 512]⟩ .f32
abbrev W3 := FVec Ideal ⟨3, ![1, 512, 1024]⟩ .f32
abbrev M3 := FVec Ideal ⟨3, ![1, 1024, 1024]⟩ .f32
abbrev G2 := FVec Ideal ⟨2, ![1, 1024]⟩ .f32

/-- The rows before the layer norm, and after it. -/
def zrow (x : X3) (oa ob : O3) (ga gb : X3) (wa wb : W3) (wo : M3) (b : Fin 8) (l : Fin 8192) : Fin 1024 → EReal :=
  zed (fun k => x (ix3 b l k)) (fun i => oa (ix3 b l i)) (fun i => ob (ix3 b l i)) (fun k => ga (ix3 b l k)) (fun k => gb (ix3 b l k))
    (fun i k => wa (ix3 0 i k)) (fun i k => wb (ix3 0 i k)) (fun k e => wo (ix3 0 k e))
def hN (x : X3) (oa ob : O3) (ga gb : X3) (wa wb : W3) (wo : M3) (g b : G2) : FVec Ideal ⟨2, ![65536, 1024]⟩ .f32 := fun y =>
  nrm (zrow x oa ob ga gb wa wb wo (rb (y 0)) (rl (y 0))) (fun e => g (ix2 0 e)) (fun e => b (ix2 0 e)) (y 1)

end Cert.Merge

end
-- ==== Proof.Merge.Ker.lean ====
/-
  What a grid point of the merge leaves in its first output window, and the array after the run.
-/
module

public import proofs.«01_k».proof.Proof.Merge.Common
public import proofs.«01_k».proof.Proof.Gen.Kernel4Ideal.Frame
public import Idealize.ShloMosaic.Lib.Pointwise

@[expose] public section

set_option maxRecDepth 16384

noncomputable section

namespace Cert.Merge

open Cert.Kernel4Ideal Cert.Kernel4Ideal.Gen
open Cert.ProjT (rb rl)
open Idealize.ShloMosaic Idealize.ShloMosaic.TcCoe Idealize.ShloMosaic.Tactic

/-- A load of the whole of a buffer. -/
theorem ld_all {n0 n1 : ℕ} {e : EltTy} (x : Vec Ideal ⟨2, ![n0, n1]⟩ e) (inb) :
    View.ld x (Rect.unit (s := ⟨2, ![n0, n1]⟩) ![0, 0] ![n0, n1] inb) = x := by
  funext y
  show x _ = x _
  congr 1
  funext a
  apply Fin.ext
  match a with
  | ⟨0, _⟩ => show 0 + 1 * (y 0).val = (y 0).val; omega
  | ⟨1, _⟩ => show 0 + 1 * (y 1).val = (y 1).val; omega

theorem pay1_at (oa : Vec Ideal S512x512 .bf16) (wa : Vec Ideal S512x1024 .bf16) (ob : Vec Ideal S512x512 .bf16) (wb : Vec Ideal S512x1024 .bf16)
    (ga gb : Vec Ideal S512x1024 .f32) (wo : Vec Ideal S1024x1024 .bf16) (x : Vec Ideal S512x1024 .f32) (r : Fin 512) (e : Fin 1024) :
    k0_pay1 oa wa ob wb ga gb wo x (ix2 r e) = zed (fun k => x (ix2 r k)) (fun i => oa (ix2 r i)) (fun i => ob (ix2 r i)) (fun k => ga (ix2 r k)) (fun k => gb (ix2 r k))
      (fun i k => wa (ix2 i k)) (fun i k => wb (ix2 i k)) (fun k e => wo (ix2 k e)) e := by
  pointwise [k0_pay1]
  rfl

theorem pay4_at (oa wa ob wb ga gb wo x) (r : Fin 512) :
    k0_pay4 (F := Ideal) oa wa ob wb ga gb wo x (ix2 r 0) = ∑ e : Fin 1024, k0_pay1 (F := Ideal) oa wa ob wb ga gb wo x (ix2 r e) := by
  pointwise [k0_pay4]

theorem pay6_at (z : FVec Ideal S512x1024 .f32) (g b : Vec Ideal S1x1024 .f32) (s : FVec Ideal S512x1 .f32) (hs : ∀ r : Fin 512, s (ix2 r 0) = ∑ e : Fin 1024, z (ix2 r e))
    (r : Fin 512) (e : Fin 1024) :
    k0_pay6 z (k0_pay2 g) (k0_pay3 b) s (k0_pay5 (F := Ideal)) (ix2 r e) = nrm (fun e => z (ix2 r e)) (fun e => g (ix2 0 e)) (fun e => b (ix2 0 e)) e := by
  pointwise [k0_pay6, k0_pay5, k0_pay2, k0_pay3]
  simp only [hs]
  rfl

variable (x0 : Vec Ideal S512x1024 .f32) (x1 x2 : Vec Ideal S512x512 .bf16) (x3 x4 : Vec Ideal S512x1024 .f32) (x5 x6 : Vec Ideal S512x1024 .bf16)
  (x7 : Vec Ideal S1024x1024 .bf16) (x8 x9 : Vec Ideal S1x1024 .f32) (x10 : Vec Ideal S1024x128 .bf16) (x11 : Vec Ideal S1x128 .f32)

theorem emb (y : S512x1024.Idx) : r0_1.idx y = y := by
  funext a
  apply Fin.ext
  match a with
  | ⟨0, _⟩ => show 0 + 1 * (y 0).val = (y 0).val; omega
  | ⟨1, _⟩ => show 0 + 1 * (y 1).val = (y 1).val; omega

/-- The block that a grid point leaves. -/
def hB : Vec Ideal S512x1024 .f32 := fun y =>
    nrm (zed (fun k => x0 (ix2 (y 0) k)) (fun i => x1 (ix2 (y 0) i)) (fun i => x2 (ix2 (y 0) i)) (fun k => x3 (ix2 (y 0) k)) (fun k => x4 (ix2 (y 0) k))
      (fun i k => x5 (ix2 i k)) (fun i k => x6 (ix2 i k)) (fun k e => x7 (ix2 k e))) (fun e => x8 (ix2 0 e)) (fun e => x9 (ix2 0 e)) (y 1)

theorem o12 (y : S512x1024.Idx) : out0_12 x0 x1 x2 x3 x4 x5 x6 x7 x8 x9 x10 x11 y = hB x0 x1 x2 x3 x4 x5 x6 x7 x8 x9 y := by
  unfold_out out0_12
  refine View.canon_apply_of_pieces (hB x0 x1 x2 x3 x4 x5 x6 x7 x8 x9) _ ?_ y (cover0_12 _ y)
  intro pc hpc
  rcases List.mem_cons.mp hpc with rfl | hpc
  · intro y
    obtain ⟨r, e, rfl⟩ : ∃ (r : Fin 512) (e : Fin 1024), y = ix2 r e := ⟨y 0, y 1, eq_ix2 (n0 := 512) (n1 := 1024) y⟩
    refine Eq.trans ?_ (congrArg _ (emb (ix2 r e)).symm)
    refine (pay6_at _ _ _ _ (pay4_at _ _ _ _ _ _ _ _) r e).trans ?_
    simp only [pay1_at]
    have h0 : ∀ x : Vec Ideal S512x1024 .f32, View.ld x r0_1 = x := fun x => ld_all x _
    have h1 : ∀ x : Vec Ideal S512x1024 .bf16, View.ld x r0_1 = x := fun x => ld_all x _
    have h2 : ∀ x : Vec Ideal S512x512 .bf16, View.ld x r0_0 = x := fun x => ld_all x _
    have h3 : ∀ x : Vec Ideal S1024x1024 .bf16, View.ld x r0_2 = x := fun x => ld_all x _
    have h4 : ∀ x : Vec Ideal S1x1024 .f32, View.ld x r0_3 = x := fun x => ld_all x _
    rw [h0 x0, h0 x3, h0 x4, h1 x5, h1 x6, h2 x1, h2 x2, h3 x7, h4 x8, h4 x9]
    rfl
  nomatch hpc

variable (m : (ℓ : Loc nD τ sig) → Buf (Elt Ideal) ℓ)

/-- The blocks that a grid point takes. -/
theorem idx : ∀ t, win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0] ∧ win0_9.index t = ![0, 0]
    ∧ win0_12.index t = ![t.val, 0] := by decide +kernel

theorem ltN (t : Fin grid0.N) : t.val < 128 := t.isLt

/-- The row of the arrays of a row of a grid point's block. -/
def pR (t : Fin grid0.N) (r : Fin 512) : Fin 65536 := ⟨t.val * 512 + r.val, by have := ltN t; omega⟩

theorem V20 (c : Dev nD) (R : Fin 65536) (k : Fin 1024) : V m c main_v20 (ix2 R k) = m (c, main_arg0) (ix3 (rb R) (rl R) k) := by
  unfold V
  after_reads_at
  rfl
theorem V23 (c : Dev nD) (R : Fin 65536) (k : Fin 512) : V m c main_v23 (ix2 R k) = m (c, main_arg1) (ix3 (rb R) (rl R) k) := by
  unfold V
  after_reads_at
  rfl
theorem V24 (c : Dev nD) (R : Fin 65536) (k : Fin 512) : V m c main_v24 (ix2 R k) = m (c, main_arg2) (ix3 (rb R) (rl R) k) := by
  unfold V
  after_reads_at
  rfl
theorem V25 (c : Dev nD) (R : Fin 65536) (k : Fin 1024) : V m c main_v25 (ix2 R k) = m (c, main_arg3) (ix3 (rb R) (rl R) k) := by
  unfold V
  after_reads_at
  rfl
theorem V26 (c : Dev nD) (R : Fin 65536) (k : Fin 1024) : V m c main_v26 (ix2 R k) = m (c, main_arg4) (ix3 (rb R) (rl R) k) := by
  unfold V
  after_reads_at
  rfl
theorem V11 (c : Dev nD) (i : Fin 512) (k : Fin 1024) : V m c main_v11 (ix2 i k) = m (c, main_arg5) (ix3 0 i k) := by
  unfold V
  after_reads_at
theorem V13 (c : Dev nD) (i : Fin 512) (k : Fin 1024) : V m c main_v13 (ix2 i k) = m (c, main_arg6) (ix3 0 i k) := by
  unfold V
  after_reads_at
theorem V15 (c : Dev nD) (i k : Fin 1024) : V m c main_v15 (ix2 i k) = m (c, main_arg7) (ix3 0 i k) := by
  unfold V
  after_reads_at
theorem V17 (c : Dev nD) (k : Fin 1024) : V m c main_v17 (ix2 0 k) = m (c, main_arg8) (ix2 0 k) := by
  unfold V
  after_reads_at
theorem V19 (c : Dev nD) (k : Fin 1024) : V m c main_v19 (ix2 0 k) = m (c, main_arg9) (ix2 0 k) := by
  unfold V
  after_reads_at

theorem b0 (c : Dev nD) (t : Fin grid0.N) (r : Fin 512) (k : Fin 1024) : iblk m c 0 t (ix2 r k) = m (c, main_arg0) (ix3 (rb (pR t r)) (rl (pR t r)) k) := by
  rw [← V20 m c]
  unfold pR
  blk_ext [iblk, idx t]
theorem b1 (c : Dev nD) (t : Fin grid0.N) (r : Fin 512) (k : Fin 512) : iblk m c 1 t (ix2 r k) = m (c, main_arg1) (ix3 (rb (pR t r)) (rl (pR t r)) k) := by
  rw [← V23 m c]
  unfold pR
  blk_ext [iblk, idx t]
theorem b2 (c : Dev nD) (t : Fin grid0.N) (r : Fin 512) (k : Fin 512) : iblk m c 2 t (ix2 r k) = m (c, main_arg2) (ix3 (rb (pR t r)) (rl (pR t r)) k) := by
  rw [← V24 m c]
  unfold pR
  blk_ext [iblk, idx t]
theorem b3 (c : Dev nD) (t : Fin grid0.N) (r : Fin 512) (k : Fin 1024) : iblk m c 3 t (ix2 r k) = m (c, main_arg3) (ix3 (rb (pR t r)) (rl (pR t r)) k) := by
  rw [← V25 m c]
  unfold pR
  blk_ext [iblk, idx t]
theorem b4 (c : Dev nD) (t : Fin grid0.N) (r : Fin 512) (k : Fin 1024) : iblk m c 4 t (ix2 r k) = m (c, main_arg4) (ix3 (rb (pR t r)) (rl (pR t r)) k) := by
  rw [← V26 m c]
  unfold pR
  blk_ext [iblk, idx t]
theorem b5 (c : Dev nD) (t : Fin grid0.N) (i : Fin 512) (k : Fin 1024) : iblk m c 5 t (ix2 i k) = m (c, main_arg5) (ix3 0 i k) := by
  rw [← V11 m c]
  blk_ext [iblk, idx t]
theorem b6 (c : Dev nD) (t : Fin grid0.N) (i : Fin 512) (k : Fin 1024) : iblk m c 6 t (ix2 i k) = m (c, main_arg6) (ix3 0 i k) := by
  rw [← V13 m c]
  blk_ext [iblk, idx t]
theorem b7 (c : Dev nD) (t : Fin grid0.N) (i k : Fin 1024) : iblk m c 7 t (ix2 i k) = m (c, main_arg7) (ix3 0 i k) := by
  rw [← V15 m c]
  blk_ext [iblk, idx t]
theorem b8 (c : Dev nD) (t : Fin grid0.N) (k : Fin 1024) : iblk m c 8 t (ix2 0 k) = m (c, main_arg8) (ix2 0 k) := by
  rw [← V17 m c]
  blk_ext [iblk, idx t]
theorem b9 (c : Dev nD) (t : Fin grid0.N) (k : Fin 1024) : iblk m c 9 t (ix2 0 k) = m (c, main_arg9) (ix2 0 k) := by
  rw [← V19 m c]
  blk_ext [iblk, idx t]

theorem zrow_eq (c : Dev nD) (t : Fin grid0.N) (r : Fin 512) :
    zed (fun k => iblk m c 0 t (ix2 r k)) (fun i => iblk m c 1 t (ix2 r i)) (fun i => iblk m c 2 t (ix2 r i)) (fun k => iblk m c 3 t (ix2 r k)) (fun k => iblk m c 4 t (ix2 r k))
      (fun i k => iblk m c 5 t (ix2 i k)) (fun i k => iblk m c 6 t (ix2 i k)) (fun k e => iblk m c 7 t (ix2 k e))
      = zrow (m (c, main_arg0)) (m (c, main_arg1)) (m (c, main_arg2)) (m (c, main_arg3)) (m (c, main_arg4)) (m (c, main_arg5)) (m (c, main_arg6)) (m (c, main_arg7)) (rb (pR t r)) (rl (pR t r)) := by
  unfold zrow
  simp only [b0 m c t r, b1 m c t r, b2 m c t r, b3 m c t r, b4 m c t r, b5 m c t, b6 m c t, b7 m c t]

theorem arr12 (c : Dev nD) : (dats m 0 c).arrAt 12 cfg0.N = hN (m (c, main_arg0)) (m (c, main_arg1)) (m (c, main_arg2)) (m (c, main_arg3)) (m (c, main_arg4)) (m (c, main_arg5)) (m (c, main_arg6)) (m (c, main_arg7)) (m (c, main_arg8)) (m (c, main_arg9)) := by
  refine (dats m 0 c).arrAt_eq_of_covers 12 _ (by decide +kernel) fun t hf y => ?_
  blk_simp
  rw [after0_12]
  obtain ⟨r, k, rfl⟩ : ∃ (r : Fin 512) (k : Fin 1024), y = ix2 r k := ⟨y 0, y 1, eq_ix2 (n0 := 512) (n1 := 1024) y⟩
  have e : ((cfg0.win 12).blk t).view.emb (ix2 r k) = ix2 (pR t r) k := by
    unfold pR
    blk_ext [idx t]
  refine Eq.trans ?_ (congrArg (hN (m (c, main_arg0)) (m (c, main_arg1)) (m (c, main_arg2)) (m (c, main_arg3)) (m (c, main_arg4)) (m (c, main_arg5)) (m (c, main_arg6)) (m (c, main_arg7)) (m (c, main_arg8)) (m (c, main_arg9))) e.symm)
  refine (o12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k)).trans ?_
  show nrm (zed (fun k => iblk m c 0 t (ix2 r k)) (fun i => iblk m c 1 t (ix2 r i)) (fun i => iblk m c 2 t (ix2 r i)) (fun k => iblk m c 3 t (ix2 r k)) (fun k => iblk m c 4 t (ix2 r k))
      (fun i k => iblk m c 5 t (ix2 i k)) (fun i k => iblk m c 6 t (ix2 i k)) (fun k e => iblk m c 7 t (ix2 k e))) (fun e => iblk m c 8 t (ix2 0 e)) (fun e => iblk m c 9 t (ix2 0 e)) k = _
  rw [zrow_eq m c t r, funext (b8 m c t), funext (b9 m c t)]
  rfl

end Cert.Merge

end
-- ==== Proof.Merge.Ref.lean ====
/-
  The reference's merge, read at an index.
-/
module

public import proofs.«01_k».proof.Proof.Gen.Reference4Ideal.Run
public import proofs.«01_k».proof.Proof.Merge.Common
public import Idealize.ShloMosaic.Lib.Pointwise

@[expose] public section

set_option maxRecDepth 16384

noncomputable section

namespace Cert.MergeR

open Cert.Reference4Ideal Cert.Reference4Ideal.Gen Cert.Reference4Ideal.Value
open Idealize.ShloMosaic Idealize.ShloMosaic.TcCoe
open Cert.Merge

/-- The residual and the mixed attentions. -/
def ZR (x : X3) (oa ob : O3) (ga gb : X3) (wa wb : W3) (wo : M3) : FVec Ideal S8x8192x1024 .f32 :=
  addf (mulf (broadcastInDim S8x8192x1024 ![] bcast_S_S8x8192x1024 (constant S_ .f32 0x3F9837F0#32)) x) (Host.dotGeneral dot_S8x8192x1024_S1024x1024_S8x8192x1024_2_0_01_1_n_n none (addf (mulf ga (Host.dotGeneral dot_S8x8192x512_S512x1024_S8x8192x1024_2_0_01_1_n_n none oa (shapeCast _ wa shapeCasts_S1x512x1024_S512x1024))) (mulf gb (Host.dotGeneral dot_S8x8192x512_S512x1024_S8x8192x1024_2_0_01_1_n_n none ob (shapeCast _ wb shapeCasts_S1x512x1024_S512x1024)))) (shapeCast _ wo shapeCasts_S1x1024x1024_S1024x1024))
/-- The means of the rows, the rows without them, and the layer norm. -/
def MN (z : FVec Ideal S8x8192x1024 .f32) : FVec Ideal S8x8192x1 .f32 :=
  Host.divf (broadcastInDim S8x8192x1 ![0, 1] bcast_S8x8192_S8x8192x1_0_1 (Host.reduceAdd z (constant S_ .f32 0x00000000#32) reducesTo_S8x8192x1024_S8x8192_d2 h_S_)) (broadcastInDim S8x8192x1 ![] bcast_S_S8x8192x1 (constant S_ .f32 0x44800000#32))
def ZC (z : FVec Ideal S8x8192x1024 .f32) : FVec Ideal S8x8192x1024 .f32 :=
  subf z (broadcastInDim S8x8192x1024 ![0, 1, 2] bcast_S8x8192x1_S8x8192x1024_0_1_2 (MN z))
def NR (z : FVec Ideal S8x8192x1024 .f32) (g b : G2) : FVec Ideal S8x8192x1024 .f32 :=
  addf (mulf (mulf (ZC z) (broadcastInDim S8x8192x1024 ![0, 1, 2] bcast_S8x8192x1_S8x8192x1024_0_1_2 (Host.rsqrt (addf (MN (mulf (ZC z) (ZC z))) (broadcastInDim S8x8192x1 ![] bcast_S_S8x8192x1 (constant S_ .f32 0x3727C5AC#32)))))) (broadcastInDim S8x8192x1024 ![0, 1, 2] bcast_S1x1x1024_S8x8192x1024_0_1_2 (broadcastInDim S1x1x1024 ![2] bcast_S1024_S1x1x1024_2 (shapeCast _ g shapeCasts_S1x1024_S1024)))) (broadcastInDim S8x8192x1024 ![0, 1, 2] bcast_S1x1x1024_S8x8192x1024_0_1_2 (broadcastInDim S1x1x1024 ![2] bcast_S1024_S1x1x1024_2 (shapeCast _ b shapeCasts_S1x1024_S1024)))

theorem ZR_at (x oa ob ga gb wa wb wo) (b : Fin 8) (l : Fin 8192) (e : Fin 1024) : ZR x oa ob ga gb wa wb wo (ix3 b l e) = zrow x oa ob ga gb wa wb wo b l e := by
  pointwise [ZR]
  rfl

theorem MN_at (z) (b : Fin 8) (l : Fin 8192) : MN z (ix3 b l 0) = mean (fun e => z (ix3 b l e)) := by
  pointwise [MN]
  rfl

theorem ZC_at (z) (b : Fin 8) (l : Fin 8192) (e : Fin 1024) : ZC z (ix3 b l e) = HSub.hSub (α := EReal) (β := EReal) (γ := EReal) (z (ix3 b l e)) (mean (fun e => z (ix3 b l e))) := by
  pointwise [ZC]
  rw [MN_at]

theorem NR_at (z g b) (i : Fin 8) (l : Fin 8192) (e : Fin 1024) : NR z g b (ix3 i l e) = nrm (fun e => z (ix3 i l e)) (fun e => g (ix2 0 e)) (fun e => b (ix2 0 e)) e := by
  pointwise [NR]
  rw [MN_at, ZC_at]
  have h : (fun e => mulf (ZC z) (ZC z) (ix3 i l e)) = fun k : Fin 1024 => HMul.hMul (α := EReal) (β := EReal) (γ := EReal) (ZC z (ix3 i l k)) (ZC z (ix3 i l k)) := rfl
  rw [h]
  simp only [ZC_at]
  rfl

theorem norm_at (x oa ob ga gb wa wb wo g b) :
    (shapeCast S65536x1024 (NR (ZR x oa ob ga gb wa wb wo) g b) shapeCasts_S8x8192x1024_S65536x1024 : FVec Ideal S65536x1024 .f32) = hN x oa ob ga gb wa wb wo g b := by
  funext y
  obtain ⟨R, E, rfl⟩ : ∃ (R : Fin 65536) (E : Fin 1024), y = ix2 R E := ⟨y 0, y 1, eq_ix2 (n0 := 65536) (n1 := 1024) y⟩
  pointwise
  refine (NR_at _ g b _ _ _).trans ?_
  simp only [ZR_at]
  rfl

end Cert.MergeR

end
-- ==== Proof.Merge.Run.lean ====
/-
  The merge after the run of the kernel and after the run of the reference.
-/
module

public import proofs.«01_k».proof.Proof.Merge.Ker
public import proofs.«01_k».proof.Proof.Merge.Ref
public import proofs.«01_k».proof.Proof.Gen.Kernel4Ideal.Value

@[expose] public section

set_option maxRecDepth 16384

noncomputable section

namespace Cert.Merge

open Idealize.ShloMosaic Idealize.ShloMosaic.TcCoe Idealize.SL.Sem

theorem kernel_run (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ fun r => ∀ c : Dev Cert.Kernel4Ideal.nD,
      r.2.mem ((c.tc : Thread Cert.Kernel4Ideal.nD Cert.Kernel4Ideal.τ).loc Cert.Kernel4Ideal.main_v27_0) = hN (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13) :=
  (θ_run _ _ _).mono (fun r h c => ⟨(h c).1.trans (arr12 m c), (h c).2.2⟩) (Cert.Kernel4Ideal.Value.run_blocks m g)

theorem reference_run (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ fun r => ∀ c : Dev Cert.Reference4Ideal.nD,
      r.2.mem ((c.tc : Thread Cert.Reference4Ideal.nD Cert.Reference4Ideal.τ).loc Cert.Reference4Ideal.main_v36) = hN (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13) := by
  refine (θ_run _ _ _).mono (fun r h c => ⟨(h c).1.trans ?_, (h c).2⟩) (Cert.Reference4Ideal.Value.run m g)
  exact Cert.MergeR.norm_at (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))

end Cert.Merge

end
-- ==== Proof.lean ====
/- The proof of the certificate, for the attention, the projections and the merge: the frames of the printed kernels and of the
   references, the named constant, and the equality of the results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.AttnK.Run
public import proofs.«01_k».proof.Proof.AttnI.Run
public import proofs.«01_k».proof.Proof.AttnV.Eq
public import proofs.«01_k».proof.Proof.AttnV.Real
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Proj.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.ProjS.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Merge.Run
public import Idealize.ShloMosaic.Lib.Quiescent
public import Idealize.ShloMosaic.Lib.Claim
public import Idealize.ShloMosaic.Lib.Pipeline.ValueKit.Geometry
public import Idealize.ShloMosaic.Adequacy
public import Idealize.ShloMosaic.Init

@[expose] public section

noncomputable section

namespace Cert.Proof

open Idealize.ShloMosaic Idealize.SL.Sem Cert.Kernel

theorem kernel_frame : Cert.quiescent_Kernel (hKernel := Cert.Kernel.Gen.facts) := fun m g _ => Cert.AttnK.frame_q m g

theorem ideal_frame : Cert.quiescent_KernelIdeal (hKernelIdeal := Cert.KernelIdeal.Gen.facts) := fun m g _ => Cert.AttnI.frame_q m g

theorem ref_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

theorem masked : Cert.preserves_Kernel_KernelIdeal := IdealRules.named_const.statement Cert.KernelIdeal.κ "masked" .f32 0xF149F2CA#32 ⊥ rfl

/-- The kernel's array of outputs is the reference's, of real values and vectors. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => Cert.ReferenceIdeal.Value.res_main_v70 m' c, ?_, ?_⟩
  · refine (θ_run _ _ _).mono (fun r h c => ⟨?_, h.2 c⟩) (θ_run_and (Cert.AttnI.run_main m g) (Cert.AttnI.args_kept m g))
    obtain ⟨h2, h3⟩ := Cert.AttnP.real Cert.Pre_finite.Gen.facts _ _ _ _ _ (hp c)
    obtain ⟨e0, e1, e2, e3, e4⟩ := ha c
    refine (Pipeline.FramePost.out_eq h.1 c 5).trans ?_
    refine (Cert.AttnE.value m c _ _ _ _ _ rfl rfl rfl rfl rfl h2 h3).trans ?_
    refine Eq.trans ?_ (Cert.AttnR.res_eq m' c).symm
    rw [e0, e1, e2, e3, e4]
  · exact (θ_run _ _ _).mono (fun r h => h) (Cert.ReferenceIdeal.Value.run m' g')

theorem kernel2_frame : Cert.quiescent_Kernel2 (hKernel2 := Cert.Kernel2.Gen.facts) := fun m g _ => Cert.Kernel2.Gen.frame m g

theorem ideal2_frame : Cert.quiescent_Kernel2Ideal (hKernel2Ideal := Cert.Kernel2Ideal.Gen.facts) := fun m g _ => Cert.Kernel2Ideal.Gen.frame m g

theorem ref2_frame : Cert.quiescent_Reference2Ideal (hReference2Ideal := Cert.Reference2Ideal.Gen.facts) := fun m g _ =>
  (θ_run _ _ _).mono (fun r h => ⟨fun c => (h c).2.2.2.2.2.2.2.2.2.2.2.2.2, sem_eq_zero_of_no_sems (by decide) r.2⟩) (Cert.Reference2Ideal.Value.run m g)

theorem kept2 : Cert.preserves_Kernel2_Kernel2Ideal := trivial

/-- The thirteen arrays of the projections are the reference's, whatever the rows and the weights. -/
theorem algebraic2 : Cert.algebraic_Kernel2Ideal_Reference2Ideal (hKernel2Ideal := Cert.Kernel2Ideal.Gen.facts)
    (hReference2Ideal := Cert.Reference2Ideal.Gen.facts) := by
  intro m g m' g' _ ha
  refine ⟨_, _, _, _, _, _, _, _, _, _, _, _, _, Cert.ProjT.kernel_run m g, ?_⟩
  refine (θ_run _ _ _).mono (fun r h c => ?_) (Cert.ProjT.reference_run m' g')
  have hc := h c
  obtain ⟨e0, e1⟩ := ha c
  refine ⟨hc.1.trans ?_, hc.2.1.trans ?_, hc.2.2.1.trans ?_, hc.2.2.2.1.trans ?_, hc.2.2.2.2.1.trans ?_, hc.2.2.2.2.2.1.trans ?_,
    hc.2.2.2.2.2.2.1.trans ?_, hc.2.2.2.2.2.2.2.1.trans ?_, hc.2.2.2.2.2.2.2.2.1.trans ?_, hc.2.2.2.2.2.2.2.2.2.1.trans ?_,
    hc.2.2.2.2.2.2.2.2.2.2.1.trans ?_, hc.2.2.2.2.2.2.2.2.2.2.2.1.trans ?_, hc.2.2.2.2.2.2.2.2.2.2.2.2.1.trans ?_,
    hc.2.2.2.2.2.2.2.2.2.2.2.2.2⟩
  all_goals rw [e0, e1]

theorem kernel3_frame : Cert.quiescent_Kernel3 (hKernel3 := Cert.Kernel3.Gen.facts) := fun m g _ => Cert.Kernel3.Gen.frame m g

theorem ideal3_frame : Cert.quiescent_Kernel3Ideal (hKernel3Ideal := Cert.Kernel3Ideal.Gen.facts) := fun m g _ => Cert.Kernel3Ideal.Gen.frame m g

theorem ref3_frame : Cert.quiescent_Reference3Ideal (hReference3Ideal := Cert.Reference3Ideal.Gen.facts) := fun m g _ =>
  (θ_run _ _ _).mono (fun r h => ⟨fun c => (h c).2.2.2.2.2.2.2.2.2.2.2.2, sem_eq_zero_of_no_sems (by decide) r.2⟩) (Cert.Reference3Ideal.Value.run m g)

theorem kept3 : Cert.preserves_Kernel3_Kernel3Ideal := trivial

/-- The twelve arrays of the samples' projections are the reference's, whatever the rows and the weights. -/
theorem algebraic3 : Cert.algebraic_Kernel3Ideal_Reference3Ideal (hKernel3Ideal := Cert.Kernel3Ideal.Gen.facts)
    (hReference3Ideal := Cert.Reference3Ideal.Gen.facts) := by
  intro m g m' g' _ ha
  refine ⟨_, _, _, _, _, _, _, _, _, _, _, _, Cert.ProjS.kernel_run m g, ?_⟩
  refine (θ_run _ _ _).mono (fun r h c => ?_) (Cert.ProjS.reference_run m' g')
  obtain ⟨h0, h1, h2, h3, h4, h5, h6, h7, h8, h9, h10, h11, hk⟩ := h c
  obtain ⟨e0, e1⟩ := ha c
  refine ⟨h0.trans ?_, h1.trans ?_, h2.trans ?_, h3.trans ?_, h4.trans ?_, h5.trans ?_, h6.trans ?_, h7.trans ?_, h8.trans ?_,
    h9.trans ?_, h10.trans ?_, h11.trans ?_, hk⟩
  all_goals rw [e0, e1]

theorem kernel4_frame : Cert.quiescent_Kernel4 (hKernel4 := Cert.Kernel4.Gen.facts) := fun m g _ => Cert.Kernel4.Gen.frame m g

theorem ideal4_frame : Cert.quiescent_Kernel4Ideal (hKernel4Ideal := Cert.Kernel4Ideal.Gen.facts) := fun m g _ => Cert.Kernel4Ideal.Gen.frame m g

theorem ref4_frame : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

theorem kept4 : Cert.preserves_Kernel4_Kernel4Ideal := trivial

/-- The merged and normalised rows are the reference's, whatever the arguments. -/
theorem algebraic4 : Cert.algebraic_Kernel4Ideal_Reference4Ideal (hKernel4Ideal := Cert.Kernel4Ideal.Gen.facts)
    (hReference4Ideal := Cert.Reference4Ideal.Gen.facts) := by
  intro m g m' g' _ ha
  refine ⟨_, Cert.Merge.kernel_run m g, ?_⟩
  refine (θ_run _ _ _).mono (fun r h c => ?_) (Cert.Merge.reference_run m' g')
  obtain ⟨h0, hk⟩ := h c
  obtain ⟨e0, e1, e2, e3, e4, e5, e6, e7, e8, e9, _⟩ := ha c
  refine ⟨h0.trans ?_, hk⟩
  rw [e0, e1, e2, e3, e4, e5, e6, e7, e8, e9]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Pre_finite.Gen.facts,
  kernel_frame, ideal_frame, fun m g _ => ideal_frame m g trivial, ref_frame, fun m g _ => ref_frame m g trivial,
  kernel2_frame, ideal2_frame, ref2_frame, kernel3_frame, ideal3_frame, ref3_frame,
  kernel4_frame, ideal4_frame, ref4_frame, masked, algebraic, kept2, algebraic2, kept3, algebraic3, kept4, algebraic4⟩

end Cert.Proof

end
